-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "third" .f32 0x3EAAAAAB#32 ((1 / 3 : ℝ) : EReal)
  ∧ IdealRules.named_const.Statement Cert.KernelIdeal.κ "inv_pi" .f32 0x3EA2F983#32 ((4194304 / 13176795 : ℝ) : EReal)
  ∧ IdealRules.named_const.Statement Cert.KernelIdeal.κ "inv_two_pi" .f32 0x3E22F983#32 ((2097152 / 13176795 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x3x4096 : Shape := ⟨3, ![4, 3, 4096]⟩
abbrev S9x9 : Shape := ⟨2, ![9, 9]⟩
abbrev S9 : Shape := ⟨1, ![9]⟩
abbrev S_ : Shape := ⟨0, ![]⟩

class Facts : Prop where
  bcast_S_S4x3x4096 : S_.BroadcastsInDim S4x3x4096 (![] : Fin 0 → Fin S4x3x4096.rank)
  bcast_S_S9x9 : S_.BroadcastsInDim S9x9 (![] : Fin 0 → Fin S9x9.rank)
  bcast_S_S9 : S_.BroadcastsInDim S9 (![] : Fin 0 → Fin S9.rank)

variable [Facts]

def fn_part1 {F : FTy → Type} [FloatOps F] (main_arg6 : FVec F S9 .f32) (main_v2 : IVec S4x3x4096 1) (main_v5 : IVec S9x9 1) (main_v8 : IVec S9 1) (main_v11 : IVec S9 1) (main_v14 : IVec S9x9 1) (main_v17 : IVec S9 1) : IVec S4x3x4096 1 × IVec S9x9 1 × IVec S9 1 × IVec S9 1 × IVec S9x9 1 × IVec S9 1 × IVec S9 1 :=
  let main_v18 : FVec F S9 .f32 := Host.absf main_arg6
  let main_cst_5 : FVec F S_ .f32 := constant S_ .f32 0x7F800000#32
  let main_v19 : FVec F S9 .f32 := broadcastInDim S9 ![] bcast_S_S9 main_cst_5
  let main_v20 : IVec S9 1 := cmpf .olt main_v18 main_v19
  (main_v2, main_v5, main_v8, main_v11, main_v14, main_v17, main_v20)

def fn {F : FTy → Type} [FloatOps F] (main_arg0 : FVec F S4x3x4096 .f32) (main_arg1 : FVec F S9x9 .f32) (main_arg2 : FVec F S9 .f32) (main_arg3 : FVec F S9 .f32) (main_arg4 : FVec F S9x9 .f32) (main_arg5 : FVec F S9 .f32) (main_arg6 : FVec F S9 .f32) (main_arg7 : FVec F S9 .f32) (main_arg8 : FVec F S9x9 .f32) (main_arg9 : FVec F S9 .f32) : IVec S4x3x4096 1 × IVec S9x9 1 × IVec S9 1 × IVec S9 1 × IVec S9x9 1 × IVec S9 1 × IVec S9 1 :=
  let main_v0 : FVec F S4x3x4096 .f32 := Host.absf main_arg0
  let main_cst : FVec F S_ .f32 := constant S_ .f32 0x7F800000#32
  let main_v1 : FVec F S4x3x4096 .f32 := broadcastInDim S4x3x4096 ![] bcast_S_S4x3x4096 main_cst
  let main_v2 : IVec S4x3x4096 1 := cmpf .olt main_v0 main_v1
  let main_v3 : FVec F S9x9 .f32 := Host.absf main_arg1
  let main_cst_0 : FVec F S_ .f32 := constant S_ .f32 0x7F800000#32
  let main_v4 : FVec F S9x9 .f32 := broadcastInDim S9x9 ![] bcast_S_S9x9 main_cst_0
  let main_v5 : IVec S9x9 1 := cmpf .olt main_v3 main_v4
  let main_v6 : FVec F S9 .f32 := Host.absf main_arg2
  let main_cst_1 : FVec F S_ .f32 := constant S_ .f32 0x7F800000#32
  let main_v7 : FVec F S9 .f32 := broadcastInDim S9 ![] bcast_S_S9 main_cst_1
  let main_v8 : IVec S9 1 := cmpf .olt main_v6 main_v7
  let main_v9 : FVec F S9 .f32 := Host.absf main_arg3
  let main_cst_2 : FVec F S_ .f32 := constant S_ .f32 0x7F800000#32
  let main_v10 : FVec F S9 .f32 := broadcastInDim S9 ![] bcast_S_S9 main_cst_2
  let main_v11 : IVec S9 1 := cmpf .olt main_v9 main_v10
  let main_v12 : FVec F S9x9 .f32 := Host.absf main_arg4
  let main_cst_3 : FVec F S_ .f32 := constant S_ .f32 0x7F800000#32
  let main_v13 : FVec F S9x9 .f32 := broadcastInDim S9x9 ![] bcast_S_S9x9 main_cst_3
  let main_v14 : IVec S9x9 1 := cmpf .olt main_v12 main_v13
  let main_v15 : FVec F S9 .f32 := Host.absf main_arg5
  let main_cst_4 : FVec F S_ .f32 := constant S_ .f32 0x7F800000#32
  let main_v16 : FVec F S9 .f32 := broadcastInDim S9 ![] bcast_S_S9 main_cst_4
  let main_v17 : IVec S9 1 := cmpf .olt main_v15 main_v16
  fn_part1 (F := F) main_arg6 main_v2 main_v5 main_v8 main_v11 main_v14 main_v17
-- ==== Kernel.lean ====
abbrev S4x3x4096 : Shape := ⟨3, ![4, 3, 4096]⟩
abbrev S9x9 : Shape := ⟨2, ![9, 9]⟩
abbrev S9 : Shape := ⟨1, ![9]⟩
abbrev S4x4096x3 : Shape := ⟨3, ![4, 4096, 3]⟩
abbrev S4x9x9x4096 : Shape := ⟨4, ![4, 9, 9, 4096]⟩
abbrev S1x9 : Shape := ⟨2, ![1, 9]⟩
abbrev S1x4096x3 : Shape := ⟨3, ![1, 4096, 3]⟩
abbrev S1x3x256 : Shape := ⟨3, ![1, 3, 256]⟩
abbrev S1x9x9x256 : Shape := ⟨4, ![1, 9, 9, 256]⟩
abbrev S4096x256 : Shape := ⟨2, ![4096, 256]⟩
abbrev S4096x3 : Shape := ⟨2, ![4096, 3]⟩
abbrev S3x256 : Shape := ⟨2, ![3, 256]⟩
abbrev S4096 : Shape := ⟨1, ![4096]⟩
abbrev S4096x1 : Shape := ⟨2, ![4096, 1]⟩
abbrev S256 : Shape := ⟨1, ![256]⟩
abbrev S1x256 : Shape := ⟨2, ![1, 256]⟩
abbrev S1024x256 : Shape := ⟨2, ![1024, 256]⟩
abbrev S16x256 : Shape := ⟨2, ![16, 256]⟩
abbrev S1x1024x1 : Shape := ⟨3, ![1, 1024, 1]⟩
abbrev S1024x1 : Shape := ⟨2, ![1024, 1]⟩
abbrev S9x256 : Shape := ⟨2, ![9, 256]⟩
abbrev S8x256 : Shape := ⟨2, ![8, 256]⟩
abbrev S1x9x256 : Shape := ⟨3, ![1, 9, 256]⟩
abbrev S9x9x256 : Shape := ⟨3, ![9, 9, 256]⟩
abbrev S9x2304 : Shape := ⟨2, ![9, 2304]⟩
abbrev S9x1 : Shape := ⟨2, ![9, 1]⟩
abbrev S4x9x4096 : Shape := ⟨3, ![4, 9, 4096]⟩

abbrev nBuf : Space → Nat
  | .hbm => 23
  | .vmem => 35
  | .smem => 0
  | _ => 0

abbrev bufTy : (tb : Table) → Fin (tcTables nBuf tb) → BufTy
  | .hbm, ⟨0, _⟩ => ⟨S4x3x4096, .f32⟩
  | .hbm, ⟨1, _⟩ => ⟨S9x9, .f32⟩
  | .hbm, ⟨2, _⟩ => ⟨S9, .f32⟩
  | .hbm, ⟨3, _⟩ => ⟨S9, .f32⟩
  | .hbm, ⟨4, _⟩ => ⟨S9x9, .f32⟩
  | .hbm, ⟨5, _⟩ => ⟨S9, .f32⟩
  | .hbm, ⟨6, _⟩ => ⟨S9, .f32⟩
  | .hbm, ⟨7, _⟩ => ⟨S9, .f32⟩
  | .hbm, ⟨8, _⟩ => ⟨S9x9, .f32⟩
  | .hbm, ⟨9, _⟩ => ⟨S9, .f32⟩
  | .hbm, ⟨10, _⟩ => ⟨S4x4096x3, .f32⟩
  | .hbm, ⟨11, _⟩ => ⟨S4x9x9x4096, .f32⟩
  | .hbm, ⟨12, _⟩ => ⟨S1x9, .f32⟩
  | .hbm, ⟨13, _⟩ => ⟨S9x9, .f32⟩
  | .hbm, ⟨14, _⟩ => ⟨S1x9, .f32⟩
  | .hbm, ⟨15, _⟩ => ⟨S1x9, .f32⟩
  | .hbm, ⟨16, _⟩ => ⟨S1x9, .f32⟩
  | .hbm, ⟨17, _⟩ => ⟨S1x9, .f32⟩
  | .hbm, ⟨18, _⟩ => ⟨S1x9, .f32⟩
  | .hbm, ⟨19, _⟩ => ⟨S1x9, .f32⟩
  | .hbm, ⟨20, _⟩ => ⟨S1x9, .f32⟩
  | .hbm, ⟨21, _⟩ => ⟨S9x9, .f32⟩
  | .hbm, ⟨22, _⟩ => ⟨S4x9x4096, .f32⟩
  | .local _ .vmem, ⟨0, _⟩ => ⟨S1x4096x3, .f32⟩
  | .local _ .vmem, ⟨1, _⟩ => ⟨S1x4096x3, .f32⟩
  | .local _ .vmem, ⟨2, _⟩ => ⟨S1x3x256, .f32⟩
  | .local _ .vmem, ⟨3, _⟩ => ⟨S1x3x256, .f32⟩
  | .local _ .vmem, ⟨4, _⟩ => ⟨S1x9x9x256, .f32⟩
  | .local _ .vmem, ⟨5, _⟩ => ⟨S1x9x9x256, .f32⟩
  | .local _ .vmem, ⟨6, _⟩ => ⟨S1x9, .f32⟩
  | .local _ .vmem, ⟨7, _⟩ => ⟨S9x9, .f32⟩
  | .local _ .vmem, ⟨8, _⟩ => ⟨S4096x256, .f32⟩
  | .local _ .vmem, ⟨9, _⟩ => ⟨S1x9x9x256, .f32⟩
  | .local _ .vmem, ⟨10, _⟩ => ⟨S1x9x9x256, .f32⟩
  | .local _ .vmem, ⟨11, _⟩ => ⟨S9x9, .f32⟩
  | .local _ .vmem, ⟨12, _⟩ => ⟨S1x9, .f32⟩
  | .local _ .vmem, ⟨13, _⟩ => ⟨S1x9, .f32⟩
  | .local _ .vmem, ⟨14, _⟩ => ⟨S1x9, .f32⟩
  | .local _ .vmem, ⟨15, _⟩ => ⟨S9x9, .f32⟩
  | .local _ .vmem, ⟨16, _⟩ => ⟨S1x9, .f32⟩
  | .local _ .vmem, ⟨17, _⟩ => ⟨S9x9, .f32⟩
  | .local _ .vmem, ⟨18, _⟩ => ⟨S1x9x9x256, .f32⟩
  | .local _ .vmem, ⟨19, _⟩ => ⟨S1x9x9x256, .f32⟩
  | .local _ .vmem, ⟨20, _⟩ => ⟨S9x9, .f32⟩
  | .local _ .vmem, ⟨21, _⟩ => ⟨S1x9, .f32⟩
  | .local _ .vmem, ⟨22, _⟩ => ⟨S1x9, .f32⟩
  | .local _ .vmem, ⟨23, _⟩ => ⟨S9x9, .f32⟩
  | .local _ .vmem, ⟨24, _⟩ => ⟨S1x9, .f32⟩
  | .local _ .vmem, ⟨25, _⟩ => ⟨S1x9, .f32⟩
  | .local _ .vmem, ⟨26, _⟩ => ⟨S1x9, .f32⟩
  | .local _ .vmem, ⟨27, _⟩ => ⟨S9x9, .f32⟩
  | .local _ .vmem, ⟨28, _⟩ => ⟨S1x9, .f32⟩
  | .local _ .vmem, ⟨29, _⟩ => ⟨S1x9, .f32⟩
  | .local _ .vmem, ⟨30, _⟩ => ⟨S9x9, .f32⟩
  | .local _ .vmem, ⟨31, _⟩ => ⟨S1x9, .f32⟩
  | .local _ .vmem, ⟨32, _⟩ => ⟨S9x9, .f32⟩
  | .local _ .vmem, ⟨33, _⟩ => ⟨S1x9x256, .f32⟩
  | .local _ .vmem, ⟨34, _⟩ => ⟨S1x9x256, .f32⟩
  | _, _ => ⟨S4x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg9_0 : Ref sig .tc := ⟨.vmem, 28, rfl⟩
abbrev cc2_stg10_0 : Ref sig .tc := ⟨.vmem, 29, rfl⟩
abbrev cc2_stg11_0 : Ref sig .tc := ⟨.vmem, 30, rfl⟩
abbrev cc2_stg12_0 : Ref sig .tc := ⟨.vmem, 31, rfl⟩
abbrev cc2_stg13_0 : Ref sig .tc := ⟨.vmem, 32, rfl⟩
abbrev cc2_stg14_0 : Ref sig .tc := ⟨.vmem, 33, rfl⟩
abbrev cc2_stg14_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem10_0 : DmaSem sig := 28
abbrev cc2_sem11_0 : DmaSem sig := 29
abbrev cc2_sem12_0 : DmaSem sig := 30
abbrev cc2_sem13_0 : DmaSem sig := 31
abbrev cc2_sem14_0 : DmaSem sig := 32
abbrev cc2_sem14_1 : DmaSem sig := 33

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32 : BitVec 32 := 0#32
  let c10_i32 : BitVec 32 := 10#32
  let v24 : BitVec 32 := Scalar.addi c0_i32 c10_i32
  let c1_i32 : BitVec 32 := 1#32
  ⟨c0_i32, v24, c1_i32⟩
@[reducible] def k0_t2_loop : Scf.Loop 32 :=
  let c0_i32_66 : BitVec 32 := 0#32
  let c4_i32_67 : BitVec 32 := 4#32
  let v463 : BitVec 32 := Scalar.addi c0_i32_66 c4_i32_67
  let c1_i32_68 : BitVec 32 := 1#32
  ⟨c0_i32_66, v463, c1_i32_68⟩
def k0_mult1 (k0_t2 : Fin k0_t2_loop.trips) : BitVec 32 :=
  let c0_i32_66 : BitVec 32 := 0#32
  let c1_i32_68 : BitVec 32 := 1#32
  let arg12 : BitVec 32 := Scf.iv c0_i32_66 c1_i32_68 k0_t2
  let c1024_i32 : BitVec 32 := 1024#32
  let v482 : BitVec 32 := Scalar.muli arg12 c1024_i32
  v482
def k0_off1 (k0_t2 : Fin k0_t2_loop.trips) : Fin 2 → Nat :=
  let c0_i32_66 : BitVec 32 := 0#32
  let c1_i32_68 : BitVec 32 := 1#32
  let arg12 : BitVec 32 := Scf.iv c0_i32_66 c1_i32_68 k0_t2
  let c1024_i32 : BitVec 32 := 1024#32
  let v482 : BitVec 32 := Scalar.muli arg12 c1024_i32
  let v483 : BitVec 32 := v482
  let v484 : Index := Scalar.indexCast v483
  let c0_75 : Index := 0#32
  ![v484.toNat, 0]
@[reducible] def k0_t3_loop : Scf.Loop 32 :=
  let c0_i32_71 : BitVec 32 := 0#32
  let c4_i32_72 : BitVec 32 := 4#32
  let v466 : BitVec 32 := Scalar.addi c0_i32_71 c4_i32_72
  let c1_i32_73 : BitVec 32 := 1#32
  ⟨c0_i32_71, v466, c1_i32_73⟩
def k0_mult2 (k0_t3 : Fin k0_t3_loop.trips) : BitVec 32 :=
  let c0_i32_71 : BitVec 32 := 0#32
  let c1_i32_73 : BitVec 32 := 1#32
  let arg12 : BitVec 32 := Scf.iv c0_i32_71 c1_i32_73 k0_t3
  let c1024_i32 : BitVec 32 := 1024#32
  let v482 : BitVec 32 := Scalar.muli arg12 c1024_i32
  v482
def k0_off2 (k0_t3 : Fin k0_t3_loop.trips) : Fin 2 → Nat :=
  let c0_i32_71 : BitVec 32 := 0#32
  let c1_i32_73 : BitVec 32 := 1#32
  let arg12 : BitVec 32 := Scf.iv c0_i32_71 c1_i32_73 k0_t3
  let c1024_i32 : BitVec 32 := 1024#32
  let v482 : BitVec 32 := Scalar.muli arg12 c1024_i32
  let v483 : BitVec 32 := v482
  let v484 : Index := Scalar.indexCast v483
  let c0_75 : Index := 0#32
  ![v484.toNat, 0]
def k0_off3 (k0_t3 : Fin k0_t3_loop.trips) : Fin 3 → Nat :=
  let c0_76 : Index := 0#32
  let c0_i32_71 : BitVec 32 := 0#32
  let c1_i32_73 : BitVec 32 := 1#32
  let arg12 : BitVec 32 := Scf.iv c0_i32_71 c1_i32_73 k0_t3
  let c1024_i32 : BitVec 32 := 1024#32
  let v482 : BitVec 32 := Scalar.muli arg12 c1024_i32
  let v483 : BitVec 32 := v482
  let v490 : Index := Scalar.indexCast v483
  let c0_77 : Index := 0#32
  ![0, v490.toNat, 0]
def k0_off4 (k0_t3 : Fin k0_t3_loop.trips) : Fin 3 → Nat :=
  let c0_78 : Index := 0#32
  let c0_i32_71 : BitVec 32 := 0#32
  let c1_i32_73 : BitVec 32 := 1#32
  let arg12 : BitVec 32 := Scf.iv c0_i32_71 c1_i32_73 k0_t3
  let c1024_i32 : BitVec 32 := 1024#32
  let v482 : BitVec 32 := Scalar.muli arg12 c1024_i32
  let v483 : BitVec 32 := v482
  let v493 : Index := Scalar.indexCast v483
  let c1 : Index := 1#32
  ![0, v493.toNat, 1]
def k0_off5 (k0_t3 : Fin k0_t3_loop.trips) : Fin 3 → Nat :=
  let c0_79 : Index := 0#32
  let c0_i32_71 : BitVec 32 := 0#32
  let c1_i32_73 : BitVec 32 := 1#32
  let arg12 : BitVec 32 := Scf.iv c0_i32_71 c1_i32_73 k0_t3
  let c1024_i32 : BitVec 32 := 1024#32
  let v482 : BitVec 32 := Scalar.muli arg12 c1024_i32
  let v483 : BitVec 32 := v482
  let v496 : Index := Scalar.indexCast v483
  let c2 : Index := 2#32
  ![0, v496.toNat, 2]
def k0_cond1 (i : grid0.Coords) : BitVec 1 :=
  let arg0 : BitVec 32 := BitVec.ofNat 32 (i 0).val
  let c0_i32_60 : BitVec 32 := 0#32
  let v451 : BitVec 1 := Scalar.cmpi .eq arg0 c0_i32_60
  let arg1 : BitVec 32 := BitVec.ofNat 32 (i 1).val
  let c0_i32_61 : BitVec 32 := 0#32
  let v452 : BitVec 1 := Scalar.cmpi .eq arg1 c0_i32_61
  let v453 : BitVec 1 := Scalar.andi v451 v452
  let v454 : BitVec 32 := Scalar.extui v453
  let c0_i32_62 : BitVec 32 := 0#32
  let v455 : BitVec 1 := Scalar.cmpi .ne v454 c0_i32_62
  v455

def k0_cond2 (i : grid0.Coords) : BitVec 1 :=
  let arg0 : BitVec 32 := BitVec.ofNat 32 (i 0).val
  let c0_i32_63 : BitVec 32 := 0#32
  let v456 : BitVec 1 := Scalar.cmpi .ne arg0 c0_i32_63
  let arg1 : BitVec 32 := BitVec.ofNat 32 (i 1).val
  let c0_i32_64 : BitVec 32 := 0#32
  let v457 : BitVec 1 := Scalar.cmpi .ne arg1 c0_i32_64
  let v458 : BitVec 1 := Scalar.ori v456 v457
  let v459 : BitVec 32 := Scalar.extui v458
  let c0_i32_65 : BitVec 32 := 0#32
  let v460 : BitVec 1 := Scalar.cmpi .ne v459 c0_i32_65
  v460

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x9x9x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S9x9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev grid1 : Pipeline.Grid := ⟨2, ![4, 16], ![false, false]⟩

def k1_cond1 (i : grid1.Coords) : BitVec 1 :=
  let arg0 : BitVec 32 := BitVec.ofNat 32 (i 0).val
  let c0_i32 : BitVec 32 := 0#32
  let v45 : BitVec 1 := Scalar.cmpi .eq arg0 c0_i32
  let arg1 : BitVec 32 := BitVec.ofNat 32 (i 1).val
  let c0_i32_22 : BitVec 32 := 0#32
  let v46 : BitVec 1 := Scalar.cmpi .eq arg1 c0_i32_22
  let v47 : BitVec 1 := Scalar.andi v45 v46
  let v48 : BitVec 32 := Scalar.extui v47
  let c0_i32_23 : BitVec 32 := 0#32
  let v49 : BitVec 1 := Scalar.cmpi .ne v48 c0_i32_23
  v49

def k1_cond2 (i : grid1.Coords) : BitVec 1 :=
  let arg0 : BitVec 32 := BitVec.ofNat 32 (i 0).val
  let c0_i32_24 : BitVec 32 := 0#32
  let v50 : BitVec 1 := Scalar.cmpi .ne arg0 c0_i32_24
  let arg1 : BitVec 32 := BitVec.ofNat 32 (i 1).val
  let c0_i32_25 : BitVec 32 := 0#32
  let v51 : BitVec 1 := Scalar.cmpi .ne arg1 c0_i32_25
  let v52 : BitVec 1 := Scalar.ori v50 v51
  let v53 : BitVec 32 := Scalar.extui v52
  let c0_i32_26 : BitVec 32 := 0#32
  let v54 : BitVec 1 := Scalar.cmpi .ne v53 c0_i32_26
  v54

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x9x9x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S9x9 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x9 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x9 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x9 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S9x9 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x9 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S9x9 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev grid2 : Pipeline.Grid := ⟨2, ![4, 16], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x9x9x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S9x9 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x9 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x9 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S9x9 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x9 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x9 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x9 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S9x9 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x9 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S1x9 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S9x9 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 1 → Memref sig .tc .vmem S1x9 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false, false]

abbrev stage2_13 : Fin 1 → Memref sig .tc .vmem S9x9 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false, false]

abbrev stage2_14 : Fin 2 → Memref sig .tc .vmem S1x9x256 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true, true]
-- ==== KernelIdeal.lean ====
variable {F : FTy → Type} [FloatOps F] [Named F]
def κ : String → Option EReal := fun
  | "inv_pi" => some ((4194304 / 13176795 : ℝ) : EReal)
  | "inv_two_pi" => some ((2097152 / 13176795 : ℝ) : EReal)
  | "third" => some ((1 / 3 : ℝ) : EReal)
  | _ => none
-- ==== ReferenceIdeal.lean ====
abbrev S4x3x4096 : Shape := ⟨3, ![4, 3, 4096]⟩
abbrev S9x9 : Shape := ⟨2, ![9, 9]⟩
abbrev S9 : Shape := ⟨1, ![9]⟩
abbrev S4x4096x3 : Shape := ⟨3, ![4, 4096, 3]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩
abbrev S4x4096x10 : Shape := ⟨3, ![4, 4096, 10]⟩
abbrev S4x4096x10x1 : Shape := ⟨4, ![4, 4096, 10, 1]⟩
abbrev S4x4096x10x3 : Shape := ⟨4, ![4, 4096, 10, 3]⟩
abbrev S4x4096x9x3 : Shape := ⟨4, ![4, 4096, 9, 3]⟩
abbrev S4x4096x1x3 : Shape := ⟨4, ![4, 4096, 1, 3]⟩
abbrev S4x4096x9x1 : Shape := ⟨4, ![4, 4096, 9, 1]⟩
abbrev S4x4096x9 : Shape := ⟨3, ![4, 4096, 9]⟩
abbrev S4x4096x8x3 : Shape := ⟨4, ![4, 4096, 8, 3]⟩
abbrev S4x4096x1x1 : Shape := ⟨4, ![4, 4096, 1, 1]⟩
abbrev S4x4096x9x9 : Shape := ⟨4, ![4, 4096, 9, 9]⟩
abbrev S4x9x9x4096 : Shape := ⟨4, ![4, 9, 9, 4096]⟩
abbrev S4x9x4096x9 : Shape := ⟨4, ![4, 9, 4096, 9]⟩
abbrev S1x9x1x1 : Shape := ⟨4, ![1, 9, 1, 1]⟩
abbrev S4x9x4096 : Shape := ⟨3, ![4, 9, 4096]⟩

abbrev nBuf : Space → Nat
  | .hbm => 314
  | .vmem => 0
  | .smem => 0
  | _ => 0

abbrev hbmTy0_0 (i : Nat) : BufTy := match i % 128 with
  | 0 => ⟨S4x3x4096, .f32⟩
  | 1 => ⟨S9x9, .f32⟩
  | 2 => ⟨S9, .f32⟩
  | 3 => ⟨S9, .f32⟩
  | 4 => ⟨S9x9, .f32⟩
  | 5 => ⟨S9, .f32⟩
  | 6 => ⟨S9, .f32⟩
  | 7 => ⟨S9, .f32⟩
  | 8 => ⟨S9x9, .f32⟩
  | 9 => ⟨S9, .f32⟩
  | 10 => ⟨S4x4096x3, .f32⟩
  | 11 => ⟨S4x4096x3, .f32⟩
  | 12 => ⟨S_, .f32⟩
  | 13 => ⟨S4x4096, .f32⟩
  | 14 => ⟨S4x4096x4096, .f32⟩
  | 15 => ⟨S4x4096x1, .f32⟩
  | 16 => ⟨S4x1x4096, .f32⟩
  | 17 => ⟨S4x4096x4096, .f32⟩
  | 18 => ⟨S4x4096x4096, .f32⟩
  | 19 => ⟨S4x4096x4096, .f32⟩
  | 20 => ⟨S_, .f32⟩
  | 21 => ⟨S4x4096x4096, .f32⟩
  | 22 => ⟨S4x4096x4096, .f32⟩
  | 23 => ⟨S4x4096x4096, .f32⟩
  | 24 => ⟨S4x4096x4096, .f32⟩
  | 25 => ⟨S4x4096x10, .f32⟩
  | 26 => ⟨S4x4096x10, .i32⟩
  | 27 => ⟨S_, .i32⟩
  | 28 => ⟨S4x4096x10, .i32⟩
  | 29 => ⟨S4x4096x10, .i1⟩
  | 30 => ⟨S_, .i32⟩
  | 31 => ⟨S4x4096x10, .i32⟩
  | 32 => ⟨S4x4096x10, .i32⟩
  | 33 => ⟨S4x4096x10, .i32⟩
  | 34 => ⟨S4x4096x10x1, .i32⟩
  | 35 => ⟨S4x4096x10x3, .f32⟩
  | 36 => ⟨S4x4096x9x3, .f32⟩
  | 37 => ⟨S4x4096x1x3, .f32⟩
  | 38 => ⟨S4x4096x9x3, .f32⟩
  | 39 => ⟨S4x4096x9x3, .f32⟩
  | 40 => ⟨S4x4096x9x1, .f32⟩
  | 41 => ⟨S4x4096x9, .f32⟩
  | 42 => ⟨S4x4096x9x1, .f32⟩
  | 43 => ⟨S4x4096x9, .f32⟩
  | 44 => ⟨S4x4096x9, .f32⟩
  | 45 => ⟨S_, .f32⟩
  | 46 => ⟨S4x4096x9, .f32⟩
  | 47 => ⟨S4x4096x9, .f32⟩
  | 48 => ⟨S_, .f32⟩
  | 49 => ⟨S4x4096x9, .f32⟩
  | 50 => ⟨S4x4096x9, .f32⟩
  | 51 => ⟨S4x4096x9, .i32⟩
  | 52 => ⟨S4x4096x9, .f32⟩
  | 53 => ⟨S4x4096x9, .i32⟩
  | 54 => ⟨S4x4096x9x1, .i32⟩
  | 55 => ⟨S_, .i32⟩
  | 56 => ⟨S4x4096x9x1, .i32⟩
  | 57 => ⟨S4x4096x9x1, .i1⟩
  | 58 => ⟨S_, .i32⟩
  | 59 => ⟨S4x4096x9x1, .i32⟩
  | 60 => ⟨S4x4096x9x1, .i32⟩
  | 61 => ⟨S4x4096x9x1, .i32⟩
  | 62 => ⟨S4x4096x9x3, .f32⟩
  | 63 => ⟨S4x4096x8x3, .f32⟩
  | 64 => ⟨S4x4096x1x3, .f32⟩
  | 65 => ⟨S4x4096x9x3, .f32⟩
  | 66 => ⟨S4x4096x9x1, .f32⟩
  | 67 => ⟨S4x4096x9, .f32⟩
  | 68 => ⟨S4x4096x9x1, .f32⟩
  | 69 => ⟨S4x4096x9, .f32⟩
  | 70 => ⟨S4x4096x9x1, .f32⟩
  | 71 => ⟨S4x4096x9, .f32⟩
  | 72 => ⟨S4x4096x9x1, .f32⟩
  | 73 => ⟨S4x4096x9, .f32⟩
  | 74 => ⟨S4x4096x9x1, .f32⟩
  | 75 => ⟨S4x4096x9, .f32⟩
  | 76 => ⟨S4x4096x9x1, .f32⟩
  | 77 => ⟨S4x4096x9, .f32⟩
  | 78 => ⟨S4x4096x9, .f32⟩
  | 79 => ⟨S4x4096x9, .f32⟩
  | 80 => ⟨S4x4096x9, .f32⟩
  | 81 => ⟨S4x4096x9, .f32⟩
  | 82 => ⟨S4x4096x9, .f32⟩
  | 83 => ⟨S4x4096x9, .f32⟩
  | 84 => ⟨S4x4096x9, .f32⟩
  | 85 => ⟨S4x4096x9, .f32⟩
  | 86 => ⟨S4x4096x9, .f32⟩
  | 87 => ⟨S4x4096x9, .f32⟩
  | 88 => ⟨S4x4096x9, .f32⟩
  | 89 => ⟨S4x4096x9, .f32⟩
  | 90 => ⟨S4x4096x9, .f32⟩
  | 91 => ⟨S4x4096x9, .f32⟩
  | 92 => ⟨S4x4096x9, .f32⟩
  | 93 => ⟨S_, .f32⟩
  | 94 => ⟨S4x4096x9, .f32⟩
  | 95 => ⟨S4x4096x9, .i1⟩
  | 96 => ⟨S4x4096x9x1, .f32⟩
  | 97 => ⟨S4x4096x9x1, .f32⟩
  | 98 => ⟨S4x4096x9x1, .f32⟩
  | 99 => ⟨S4x4096x9x3, .f32⟩
  | 100 => ⟨S4x4096x9x1, .f32⟩
  | 101 => ⟨S4x4096x9x3, .f32⟩
  | 102 => ⟨S4x4096x9x3, .f32⟩
  | 103 => ⟨S4x4096x9x1, .i1⟩
  | 104 => ⟨S_, .f32⟩
  | 105 => ⟨S_, .f32⟩
  | 106 => ⟨S4x4096x9x3, .i1⟩
  | 107 => ⟨S4x4096x9x3, .f32⟩
  | 108 => ⟨S4x4096x9x3, .f32⟩
  | 109 => ⟨S4x4096x1x1, .f32⟩
  | 110 => ⟨S4x4096x1, .f32⟩
  | 111 => ⟨S_, .f32⟩
  | 112 => ⟨S4x4096x1, .f32⟩
  | 113 => ⟨S4x4096x1, .i1⟩
  | 114 => ⟨S4x4096x1, .f32⟩
  | 115 => ⟨S_, .f32⟩
  | 116 => ⟨S4x4096x1, .f32⟩
  | 117 => ⟨S4x4096x1, .f32⟩
  | 118 => ⟨S_, .f32⟩
  | 119 => ⟨S4x4096x1, .f32⟩
  | 120 => ⟨S4x4096x1, .f32⟩
  | 121 => ⟨S4x4096x1x1, .f32⟩
  | 122 => ⟨S4x4096x9x3, .f32⟩
  | 123 => ⟨S4x4096x9x3, .f32⟩
  | 124 => ⟨S4x4096x9x3, .f32⟩
  | 125 => ⟨S_, .f32⟩
  | 126 => ⟨S4x4096x9x3, .f32⟩
  | 127 => ⟨S4x4096x9x3, .f32⟩
  | _ => ⟨S4x3x4096, .f32⟩

abbrev hbmTy0_1 (i : Nat) : BufTy := match i % 128 with
  | 0 => ⟨S4x4096x9x3, .f32⟩
  | 1 => ⟨S_, .f32⟩
  | 2 => ⟨S4x4096x9, .f32⟩
  | 3 => ⟨S4x4096x9, .f32⟩
  | 4 => ⟨S_, .f32⟩
  | 5 => ⟨S4x4096x9, .f32⟩
  | 6 => ⟨S4x4096x9, .i1⟩
  | 7 => ⟨S_, .f32⟩
  | 8 => ⟨S_, .f32⟩
  | 9 => ⟨S4x4096x9, .f32⟩
  | 10 => ⟨S4x4096x9, .f32⟩
  | 11 => ⟨S4x4096x9x1, .f32⟩
  | 12 => ⟨S4x4096x9, .f32⟩
  | 13 => ⟨S4x4096x9, .f32⟩
  | 14 => ⟨S_, .f32⟩
  | 15 => ⟨S4x4096x9, .f32⟩
  | 16 => ⟨S4x4096x9, .f32⟩
  | 17 => ⟨S_, .f32⟩
  | 18 => ⟨S4x4096x9, .f32⟩
  | 19 => ⟨S4x4096x9, .f32⟩
  | 20 => ⟨S4x4096x9, .f32⟩
  | 21 => ⟨S_, .f32⟩
  | 22 => ⟨S4x4096x9, .f32⟩
  | 23 => ⟨S4x4096x9, .i1⟩
  | 24 => ⟨S_, .f32⟩
  | 25 => ⟨S_, .f32⟩
  | 26 => ⟨S4x4096x9, .f32⟩
  | 27 => ⟨S4x4096x9, .f32⟩
  | 28 => ⟨S_, .f32⟩
  | 29 => ⟨S4x4096x9, .f32⟩
  | 30 => ⟨S4x4096x9, .f32⟩
  | 31 => ⟨S4x4096x9x1, .f32⟩
  | 32 => ⟨S4x4096x9, .f32⟩
  | 33 => ⟨S4x4096x9x1, .f32⟩
  | 34 => ⟨S4x4096x9, .f32⟩
  | 35 => ⟨S4x4096x9, .f32⟩
  | 36 => ⟨S_, .f32⟩
  | 37 => ⟨S4x4096x9, .f32⟩
  | 38 => ⟨S4x4096x9, .f32⟩
  | 39 => ⟨S_, .f32⟩
  | 40 => ⟨S4x4096x9, .f32⟩
  | 41 => ⟨S4x4096x9, .f32⟩
  | 42 => ⟨S4x4096x9x1, .f32⟩
  | 43 => ⟨S4x4096x9x1, .f32⟩
  | 44 => ⟨S4x4096x9x1, .f32⟩
  | 45 => ⟨S4x4096x9x3, .f32⟩
  | 46 => ⟨S4x4096x9, .i32⟩
  | 47 => ⟨S4x4096x9, .i32⟩
  | 48 => ⟨S4x4096x9, .i32⟩
  | 49 => ⟨S4x4096x9, .i32⟩
  | 50 => ⟨S4x4096x1, .i32⟩
  | 51 => ⟨S4x4096x1x1, .i32⟩
  | 52 => ⟨S_, .i32⟩
  | 53 => ⟨S4x4096x1x1, .i32⟩
  | 54 => ⟨S4x4096x1x1, .i1⟩
  | 55 => ⟨S_, .i32⟩
  | 56 => ⟨S4x4096x1x1, .i32⟩
  | 57 => ⟨S4x4096x1x1, .i32⟩
  | 58 => ⟨S4x4096x1x1, .i32⟩
  | 59 => ⟨S4x4096x1x3, .f32⟩
  | 60 => ⟨S_, .i32⟩
  | 61 => ⟨S4x4096x1x1, .i32⟩
  | 62 => ⟨S4x4096x1x1, .i1⟩
  | 63 => ⟨S_, .i32⟩
  | 64 => ⟨S4x4096x1x1, .i32⟩
  | 65 => ⟨S4x4096x1x1, .i32⟩
  | 66 => ⟨S4x4096x1x1, .i32⟩
  | 67 => ⟨S4x4096x1x3, .f32⟩
  | 68 => ⟨S4x4096x9x1, .i1⟩
  | 69 => ⟨S4x4096x9x3, .i1⟩
  | 70 => ⟨S4x4096x9x3, .f32⟩
  | 71 => ⟨S4x4096x9x3, .f32⟩
  | 72 => ⟨S4x4096x9x1, .i1⟩
  | 73 => ⟨S4x4096x9x3, .i1⟩
  | 74 => ⟨S4x4096x9x3, .f32⟩
  | 75 => ⟨S4x4096x9x3, .f32⟩
  | 76 => ⟨S4x4096x9x9, .f32⟩
  | 77 => ⟨S4x9x9x4096, .f32⟩
  | 78 => ⟨S4x9x4096x9, .f32⟩
  | 79 => ⟨S4x9x9x4096, .f32⟩
  | 80 => ⟨S_, .f32⟩
  | 81 => ⟨S9, .f32⟩
  | 82 => ⟨S1x9x1x1, .f32⟩
  | 83 => ⟨S_, .f32⟩
  | 84 => ⟨S1x9x1x1, .f32⟩
  | 85 => ⟨S1x9x1x1, .f32⟩
  | 86 => ⟨S_, .i32⟩
  | 87 => ⟨S_, .f32⟩
  | 88 => ⟨S9, .f32⟩
  | 89 => ⟨S1x9x1x1, .f32⟩
  | 90 => ⟨S_, .f32⟩
  | 91 => ⟨S1x9x1x1, .f32⟩
  | 92 => ⟨S1x9x1x1, .f32⟩
  | 93 => ⟨S4x9x9x4096, .f32⟩
  | 94 => ⟨S4x9x9x4096, .f32⟩
  | 95 => ⟨S4x9x9x4096, .f32⟩
  | 96 => ⟨S_, .f32⟩
  | 97 => ⟨S_, .f32⟩
  | 98 => ⟨S_, .f32⟩
  | 99 => ⟨S_, .f32⟩
  | 100 => ⟨S9, .f32⟩
  | 101 => ⟨S1x9x1x1, .f32⟩
  | 102 => ⟨S1x9x1x1, .f32⟩
  | 103 => ⟨S1x9x1x1, .f32⟩
  | 104 => ⟨S_, .f32⟩
  | 105 => ⟨S_, .i1⟩
  | 106 => ⟨S_, .f32⟩
  | 107 => ⟨S_, .f32⟩
  | 108 => ⟨S1x9x1x1, .f32⟩
  | 109 => ⟨S1x9x1x1, .f32⟩
  | 110 => ⟨S4x9x9x4096, .f32⟩
  | 111 => ⟨S4x9x9x4096, .f32⟩
  | 112 => ⟨S_, .f32⟩
  | 113 => ⟨S1x9x1x1, .f32⟩
  | 114 => ⟨S1x9x1x1, .f32⟩
  | 115 => ⟨S1x9x1x1, .f32⟩
  | 116 => ⟨S4x9x9x4096, .f32⟩
  | 117 => ⟨S4x9x9x4096, .f32⟩
  | 118 => ⟨S1x9x1x1, .f32⟩
  | 119 => ⟨S4x9x9x4096, .f32⟩
  | 120 => ⟨S4x9x9x4096, .f32⟩
  | 121 => ⟨S1x9x1x1, .f32⟩
  | 122 => ⟨S4x9x9x4096, .f32⟩
  | 123 => ⟨S4x9x9x4096, .f32⟩
  | 124 => ⟨S_, .f32⟩
  | 125 => ⟨S4x9x9x4096, .f32⟩
  | 126 => ⟨S4x9x9x4096, .f32⟩
  | 127 => ⟨S4x9x4096x9, .f32⟩
  | _ => ⟨S4x3x4096, .f32⟩

abbrev hbmTy0_2 (i : Nat) : BufTy := match i % 128 with
  | 0 => ⟨S4x9x9x4096, .f32⟩
  | 1 => ⟨S1x9x1x1, .f32⟩
  | 2 => ⟨S4x9x9x4096, .f32⟩
  | 3 => ⟨S4x9x9x4096, .f32⟩
  | 4 => ⟨S_, .f32⟩
  | 5 => ⟨S9, .f32⟩
  | 6 => ⟨S1x9x1x1, .f32⟩
  | 7 => ⟨S_, .f32⟩
  | 8 => ⟨S1x9x1x1, .f32⟩
  | 9 => ⟨S1x9x1x1, .f32⟩
  | 10 => ⟨S_, .i32⟩
  | 11 => ⟨S_, .f32⟩
  | 12 => ⟨S9, .f32⟩
  | 13 => ⟨S1x9x1x1, .f32⟩
  | 14 => ⟨S_, .f32⟩
  | 15 => ⟨S1x9x1x1, .f32⟩
  | 16 => ⟨S1x9x1x1, .f32⟩
  | 17 => ⟨S4x9x9x4096, .f32⟩
  | 18 => ⟨S4x9x9x4096, .f32⟩
  | 19 => ⟨S4x9x9x4096, .f32⟩
  | 20 => ⟨S_, .f32⟩
  | 21 => ⟨S_, .f32⟩
  | 22 => ⟨S_, .f32⟩
  | 23 => ⟨S_, .f32⟩
  | 24 => ⟨S9, .f32⟩
  | 25 => ⟨S1x9x1x1, .f32⟩
  | 26 => ⟨S1x9x1x1, .f32⟩
  | 27 => ⟨S1x9x1x1, .f32⟩
  | 28 => ⟨S_, .f32⟩
  | 29 => ⟨S_, .i1⟩
  | 30 => ⟨S_, .f32⟩
  | 31 => ⟨S_, .f32⟩
  | 32 => ⟨S1x9x1x1, .f32⟩
  | 33 => ⟨S1x9x1x1, .f32⟩
  | 34 => ⟨S4x9x9x4096, .f32⟩
  | 35 => ⟨S4x9x9x4096, .f32⟩
  | 36 => ⟨S_, .f32⟩
  | 37 => ⟨S1x9x1x1, .f32⟩
  | 38 => ⟨S1x9x1x1, .f32⟩
  | 39 => ⟨S1x9x1x1, .f32⟩
  | 40 => ⟨S4x9x9x4096, .f32⟩
  | 41 => ⟨S4x9x9x4096, .f32⟩
  | 42 => ⟨S1x9x1x1, .f32⟩
  | 43 => ⟨S4x9x9x4096, .f32⟩
  | 44 => ⟨S4x9x9x4096, .f32⟩
  | 45 => ⟨S1x9x1x1, .f32⟩
  | 46 => ⟨S4x9x9x4096, .f32⟩
  | 47 => ⟨S4x9x9x4096, .f32⟩
  | 48 => ⟨S_, .f32⟩
  | 49 => ⟨S4x9x9x4096, .f32⟩
  | 50 => ⟨S4x9x9x4096, .f32⟩
  | 51 => ⟨S4x9x4096x9, .f32⟩
  | 52 => ⟨S4x9x9x4096, .f32⟩
  | 53 => ⟨S1x9x1x1, .f32⟩
  | 54 => ⟨S4x9x9x4096, .f32⟩
  | 55 => ⟨S4x9x9x4096, .f32⟩
  | 56 => ⟨S_, .f32⟩
  | 57 => ⟨S4x9x4096, .f32⟩
  | _ => ⟨S4x3x4096, .f32⟩

abbrev hbmTy (i : Nat) : BufTy := match i / 128 with
  | 0 => hbmTy0_0 i
  | 1 => hbmTy0_1 i
  | 2 => hbmTy0_2 i
  | _ => ⟨S4x3x4096, .f32⟩

abbrev bufTy : (tb : Table) → Fin (tcTables nBuf tb) → BufTy
  | .hbm, ⟨i, _⟩ => hbmTy i
  | _, _ => ⟨S4x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_values : Ref sig .tc := ⟨.hbm, 25, rfl⟩
abbrev main_indices : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34_0 : Ref sig .tc := ⟨.hbm, 52, rfl⟩
abbrev main_v34_1 : Ref sig .tc := ⟨.hbm, 53, rfl⟩
abbrev main_v35 : Ref sig .tc := ⟨.hbm, 54, rfl⟩
abbrev main_call0_c : Ref sig .tc := ⟨.hbm, 55, rfl⟩
abbrev main_call0_v0 : Ref sig .tc := ⟨.hbm, 56, rfl⟩
abbrev main_call0_v1 : Ref sig .tc := ⟨.hbm, 57, rfl⟩
abbrev main_call0_c_0 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_4 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_5 : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_6 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_7 : Ref sig .tc := ⟨.hbm, 115, rfl⟩
abbrev main_v83 : Ref sig .tc := ⟨.hbm, 116, rfl⟩
abbrev main_v84 : Ref sig .tc := ⟨.hbm, 117, rfl⟩
abbrev main_cst_8 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_9 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_10 : Ref sig .tc := ⟨.hbm, 129, rfl⟩
abbrev main_v94 : Ref sig .tc := ⟨.hbm, 130, rfl⟩
abbrev main_v95 : Ref sig .tc := ⟨.hbm, 131, rfl⟩
abbrev main_cst_11 : Ref sig .tc := ⟨.hbm, 132, rfl⟩
abbrev main_v96 : Ref sig .tc := ⟨.hbm, 133, rfl⟩
abbrev main_v97 : Ref sig .tc := ⟨.hbm, 134, rfl⟩
abbrev main_cst_12 : Ref sig .tc := ⟨.hbm, 135, rfl⟩
abbrev main_call2_v0 : Ref sig .tc := ⟨.hbm, 136, rfl⟩
abbrev main_call2_v1 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_13 : Ref sig .tc := ⟨.hbm, 142, rfl⟩
abbrev main_v102 : Ref sig .tc := ⟨.hbm, 143, rfl⟩
abbrev main_v103 : Ref sig .tc := ⟨.hbm, 144, rfl⟩
abbrev main_cst_14 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_15 : Ref sig .tc := ⟨.hbm, 149, rfl⟩
abbrev main_v107 : Ref sig .tc := ⟨.hbm, 150, rfl⟩
abbrev main_v108 : Ref sig .tc := ⟨.hbm, 151, rfl⟩
abbrev main_cst_16 : Ref sig .tc := ⟨.hbm, 152, rfl⟩
abbrev main_call3_v0 : Ref sig .tc := ⟨.hbm, 153, rfl⟩
abbrev main_call3_v1 : Ref sig .tc := ⟨.hbm, 154, rfl⟩
abbrev main_v109 : Ref sig .tc := ⟨.hbm, 155, rfl⟩
abbrev main_cst_17 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_18 : Ref sig .tc := ⟨.hbm, 164, rfl⟩
abbrev main_v117 : Ref sig .tc := ⟨.hbm, 165, rfl⟩
abbrev main_v118 : Ref sig .tc := ⟨.hbm, 166, rfl⟩
abbrev main_cst_19 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127_0 : Ref sig .tc := ⟨.hbm, 176, rfl⟩
abbrev main_v127_1 : Ref sig .tc := ⟨.hbm, 177, rfl⟩
abbrev main_v128 : Ref sig .tc := ⟨.hbm, 178, rfl⟩
abbrev main_v129 : Ref sig .tc := ⟨.hbm, 179, rfl⟩
abbrev main_call4_c : Ref sig .tc := ⟨.hbm, 180, rfl⟩
abbrev main_call4_v0 : Ref sig .tc := ⟨.hbm, 181, rfl⟩
abbrev main_call4_v1 : Ref sig .tc := ⟨.hbm, 182, rfl⟩
abbrev main_call4_c_0 : Ref sig .tc := ⟨.hbm, 183, rfl⟩
abbrev main_call4_v2 : Ref sig .tc := ⟨.hbm, 184, rfl⟩
abbrev main_call4_v3 : Ref sig .tc := ⟨.hbm, 185, rfl⟩
abbrev main_call4_v4 : Ref sig .tc := ⟨.hbm, 186, rfl⟩
abbrev main_v130 : Ref sig .tc := ⟨.hbm, 187, rfl⟩
abbrev main_call5_c : Ref sig .tc := ⟨.hbm, 188, rfl⟩
abbrev main_call5_v0 : Ref sig .tc := ⟨.hbm, 189, rfl⟩
abbrev main_call5_v1 : Ref sig .tc := ⟨.hbm, 190, rfl⟩
abbrev main_call5_c_0 : Ref sig .tc := ⟨.hbm, 191, rfl⟩
abbrev main_call5_v2 : Ref sig .tc := ⟨.hbm, 192, rfl⟩
abbrev main_call5_v3 : Ref sig .tc := ⟨.hbm, 193, rfl⟩
abbrev main_call5_v4 : Ref sig .tc := ⟨.hbm, 194, rfl⟩
abbrev main_v131 : Ref sig .tc := ⟨.hbm, 195, rfl⟩
abbrev main_v132 : Ref sig .tc := ⟨.hbm, 196, rfl⟩
abbrev main_call6_v0 : Ref sig .tc := ⟨.hbm, 197, rfl⟩
abbrev main_call6_v1 : Ref sig .tc := ⟨.hbm, 198, rfl⟩
abbrev main_v133 : Ref sig .tc := ⟨.hbm, 199, rfl⟩
abbrev main_v134 : Ref sig .tc := ⟨.hbm, 200, rfl⟩
abbrev main_call7_v0 : Ref sig .tc := ⟨.hbm, 201, rfl⟩
abbrev main_call7_v1 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_cst_20 : Ref sig .tc := ⟨.hbm, 208, rfl⟩
abbrev main_v140 : Ref sig .tc := ⟨.hbm, 209, rfl⟩
abbrev main_v141 : Ref sig .tc := ⟨.hbm, 210, rfl⟩
abbrev main_cst_21 : Ref sig .tc := ⟨.hbm, 211, rfl⟩
abbrev main_v142 : Ref sig .tc := ⟨.hbm, 212, rfl⟩
abbrev main_v143 : Ref sig .tc := ⟨.hbm, 213, rfl⟩
abbrev main_c_22 : Ref sig .tc := ⟨.hbm, 214, rfl⟩
abbrev main_call8_cst : Ref sig .tc := ⟨.hbm, 215, rfl⟩
abbrev main_call8_v0 : Ref sig .tc := ⟨.hbm, 216, rfl⟩
abbrev main_call8_v1 : Ref sig .tc := ⟨.hbm, 217, rfl⟩
abbrev main_call8_cst_0 : Ref sig .tc := ⟨.hbm, 218, rfl⟩
abbrev main_call8_v2 : Ref sig .tc := ⟨.hbm, 219, rfl⟩
abbrev main_call8_v3 : Ref sig .tc := ⟨.hbm, 220, rfl⟩
abbrev main_call8_v4 : Ref sig .tc := ⟨.hbm, 221, rfl⟩
abbrev main_call8_v5 : Ref sig .tc := ⟨.hbm, 222, rfl⟩
abbrev main_call8_v6 : Ref sig .tc := ⟨.hbm, 223, rfl⟩
abbrev main_call8_v7 : Ref sig .tc := ⟨.hbm, 224, rfl⟩
abbrev main_call8_cst_1 : Ref sig .tc := ⟨.hbm, 225, rfl⟩
abbrev main_call8_v8 : Ref sig .tc := ⟨.hbm, 226, rfl⟩
abbrev main_call8_cst_2 : Ref sig .tc := ⟨.hbm, 227, rfl⟩
abbrev main_call8_v9 : Ref sig .tc := ⟨.hbm, 228, rfl⟩
abbrev main_call8_v10 : Ref sig .tc := ⟨.hbm, 229, rfl⟩
abbrev main_call8_v11 : Ref sig .tc := ⟨.hbm, 230, rfl⟩
abbrev main_call8_v12 : Ref sig .tc := ⟨.hbm, 231, rfl⟩
abbrev main_call8_cst_3 : Ref sig .tc := ⟨.hbm, 232, rfl⟩
abbrev main_call8_v13 : Ref sig .tc := ⟨.hbm, 233, rfl⟩
abbrev main_call8_cst_4 : Ref sig .tc := ⟨.hbm, 234, rfl⟩
abbrev main_call8_call0_v0 : Ref sig .tc := ⟨.hbm, 235, rfl⟩
abbrev main_call8_call0_v1 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_cst_23 : Ref sig .tc := ⟨.hbm, 240, rfl⟩
abbrev main_v147 : Ref sig .tc := ⟨.hbm, 241, rfl⟩
abbrev main_v148 : Ref sig .tc := ⟨.hbm, 242, rfl⟩
abbrev main_v149 : Ref sig .tc := ⟨.hbm, 243, rfl⟩
abbrev main_v150 : Ref sig .tc := ⟨.hbm, 244, rfl⟩
abbrev main_v151 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_cst_24 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_cst_25 : Ref sig .tc := ⟨.hbm, 260, rfl⟩
abbrev main_v165 : Ref sig .tc := ⟨.hbm, 261, rfl⟩
abbrev main_v166 : Ref sig .tc := ⟨.hbm, 262, rfl⟩
abbrev main_cst_26 : Ref sig .tc := ⟨.hbm, 263, rfl⟩
abbrev main_v167 : Ref sig .tc := ⟨.hbm, 264, rfl⟩
abbrev main_v168 : Ref sig .tc := ⟨.hbm, 265, rfl⟩
abbrev main_c_27 : Ref sig .tc := ⟨.hbm, 266, rfl⟩
abbrev main_call9_cst : Ref sig .tc := ⟨.hbm, 267, rfl⟩
abbrev main_call9_v0 : Ref sig .tc := ⟨.hbm, 268, rfl⟩
abbrev main_call9_v1 : Ref sig .tc := ⟨.hbm, 269, rfl⟩
abbrev main_call9_cst_0 : Ref sig .tc := ⟨.hbm, 270, rfl⟩
abbrev main_call9_v2 : Ref sig .tc := ⟨.hbm, 271, rfl⟩
abbrev main_call9_v3 : Ref sig .tc := ⟨.hbm, 272, rfl⟩
abbrev main_call9_v4 : Ref sig .tc := ⟨.hbm, 273, rfl⟩
abbrev main_call9_v5 : Ref sig .tc := ⟨.hbm, 274, rfl⟩
abbrev main_call9_v6 : Ref sig .tc := ⟨.hbm, 275, rfl⟩
abbrev main_call9_v7 : Ref sig .tc := ⟨.hbm, 276, rfl⟩
abbrev main_call9_cst_1 : Ref sig .tc := ⟨.hbm, 277, rfl⟩
abbrev main_call9_v8 : Ref sig .tc := ⟨.hbm, 278, rfl⟩
abbrev main_call9_cst_2 : Ref sig .tc := ⟨.hbm, 279, rfl⟩
abbrev main_call9_v9 : Ref sig .tc := ⟨.hbm, 280, rfl⟩
abbrev main_call9_v10 : Ref sig .tc := ⟨.hbm, 281, rfl⟩
abbrev main_call9_v11 : Ref sig .tc := ⟨.hbm, 282, rfl⟩
abbrev main_call9_v12 : Ref sig .tc := ⟨.hbm, 283, rfl⟩
abbrev main_call9_cst_3 : Ref sig .tc := ⟨.hbm, 284, rfl⟩
abbrev main_call9_v13 : Ref sig .tc := ⟨.hbm, 285, rfl⟩
abbrev main_call9_cst_4 : Ref sig .tc := ⟨.hbm, 286, rfl⟩
abbrev main_call9_call0_v0 : Ref sig .tc := ⟨.hbm, 287, rfl⟩
abbrev main_call9_call0_v1 : Ref sig .tc := ⟨.hbm, 288, rfl⟩
abbrev main_v169 : Ref sig .tc := ⟨.hbm, 289, rfl⟩
abbrev main_v170 : Ref sig .tc := ⟨.hbm, 290, rfl⟩
abbrev main_v171 : Ref sig .tc := ⟨.hbm, 291, rfl⟩
abbrev main_cst_28 : Ref sig .tc := ⟨.hbm, 292, rfl⟩
abbrev main_v172 : Ref sig .tc := ⟨.hbm, 293, rfl⟩
abbrev main_v173 : Ref sig .tc := ⟨.hbm, 294, rfl⟩
abbrev main_v174 : Ref sig .tc := ⟨.hbm, 295, rfl⟩
abbrev main_v175 : Ref sig .tc := ⟨.hbm, 296, rfl⟩
abbrev main_v176 : Ref sig .tc := ⟨.hbm, 297, rfl⟩
abbrev main_v177 : Ref sig .tc := ⟨.hbm, 298, rfl⟩
abbrev main_v178 : Ref sig .tc := ⟨.hbm, 299, rfl⟩
abbrev main_v179 : Ref sig .tc := ⟨.hbm, 300, rfl⟩
abbrev main_v180 : Ref sig .tc := ⟨.hbm, 301, rfl⟩
abbrev main_v181 : Ref sig .tc := ⟨.hbm, 302, rfl⟩
abbrev main_v182 : Ref sig .tc := ⟨.hbm, 303, rfl⟩
abbrev main_cst_29 : Ref sig .tc := ⟨.hbm, 304, rfl⟩
abbrev main_v183 : Ref sig .tc := ⟨.hbm, 305, rfl⟩
abbrev main_v184 : Ref sig .tc := ⟨.hbm, 306, rfl⟩
abbrev main_v185 : Ref sig .tc := ⟨.hbm, 307, rfl⟩
abbrev main_v186 : Ref sig .tc := ⟨.hbm, 308, rfl⟩
abbrev main_v187 : Ref sig .tc := ⟨.hbm, 309, rfl⟩
abbrev main_v188 : Ref sig .tc := ⟨.hbm, 310, rfl⟩
abbrev main_v189 : Ref sig .tc := ⟨.hbm, 311, rfl⟩
abbrev main_cst_30 : Ref sig .tc := ⟨.hbm, 312, rfl⟩
abbrev main_v190 : Ref sig .tc := ⟨.hbm, 313, rfl⟩

abbrev nD : Nat := 1
abbrev τ : Topo := Topo.v7x

variable {F : FTy → Type} [FloatOps F]
-- ==== Proof.Rounds.lean ====
/- The loop of the ten neighbour rounds: what one round does to the three rows of neighbour coordinates and to the
   distance block, and the loop by that recursion. -/
module

public import proofs.«01_k».proof.Proof.Gen.KernelIdeal.Loops

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The three rows of neighbour coordinates that the rounds carry. -/
abbrev Rows (F : FTy → Type) : Type := FVec F S16x256 .f32 × FVec F S16x256 .f32 × FVec F S16x256 .f32

variable (𝒱 : Variants) (c : Dev nD) (bd : Option 𝒱.V) (i : grid0.Coords) (arg2 : Memref sig .tc .vmem S1x4096x3 .f32) (harg2 : arg2.IsWhole) (arg3 : Memref sig .tc .vmem S1x3x256 .f32) (harg3 : arg3.IsWhole) (arg4 : Memref sig .tc .vmem S1x9x9x256 .f32) (harg4 : arg4.IsWhole) (arg5 : Memref sig .tc .vmem S1x9 .f32) (harg5 : arg5.IsWhole)
  (arg6 : Memref sig .tc .vmem S9x9 .f32) (harg6 : arg6.IsWhole) (arg7 : Memref sig .tc .vmem S4096x256 .f32) (harg7 : arg7.IsWhole)
  (v22 : IVec S1024x256 32) (cst_11 : F .f32) (X : BufTy.Contents (Elt F) arg2.view.ty)

/-- What a round holds: the points, read only, and the distance block. -/
abbrev Trip_k0_t1 (f : BufTy.Contents (Elt F) arg7.view.ty) : sProp 𝕄G :=
  iprop((arg2.view.loc (c : Thread nD τ) ↦[arg2.view.set]{fullShare} X) ∗ (arg7.view.loc (c : Thread nD τ) ↦[arg7.view.set]{fullShare} f))

/-- ONE ROUND: its two inner loops by their invariants; its result and the pieces it writes, found by the run. -/
@[irreducible] def trip_k0_t1 (k : Fin k0_t1_loop.trips) :
    Σ' (R : Rows F → BufTy.Contents (Elt F) arg7.view.ty → Rows F), { L : Rows F → BufTy.Contents (Elt F) arg7.view.ty → List (View.Piece (Elt F) S4096x256 .f32) //
      ∀ (E : Set ℕ) (acc : Rows F) (f : BufTy.Contents (Elt F) arg7.view.ty),
      Trip_k0_t1 (F := F) c arg2 arg7 X f
      ⊢ wp frame (wpE (defs₀ (F := F)) 𝒱 (c : Thread nD τ) bd) E (k0_t1_body (F := F) i arg2 harg2 arg3 harg3 arg4 harg4 arg5 harg5 arg6 harg6 arg7 harg7 v22 cst_11 k acc)
          (fun yld => iprop(⌜yld = R acc f⌝ ∗ Trip_k0_t1 (F := F) c arg2 arg7 X (arg7.view.writes (Elt F) f (L acc f)))) } := by
  refine ⟨?_, ?_, fun E acc f => ?run⟩
  case run =>
    unfold k0_t1_body
    iintro ⟨HR_arg2, HW_arg7⟩
    sl_exec
    sl_step
    sl_close

/-- What round `k` makes of the rows and the pieces so far. -/
def st_k0_t1Step (G : BufTy.Contents (Elt F) arg7.view.ty) (k : Fin k0_t1_loop.trips) (s : Rows F × List (View.Piece (Elt F) S4096x256 .f32)) :
    Rows F × List (View.Piece (Elt F) S4096x256 .f32) :=
  ((trip_k0_t1 𝒱 c bd i arg2 harg2 arg3 harg3 arg4 harg4 arg5 harg5 arg6 harg6 arg7 harg7 v22 cst_11 X k).1 s.1 (arg7.view.writes (Elt F) G s.2),
   (trip_k0_t1 𝒱 c bd i arg2 harg2 arg3 harg3 arg4 harg4 arg5 harg5 arg6 harg6 arg7 harg7 v22 cst_11 X k).2.1 s.1 (arg7.view.writes (Elt F) G s.2) ++ s.2)

/-- Before round `k`: the rows, and the pieces written into the distance block that the loop found at `G`. -/
def st_k0_t1 (G : BufTy.Contents (Elt F) arg7.view.ty) (init : Rows F) : ℕ → Rows F × List (View.Piece (Elt F) S4096x256 .f32)
  | 0 => (init, [])
  | k + 1 => if h : k < k0_t1_loop.trips then st_k0_t1Step 𝒱 c bd i arg2 harg2 arg3 harg3 arg4 harg4 arg5 harg5 arg6 harg6 arg7 harg7 v22 cst_11 X G ⟨k, h⟩ (st_k0_t1 G init k) else st_k0_t1 G init k

theorem st_k0_t1_succ (G : BufTy.Contents (Elt F) arg7.view.ty) (init : Rows F) (k : Fin k0_t1_loop.trips) :
    st_k0_t1 𝒱 c bd i arg2 harg2 arg3 harg3 arg4 harg4 arg5 harg5 arg6 harg6 arg7 harg7 v22 cst_11 X G init (k.val + 1) = st_k0_t1Step 𝒱 c bd i arg2 harg2 arg3 harg3 arg4 harg4 arg5 harg5 arg6 harg6 arg7 harg7 v22 cst_11 X G k (st_k0_t1 𝒱 c bd i arg2 harg2 arg3 harg3 arg4 harg4 arg5 harg5 arg6 harg6 arg7 harg7 v22 cst_11 X G init k.val) := by
  rw [st_k0_t1.eq_2]; exact dif_pos k.isLt

/-- The invariant before round `k`: the points unchanged, the distance block and the rows as the recursion has them. -/
abbrev inv_k0_t1 (G : BufTy.Contents (Elt F) arg7.view.ty) (init : Rows F) (k : ℕ) (acc : Rows F) : sProp 𝕄G :=
  iprop((arg2.view.loc (c : Thread nD τ) ↦[arg2.view.set]{fullShare} X)
    ∗ (∃ f, (arg7.view.loc (c : Thread nD τ) ↦[arg7.view.set]{fullShare} f) ∗ ⌜f = arg7.view.writes (Elt F) G (st_k0_t1 (F := F) 𝒱 c bd i arg2 harg2 arg3 harg3 arg4 harg4 arg5 harg5 arg6 harg6 arg7 harg7 v22 cst_11 X G init k).2⌝)
    ∗ ⌜acc = (st_k0_t1 (F := F) 𝒱 c bd i arg2 harg2 arg3 harg3 arg4 harg4 arg5 harg5 arg6 harg6 arg7 harg7 v22 cst_11 X G init k).1⌝)

set_option warn.classDefReducibility false in
/-- The loop of the rounds by its invariant. -/
@[sl_loop] def loopInv_k0_t1 (E : Set ℕ) (G : BufTy.Contents (Elt F) arg7.view.ty) (init : Rows F) :
    LoopInvTy_k0_t1 (F := F) Unit ℕ (UR sig nD τ) ℕ 𝒱 c bd E i arg2 harg2 arg3 harg3 arg4 harg4 arg5 harg5 arg6 harg6 arg7 harg7 v22 cst_11 init where
  inv := inv_k0_t1 (F := F) 𝒱 c bd i arg2 harg2 arg3 harg3 arg4 harg4 arg5 harg5 arg6 harg6 arg7 harg7 v22 cst_11 X G init
  step k acc := by
    iintro ⟨HR_arg2, ⟨%f, HW_arg7, %h_arg7⟩, %h_acc⟩
    subst h_acc
    iapply (wp_wand_r Idealize.ShloMosaic.frame (wpE (defs₀ (F := F)) 𝒱 (c : Thread nD τ) bd) E)
    isplitl [HR_arg2 HW_arg7]
    · iapply ((trip_k0_t1 (F := F) 𝒱 c bd i arg2 harg2 arg3 harg3 arg4 harg4 arg5 harg5 arg6 harg6 arg7 harg7 v22 cst_11 X k).2.2 E (st_k0_t1 (F := F) 𝒱 c bd i arg2 harg2 arg3 harg3 arg4 harg4 arg5 harg5 arg6 harg6 arg7 harg7 v22 cst_11 X G init k).1 f)
      isplitl [HR_arg2]; · iexact HR_arg2
      iexact HW_arg7
    · iintro %yld ⟨%h_res, HR_arg2, HW_arg7⟩
      isplitl [HR_arg2]; · iexact HR_arg2
      simp only [st_k0_t1_succ, st_k0_t1Step]
      isplitl [HW_arg7]
      · iexists _; isplitl [HW_arg7]; · iexact HW_arg7
        ipureintro; rw [h_arg7, ← View.writes_append]
      ipureintro; rw [h_res, h_arg7]

end Cert.KernelIdeal.Gen

end
-- ==== Proof.Cases.lean ====
/- The two cases of the first call's body: the first point stores the sums, each later point adds to them. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the body asks before it stores the sums. -/
abbrev cond0_0 (i : grid0.Coords) : Prop := k0_cond1 i = 1#1
/-- It is so at the first point only. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 1 % 16 := Pipeline.Grid.coords_val t 1 (by decide) rfl
    simp only [cond0_0, k0_cond1, e0, e1]
    word_cmp
   : ∀ t : Fin grid0.N, cond0_0 (grid0.coords t) ↔ t.val % 64 = 0)

/-- What the body asks before it adds to the sums. -/
abbrev cond0_1 (i : grid0.Coords) : Prop := k0_cond2 i = 1#1
/-- It is so at every later point. -/
theorem hcond0_1 : ∀ t : Fin cfg0.N, cond0_1 (grid0.coords t) ↔ 1 ≤ t.val :=
  (fun t => by
    have ht : t.val < 64 := Nat.lt_of_lt_of_eq t.isLt N_0
    have e0 : (grid0.coords t 0).val = t.val / 16 % 4 := Pipeline.Grid.coords_val t 0 (by decide) rfl
    have e1 : (grid0.coords t 1).val = t.val / 1 % 16 := Pipeline.Grid.coords_val t 1 (by decide) rfl
    simp only [cond0_1, k0_cond2, e0, e1]
    word_cmp
   : ∀ t : Fin grid0.N, cond0_1 (grid0.coords t) ↔ 1 ≤ t.val)

/-! ## Which windows are written where -/

/-- The two inputs are read at every point, -/
theorem liveAt0_0 : ∀ t : Fin cfg0.N, cfg0.idle 0 (grid0.coords t) = false := fun _ => rfl
theorem liveAt0_1 : ∀ t : Fin cfg0.N, cfg0.idle 1 (grid0.coords t) = false := fun _ => rfl
/-- and the block of features is written at every point. -/
theorem liveAt0_2 : ∀ t : Fin cfg0.N, cfg0.idle 2 (grid0.coords t) = false := fun _ => rfl
/-- Where the buffer of the sums holds nothing stored yet: before the first point, and after the last one. -/
def freshTab0_3 : ℕ → Bool
  | 0 => true
  | n + 1 => (0x8000000000000000 : ℕ).testBit n
theorem freshTab0_3_step : ∀ t : Fin cfg0.N,
    freshTab0_3 (t.val + 1) = ((cfg0.win 3).flush t || (cfg0.idle 3 (cfg0.grid.coords t) && freshTab0_3 t.val)) := by decide +kernel
theorem fresh0_3_eq (t : Fin cfg0.N) : cfg0.fresh 3 t.val = freshTab0_3 t.val :=
  Pipeline.Cfg.fresh_tab cfg0 3 freshTab0_3 rfl freshTab0_3_step t.val (Nat.le_of_lt t.isLt)
/-- At the first point the sums are stored. -/
theorem liveAt0_3_A : ∀ t : Fin cfg0.N, cond0_0 (grid0.coords t) → ¬cond0_1 (grid0.coords t) → cfg0.idle 3 (grid0.coords t) = false := by decide +kernel
/-- At a later point the sums are stored again. -/
theorem liveAt0_3_B : ∀ t : Fin cfg0.N, ¬cond0_0 (grid0.coords t) → cond0_1 (grid0.coords t) → cfg0.idle 3 (grid0.coords t) = false := by decide +kernel
/-- At a later point the buffer of the sums holds what was stored before. -/
theorem notFresh0_3_B : ∀ t : Fin cfg0.N, ¬cond0_0 (grid0.coords t) → cond0_1 (grid0.coords t) → cfg0.fresh 3 t.val = false := by
  intro t; rw [fresh0_3_eq t]; revert t; decide +kernel
/-- Where the buffer of the sums of the products holds nothing stored yet: before the first point, and after the last one. -/
def freshTab0_4 : ℕ → Bool
  | 0 => true
  | n + 1 => (0x8000000000000000 : ℕ).testBit n
theorem freshTab0_4_step : ∀ t : Fin cfg0.N,
    freshTab0_4 (t.val + 1) = ((cfg0.win 4).flush t || (cfg0.idle 4 (cfg0.grid.coords t) && freshTab0_4 t.val)) := by decide +kernel
theorem fresh0_4_eq (t : Fin cfg0.N) : cfg0.fresh 4 t.val = freshTab0_4 t.val :=
  Pipeline.Cfg.fresh_tab cfg0 4 freshTab0_4 rfl freshTab0_4_step t.val (Nat.le_of_lt t.isLt)
/-- At the first point the sums of the products are stored. -/
theorem liveAt0_4_A : ∀ t : Fin cfg0.N, cond0_0 (grid0.coords t) → ¬cond0_1 (grid0.coords t) → cfg0.idle 4 (grid0.coords t) = false := by decide +kernel
/-- At a later point the sums of the products are stored again. -/
theorem liveAt0_4_B : ∀ t : Fin cfg0.N, ¬cond0_0 (grid0.coords t) → cond0_1 (grid0.coords t) → cfg0.idle 4 (grid0.coords t) = false := by decide +kernel
/-- At a later point the buffer of the sums of the products holds what was stored before. -/
theorem notFresh0_4_B : ∀ t : Fin cfg0.N, ¬cond0_0 (grid0.coords t) → cond0_1 (grid0.coords t) → cfg0.fresh 4 t.val = false := by
  intro t; rw [fresh0_4_eq t]; revert t; decide +kernel

/-! ## The blocks of a point -/

/-- The block of each window at a point, and that it is a whole buffer. -/
abbrev ms0_0 (t : Fin cfg0.N) : Memref sig .tc .vmem S1x4096x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x9x9x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x9 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S9x9 .f32 := win0_4.stage (cfg0.slots t 4)
abbrev hs0_4 (t : Fin cfg0.N) : (ms0_4 t).IsWhole := hstage0_4 ((cfg0.slots t 4).cast nbuf0_4)
/-- The buffer of the distances, the kernel's own. -/
abbrev scM0_0 : Memref sig .tc .vmem S4096x256 .f32 := Memref.whole cc0_scratch0

/-- What passes from point to point besides the windows: the buffer of the distances, the buffers of the other calls and the random state. -/
theorem PhiA0_eq (c : Dev nD) :
    (Pipeline.ΦA spec0 c : sProp 𝕄)
      = iprop(iprop((∃ d, owns (c : Thread nD τ) scM0_0 fullShare d) ∗ Pipeline.scopedRestBut spec0 c [cc0_scratch0]) ∗ (∃ r, prngReg c r)) := by
  unfold Pipeline.ΦA; rw [scopedRest0_split]; simp only [scM0_0, owns_whole]; try rfl

/-! ## The inputs at a point -/

variable (V : (c : Dev nD) → (b : Ref sig .tc) → Buf (Elt F) ((c : Thread nD τ).loc b))

/-- The block of a window at a point, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer of an input holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Cert.KernelIdeal.Gen

end
-- ==== Proof.RunFirst.lean ====
/- The body at the first point. -/
module

public import proofs.«01_k».proof.Proof.Rounds
public import proofs.«01_k».proof.Proof.Cases
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

omit [FloatOps F] [Named F] in
/-- A buffer written once, whole, reads as what was written. -/
theorem read_writes_block {κ : Kind} {sp : Space} {s : Shape} {e : EltTy} (v : View sig κ sp s e) (f : v.ty.Contents (Elt F)) {off : Fin s.rank → ℕ}
    {inb : ∀ a, off a + s.size a ≤ s.size a} (x : s.Idx → Elt F e) : v.read (Elt F) (v.writes (Elt F) f [⟨Rect.unit off s.size inb, x⟩]) = x :=
  View.read_writes_full v f inb x []

set_option maxHeartbeats 1000000 in
/-- The body at the first point, on whole memrefs holding the points `x0` and the columns `x1`: what it leaves in its three outputs, found by the run. -/
def kernelRun0_A (c : Dev nD) (i : grid0.Coords) (arg2 : Memref sig .tc .vmem S1x4096x3 .f32) (harg2 : arg2.IsWhole) (arg3 : Memref sig .tc .vmem S1x3x256 .f32) (harg3 : arg3.IsWhole) (arg4 : Memref sig .tc .vmem S1x9x9x256 .f32) (harg4 : arg4.IsWhole)
  (arg5 : Memref sig .tc .vmem S1x9 .f32) (harg5 : arg5.IsWhole) (arg6 : Memref sig .tc .vmem S9x9 .f32) (harg6 : arg6.IsWhole) (arg7 : Memref sig .tc .vmem S4096x256 .f32) (harg7 : arg7.IsWhole)
    (hc0 : cond0_0 i) (hc1 : ¬cond0_1 i)
    (x0 : Vec F S1x4096x3 .f32) (x1 : Vec F S1x3x256 .f32) :
    Σ' (o2 : Vec F S1x9x9x256 .f32) (o3 : Vec F S1x9 .f32), { o4 : Vec F S9x9 .f32 //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare o2
                ∗ owns (c : Thread nD τ) arg5 fullShare o3 ∗ owns (c : Thread nD τ) arg6 fullShare o4 ∗ (∃ d, owns (c : Thread nD τ) arg7 fullShare d)) -∗ K ⟨⟩))
          ⊢ wp frame (wpE (defs₀ (F := F)) Variants.none c none) E (cc0__feat_body i arg2 harg2 arg3 harg3 arg4 harg4 arg5 harg5 arg6 harg6 arg7 harg7) K } := by
  refine ⟨?_, ?_, ?_, fun E K => ?run⟩
  case run =>
    simp only [cc0__feat_body_eq_skeleton]; unfold cc0__feat_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%ds0, %fs0, -, HS0⟩, Hk⟩
    obtain rfl := harg2.eq_unread hf0; obtain rfl := harg3.eq_unread hf1
    sl_exec! (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr
      swap; · iexact H2
      ipureintro; exact read_writes_block _ _ _
    isplitl [H3]
    · iexists _; isplitr
      swap; · iexact H3
      ipureintro; exact read_writes_block _ _ _
    isplitl [H4]
    · iexists _; isplitr
      swap; · iexact H4
      ipureintro; exact read_writes_block _ _ _
    iexists _, _; isplitr
    swap; · iexact HS0
    ipureintro; rfl

end Cert.KernelIdeal.Gen

end
-- ==== Proof.RunNext.lean ====
/- The body at a later point. -/
module

public import proofs.«01_k».proof.Proof.RunFirst

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The body at a later point, the sums so far `y3` and `y4`: what it leaves in its three outputs, found by the run. -/
def kernelRun0_B (c : Dev nD) (i : grid0.Coords) (arg2 : Memref sig .tc .vmem S1x4096x3 .f32) (harg2 : arg2.IsWhole) (arg3 : Memref sig .tc .vmem S1x3x256 .f32) (harg3 : arg3.IsWhole) (arg4 : Memref sig .tc .vmem S1x9x9x256 .f32) (harg4 : arg4.IsWhole)
  (arg5 : Memref sig .tc .vmem S1x9 .f32) (harg5 : arg5.IsWhole) (arg6 : Memref sig .tc .vmem S9x9 .f32) (harg6 : arg6.IsWhole) (arg7 : Memref sig .tc .vmem S4096x256 .f32) (harg7 : arg7.IsWhole)
    (hc0 : ¬cond0_0 i) (hc1 : cond0_1 i)
    (x0 : Vec F S1x4096x3 .f32) (x1 : Vec F S1x3x256 .f32) (y3 : Vec F S1x9 .f32) (y4 : Vec F S9x9 .f32) :
    Σ' (o2 : Vec F S1x9x9x256 .f32) (o3 : Vec F S1x9 .f32), { o4 : Vec F S9x9 .f32 //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare y3 ∗ owns (c : Thread nD τ) arg6 fullShare y4 ∗ (∃ d, owns (c : Thread nD τ) arg7 fullShare d)
            ∗ (iprop(owns (c : Thread nD τ) arg2 fullShare x0 ∗ owns (c : Thread nD τ) arg3 fullShare x1 ∗ owns (c : Thread nD τ) arg4 fullShare o2
                ∗ owns (c : Thread nD τ) arg5 fullShare o3 ∗ owns (c : Thread nD τ) arg6 fullShare o4 ∗ (∃ d, owns (c : Thread nD τ) arg7 fullShare d)) -∗ K ⟨⟩))
          ⊢ wp frame (wpE (defs₀ (F := F)) Variants.none c none) E (cc0__feat_body i arg2 harg2 arg3 harg3 arg4 harg4 arg5 harg5 arg6 harg6 arg7 harg7) K } := by
  refine ⟨?_, ?_, ?_, fun E K => ?run⟩
  case run =>
    simp only [cc0__feat_body_eq_skeleton]; unfold cc0__feat_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%d2, %f2, -, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg5.eq_unread hf3; obtain rfl := harg6.eq_unread hf4
    sl_exec! (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr
      swap; · iexact H2
      ipureintro; exact read_writes_block _ _ _
    isplitl [H3]
    · iexists _; isplitr
      swap; · iexact H3
      ipureintro; exact read_writes_block _ _ _
    isplitl [H4]
    · iexists _; isplitr
      swap; · iexact H4
      ipureintro; exact read_writes_block _ _ _
    iexists _, _; isplitr
    swap; · iexact HS0
    ipureintro; rfl

end Cert.KernelIdeal.Gen

end
-- ==== Proof.Body.lean ====
/- What the outputs hold after each point, and the body at every point: the first call. -/
module

public import proofs.«01_k».proof.Proof.RunNext

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## What the outputs hold after each point -/

/-- The three blocks of results. -/
abbrev Outs (F : FTy → Type) : Type := Vec F S1x9x9x256 .f32 × Vec F S1x9 .f32 × Vec F S9x9 .f32

/-- What the body leaves at the first point. -/
def outsA (c : Dev nD) (t : Fin cfg0.N) (h0 : cond0_0 (grid0.coords t)) (h1 : ¬cond0_1 (grid0.coords t)) : Outs F :=
  ((kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) h0 h1 (iblk0 V c 0 t) (iblk0 V c 1 t)).1,
   (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) h0 h1 (iblk0 V c 0 t) (iblk0 V c 1 t)).2.1,
   (kernelRun0_A c (grid0.coords t) (ms0_0 t) (hs0_0 t) (ms0_1 t) (hs0_1 t) (ms0_2 t) (hs0_2 t) (ms0_3 t) (hs0_3 t) (ms0_4 t) (hs0_4 t) scM0_0 (Memref.isWhole_whole _) h0 h1 (iblk0 V c 0 t) (iblk0 V c 1 t)).2.2.1)

/-- What the body leaves at a later point, over the sums so far. -/
def outsB (c : Dev nD) (t : Fin cfg0.N) (h0 : ¬cond0_0 (grid0.coords t)) (h1 : cond0_1 (grid0.coords t)) (y : Outs F) : Outs F :=
  ((kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) h0 h1 (iblk0 V c 0 t) (iblk0 V c 1 t) y.2.1 y.2.2).1,
   (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) h0 h1 (iblk0 V c 0 t) (iblk0 V c 1 t) y.2.1 y.2.2).2.1,
   (kernelRun0_B c (grid0.coords t) (ms0_0 t) (hs0_0 t) (ms0_1 t) (hs0_1 t) (ms0_2 t) (hs0_2 t) (ms0_3 t) (hs0_3 t) (ms0_4 t) (hs0_4 t) scM0_0 (Memref.isWhole_whole _) h0 h1 (iblk0 V c 0 t) (iblk0 V c 1 t) y.2.1 y.2.2).2.2.1)

theorem first_not_later {t : Fin cfg0.N} (h : t.val = 0) : ¬cond0_1 (grid0.coords t) := fun h1 => by
  have := (hcond0_1 t).mp h1; omega
theorem first_stores {t : Fin cfg0.N} (h : t.val = 0) : cond0_0 (grid0.coords t) := (hcond0_0 t).mpr (by rw [h])
theorem later_adds {t : Fin cfg0.N} (h : t.val ≠ 0) : cond0_1 (grid0.coords t) := (hcond0_1 t).mpr (by omega)
theorem later_not_first {t : Fin cfg0.N} (h : t.val ≠ 0) : ¬cond0_0 (grid0.coords t) := fun h0 => by
  have := (hcond0_0 t).mp h0
  have := lt_of_lt_of_eq t.isLt (show cfg0.N = 64 from N_0)
  omega

/-- The accumulation: what the outputs' buffers hold after the point `n`. -/
def outsAt0 (c : Dev nD) : (n : ℕ) → n < cfg0.N → Outs F
  | 0, hn => outsA V c ⟨0, hn⟩ (first_stores rfl) (first_not_later rfl)
  | n + 1, hn => outsB V c ⟨n + 1, hn⟩ (later_not_first (Nat.succ_ne_zero n)) (later_adds (Nat.succ_ne_zero n)) (outsAt0 c n (Nat.lt_of_succ_lt hn))

theorem outsAt0_A (c : Dev nD) (t : Fin cfg0.N) (h : t.val = 0) :
    outsAt0 V c t.val t.isLt = outsA V c t (first_stores h) (first_not_later h) := by
  obtain ⟨n, hn⟩ := t
  cases n with
  | zero => rfl
  | succ n => exact absurd h (Nat.succ_ne_zero n)

theorem outsAt0_B (c : Dev nD) (t : Fin cfg0.N) (h : t.val ≠ 0) :
    outsAt0 V c t.val t.isLt
      = outsB V c t (later_not_first h) (later_adds h) (outsAt0 V c (t.val - 1) (Nat.lt_of_le_of_lt (Nat.sub_le _ _) t.isLt)) := by
  obtain ⟨n, hn⟩ := t
  cases n with
  | zero => exact absurd rfl h
  | succ n => rfl

/-! ## The pipeline's proof data -/

/-- The arrays as the region finds them; after the body at point `t` each input's buffer at its block and the outputs' at `outsAt0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The two sums are stored at every point. -/
theorem live0_3 (t : Fin cfg0.N) : cfg0.idle 3 (grid0.coords t) = false := by
  by_cases h : t.val = 0
  · exact liveAt0_3_A t (first_stores h) (first_not_later h)
  · exact liveAt0_3_B t (later_not_first h) (later_adds h)
theorem live0_4 (t : Fin cfg0.N) : cfg0.idle 4 (grid0.coords t) = false := by
  by_cases h : t.val = 0
  · exact liveAt0_4_A t (first_stores h) (first_not_later h)
  · exact liveAt0_4_B t (later_not_first h) (later_adds h)

/-- At a later point the buffers of the sums hold what the point before left. -/
theorem before0_3_B (c : Dev nD) (t : Fin cfg0.N) (h : t.val ≠ 0) (d) :
    (dat0 V c).before 3 t d = (outsAt0 V c (t.val - 1) (Nat.lt_of_le_of_lt (Nat.sub_le _ _) t.isLt)).2.1 := by
  rw [Dat.before_out_traj _ 3 rfl (fun _ _ => rfl) (fun t _ hi _ => absurd hi (by rw [live0_3 t]; exact Bool.false_ne_true)) t.val t rfl d,
    if_neg (by rw [notFresh0_3_B t (later_not_first h) (later_adds h)]; exact Bool.false_ne_true)]
  dsimp only [dat0]
theorem before0_4_B (c : Dev nD) (t : Fin cfg0.N) (h : t.val ≠ 0) (d) :
    (dat0 V c).before 4 t d = (outsAt0 V c (t.val - 1) (Nat.lt_of_le_of_lt (Nat.sub_le _ _) t.isLt)).2.2 := by
  rw [Dat.before_out_traj _ 4 rfl (fun _ _ => rfl) (fun t _ hi _ => absurd hi (by rw [live0_4 t]; exact Bool.false_ne_true)) t.val t rfl d,
    if_neg (by rw [notFresh0_4_B t (later_not_first h) (later_adds h)]; exact Bool.false_ne_true)]
  dsimp only [dat0]

/-! ## The body's obligation at a point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (outsAt0 V c t.val t.isLt).1 := by
  unfold Dat.leavesExact; rw [liveAt0_2 t, after0_2]
theorem leaves0_3 (c : Dev nD) (t : Fin cfg0.N) : (dat0 V c).leavesExact 3 t = owns (c : Thread nD τ) (ms0_3 t) fullShare (outsAt0 V c t.val t.isLt).2.1 := by
  unfold Dat.leavesExact; rw [live0_3 t, after0_3]
theorem leaves0_4 (c : Dev nD) (t : Fin cfg0.N) : (dat0 V c).leavesExact 4 t = owns (c : Thread nD τ) (ms0_4 t) fullShare (outsAt0 V c t.val t.isLt).2.2 := by
  unfold Dat.leavesExact; rw [live0_4 t, after0_4]

set_option maxHeartbeats 800000 in
/-- The body at any point: at the first by `kernelRun0_A`, at a later one by `kernelRun0_B` over what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl]
  rw [show (dat0 V c).Φ t.castSucc = Pipeline.ΦA spec0 c from rfl, PhiA0_eq,
    leaves0_0, leaves0_1, leaves0_2, leaves0_3, leaves0_4]
  by_cases h : t.val = 0
  · rw [outsAt0_A V c t h]
    unfold outsA; dsimp only
    iintro ⟨⟨⟨HS0, Hr⟩, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ (first_stores h) (first_not_later h) (iblk0 V c 0 t) (iblk0 V c 1 t)).2.2.2 Set.univ _)
    isplitl [H0]; · iexact H0
    isplitl [H1]; · iexact H1
    isplitl [H2]; · iexists _; iexact H2
    isplitl [H3]; · iexists _; iexact H3
    isplitl [H4]; · iexists _; iexact H4
    isplitl [HS0]; · iexact HS0
    iintro ⟨H0, H1, H2, H3, H4, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexact H2
    isplitl [H3]; · iexact H3
    iexact H4
  · rw [outsAt0_B V c t h]
    simp only [before0_3_B V c t h, before0_4_B V c t h]
    unfold outsB; dsimp only
    iintro ⟨⟨⟨HS0, Hr⟩, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (later_not_first h) (later_adds h) (iblk0 V c 0 t) (iblk0 V c 1 t) _ _).2.2.2 Set.univ _)
    isplitl [H0]; · iexact H0
    isplitl [H1]; · iexact H1
    isplitl [H2]; · iexists _; iexact H2
    isplitl [H3]; · iexact H3
    isplitl [H4]; · iexact H4
    isplitl [HS0]; · iexact HS0
    iintro ⟨H0, H1, H2, H3, H4, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexact H2
    isplitl [H3]; · iexact H3
    iexact H4

theorem defs₀_row0 (t : Fin cfg0.N) :
    defs₀ (F := F) .tc cfg0.body (cfg0.bodyArgs t (cfg0.slots t)) = bodyAt0 t := by
  unfold defs₀; rw [Defs.onTc_tc]

/-- The obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Gen

end
-- ==== Proof.Second.lean ====
/- The two cases of the second call's body: the sums of the first layer's outputs are stored at the first point and added to at each later one. -/
module

public import proofs.«01_k».proof.Proof.RunFirst

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the body asks before it stores the sums. -/
abbrev cond1_0 (i : grid1.Coords) : Prop := k1_cond1 i = 1#1
/-- It is so at the first point only. -/
theorem hcond1_0 : ∀ t : Fin cfg1.N, cond1_0 (grid1.coords t) ↔ t.val % 64 = 0 :=
  (fun t => by
    have ht : t.val < 64 := Nat.lt_of_lt_of_eq t.isLt N_1
    have e0 : (grid1.coords t 0).val = t.val / 16 % 4 := Pipeline.Grid.coords_val t 0 (by decide) rfl
    have e1 : (grid1.coords t 1).val = t.val / 1 % 16 := Pipeline.Grid.coords_val t 1 (by decide) rfl
    simp only [cond1_0, k1_cond1, e0, e1]
    word_cmp
   : ∀ t : Fin grid1.N, cond1_0 (grid1.coords t) ↔ t.val % 64 = 0)

/-- What the body asks before it adds to the sums. -/
abbrev cond1_1 (i : grid1.Coords) : Prop := k1_cond2 i = 1#1
/-- It is so at every later point. -/
theorem hcond1_1 : ∀ t : Fin cfg1.N, cond1_1 (grid1.coords t) ↔ 1 ≤ t.val :=
  (fun t => by
    have ht : t.val < 64 := Nat.lt_of_lt_of_eq t.isLt N_1
    have e0 : (grid1.coords t 0).val = t.val / 16 % 4 := Pipeline.Grid.coords_val t 0 (by decide) rfl
    have e1 : (grid1.coords t 1).val = t.val / 1 % 16 := Pipeline.Grid.coords_val t 1 (by decide) rfl
    simp only [cond1_1, k1_cond2, e0, e1]
    word_cmp
   : ∀ t : Fin grid1.N, cond1_1 (grid1.coords t) ↔ 1 ≤ t.val)

/-- Where the buffer of the sums holds nothing stored yet: before the first point, and after the last one. -/
def freshTab1_6 : ℕ → Bool
  | 0 => true
  | n + 1 => (0x8000000000000000 : ℕ).testBit n
theorem freshTab1_6_step : ∀ t : Fin cfg1.N,
    freshTab1_6 (t.val + 1) = ((cfg1.win 6).flush t || (cfg1.idle 6 (cfg1.grid.coords t) && freshTab1_6 t.val)) := by decide +kernel
theorem fresh1_6_eq (t : Fin cfg1.N) : cfg1.fresh 6 t.val = freshTab1_6 t.val :=
  Pipeline.Cfg.fresh_tab cfg1 6 freshTab1_6 rfl freshTab1_6_step t.val (Nat.le_of_lt t.isLt)
/-- The sums are stored at every point, -/
theorem live1_6 : ∀ t : Fin cfg1.N, cfg1.idle 6 (grid1.coords t) = false := by decide +kernel
/-- and their buffer holds at a later point what was stored before. -/
theorem notFresh1_6 : ∀ t : Fin cfg1.N, t.val ≠ 0 → cfg1.fresh 6 t.val = false := by
  intro t; rw [fresh1_6_eq t]; revert t; decide +kernel
/-- Where the buffer of the sums of the products holds nothing stored yet: before the first point, and after the last one. -/
def freshTab1_7 : ℕ → Bool
  | 0 => true
  | n + 1 => (0x8000000000000000 : ℕ).testBit n
theorem freshTab1_7_step : ∀ t : Fin cfg1.N,
    freshTab1_7 (t.val + 1) = ((cfg1.win 7).flush t || (cfg1.idle 7 (cfg1.grid.coords t) && freshTab1_7 t.val)) := by decide +kernel
theorem fresh1_7_eq (t : Fin cfg1.N) : cfg1.fresh 7 t.val = freshTab1_7 t.val :=
  Pipeline.Cfg.fresh_tab cfg1 7 freshTab1_7 rfl freshTab1_7_step t.val (Nat.le_of_lt t.isLt)
/-- The sums of the products are stored at every point, -/
theorem live1_7 : ∀ t : Fin cfg1.N, cfg1.idle 7 (grid1.coords t) = false := by decide +kernel
/-- and their buffer holds at a later point what was stored before. -/
theorem notFresh1_7 : ∀ t : Fin cfg1.N, t.val ≠ 0 → cfg1.fresh 7 t.val = false := by
  intro t; rw [fresh1_7_eq t]; revert t; decide +kernel

/-- The block of each window at a point, and that it is a whole buffer. -/
abbrev ms1_0 (t : Fin cfg1.N) : Memref sig .tc .vmem S1x9x9x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S9x9 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x9 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x9 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x9 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S9x9 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x9 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S9x9 .f32 := win1_7.stage (cfg1.slots t 7)
abbrev hs1_7 (t : Fin cfg1.N) : (ms1_7 t).IsWhole := hstage1_7 ((cfg1.slots t 7).cast nbuf1_7)

/-! ## The inputs at a point -/

section Inputs

variable (V : (c : Dev nD) → (b : Ref sig .tc) → Buf (Elt F) ((c : Thread nD τ).loc b))

/-- The block of a window at a point, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The buffer of an input holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Inputs

/-! ## The body at a point -/

set_option maxHeartbeats 1000000 in
/-- The body at the first point, on whole memrefs: it stores the sums of the first layer's outputs and of their products. -/
theorem runFirst1 (c : Dev nD) (i : grid1.Coords) (arg2 : Memref sig .tc .vmem S1x9x9x256 .f32) (harg2 : arg2.IsWhole) (arg3 : Memref sig .tc .vmem S9x9 .f32) (harg3 : arg3.IsWhole) (arg4 : Memref sig .tc .vmem S1x9 .f32) (harg4 : arg4.IsWhole) (arg5 : Memref sig .tc .vmem S1x9 .f32) (harg5 : arg5.IsWhole) (arg6 : Memref sig .tc .vmem S1x9 .f32) (harg6 : arg6.IsWhole) (arg7 : Memref sig .tc .vmem S9x9 .f32) (harg7 : arg7.IsWhole) (arg8 : Memref sig .tc .vmem S1x9 .f32) (harg8 : arg8.IsWhole) (arg9 : Memref sig .tc .vmem S9x9 .f32) (harg9 : arg9.IsWhole)
    (hc0 : cond1_0 i) (hc1 : ¬cond1_1 i)
    (x0 : Vec F S1x9x9x256 .f32) (x1 : Vec F S9x9 .f32) (x2 : Vec F S1x9 .f32) (x3 : Vec F S1x9 .f32) (x4 : Vec F S1x9 .f32) (x5 : Vec F S9x9 .f32)  (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k1_pay2 (k1_pay8 x1 x2 x3 x4 x5) (k1_pay9 x1 x2 x4 x5 x0)) ∗ owns (c : Thread nD τ) arg9 fullShare (k1_pay3 (k1_pay8 x1 x2 x3 x4 x5) (k1_pay9 x1 x2 x4 x5 x0))) -∗ K ⟨⟩))
      ⊢ wp frame (wpE (defs₀ (F := F)) Variants.none c none) E (cc1__stats2_body i arg2 harg2 arg3 harg3 arg4 harg4 arg5 harg5 arg6 harg6 arg7 harg7 arg8 harg8 arg9 harg9) K := by
  simp only [cc1__stats2_body_eq_skeleton]; unfold cc1__stats2_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  have e0 : View.readAt (Elt F) arg2.view (Rect.unit (s := S1x9x9x256) ![0, 0, 0, 0] S1x9x9x256.size inb_S1x9x9x256_S1x9x9x256_0_0_0_0).toLoadRect (harg2.unread x0) = x0 := by rw [View.readAt_full, harg2.read_unread]
  have e1 : View.readAt (Elt F) arg3.view (Rect.unit (s := S9x9) ![0, 0] S9x9.size inb_S9x9_S9x9_0_0).toLoadRect (harg3.unread x1) = x1 := by rw [View.readAt_full, harg3.read_unread]
  have e2 : View.readAt (Elt F) arg4.view (Rect.unit (s := S1x9) ![0, 0] S1x9.size inb_S1x9_S1x9_0_0).toLoadRect (harg4.unread x2) = x2 := by rw [View.readAt_full, harg4.read_unread]
  have e3 : View.readAt (Elt F) arg5.view (Rect.unit (s := S1x9) ![0, 0] S1x9.size inb_S1x9_S1x9_0_0).toLoadRect (harg5.unread x3) = x3 := by rw [View.readAt_full, harg5.read_unread]
  have e4 : View.readAt (Elt F) arg6.view (Rect.unit (s := S1x9) ![0, 0] S1x9.size inb_S1x9_S1x9_0_0).toLoadRect (harg6.unread x4) = x4 := by rw [View.readAt_full, harg6.read_unread]
  have e5 : View.readAt (Elt F) arg7.view (Rect.unit (s := S9x9) ![0, 0] S9x9.size inb_S9x9_S9x9_0_0).toLoadRect (harg7.unread x5) = x5 := by rw [View.readAt_full, harg7.read_unread]
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    exact read_writes_block _ _ _
  iexists _; isplitr
  swap; · iexact H7
  ipureintro
  exact read_writes_block _ _ _

set_option maxHeartbeats 1000000 in
/-- The body at a later point: it adds to the sums `y` and `z` it finds. -/
theorem runNext1 (c : Dev nD) (i : grid1.Coords) (arg2 : Memref sig .tc .vmem S1x9x9x256 .f32) (harg2 : arg2.IsWhole) (arg3 : Memref sig .tc .vmem S9x9 .f32) (harg3 : arg3.IsWhole) (arg4 : Memref sig .tc .vmem S1x9 .f32) (harg4 : arg4.IsWhole) (arg5 : Memref sig .tc .vmem S1x9 .f32) (harg5 : arg5.IsWhole) (arg6 : Memref sig .tc .vmem S1x9 .f32) (harg6 : arg6.IsWhole) (arg7 : Memref sig .tc .vmem S9x9 .f32) (harg7 : arg7.IsWhole) (arg8 : Memref sig .tc .vmem S1x9 .f32) (harg8 : arg8.IsWhole) (arg9 : Memref sig .tc .vmem S9x9 .f32) (harg9 : arg9.IsWhole)
    (hc0 : ¬cond1_0 i) (hc1 : cond1_1 i)
    (x0 : Vec F S1x9x9x256 .f32) (x1 : Vec F S9x9 .f32) (x2 : Vec F S1x9 .f32) (x3 : Vec F S1x9 .f32) (x4 : Vec F S1x9 .f32) (x5 : Vec F S9x9 .f32) (y : Vec F S1x9 .f32) (z : Vec F S9x9 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y ∗ owns (c : Thread nD τ) arg9 fullShare z
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k1_pay4 (k1_pay8 x1 x2 x3 x4 x5) (k1_pay9 x1 x2 x4 x5 x0) y) ∗ owns (c : Thread nD τ) arg9 fullShare (k1_pay5 (k1_pay8 x1 x2 x3 x4 x5) (k1_pay9 x1 x2 x4 x5 x0) z)) -∗ K ⟨⟩))
      ⊢ wp frame (wpE (defs₀ (F := F)) Variants.none c none) E (cc1__stats2_body i arg2 harg2 arg3 harg3 arg4 harg4 arg5 harg5 arg6 harg6 arg7 harg7 arg8 harg8 arg9 harg9) K := by
  simp only [cc1__stats2_body_eq_skeleton]; unfold cc1__stats2_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  have e0 : View.readAt (Elt F) arg2.view (Rect.unit (s := S1x9x9x256) ![0, 0, 0, 0] S1x9x9x256.size inb_S1x9x9x256_S1x9x9x256_0_0_0_0).toLoadRect (harg2.unread x0) = x0 := by rw [View.readAt_full, harg2.read_unread]
  have e1 : View.readAt (Elt F) arg3.view (Rect.unit (s := S9x9) ![0, 0] S9x9.size inb_S9x9_S9x9_0_0).toLoadRect (harg3.unread x1) = x1 := by rw [View.readAt_full, harg3.read_unread]
  have e2 : View.readAt (Elt F) arg4.view (Rect.unit (s := S1x9) ![0, 0] S1x9.size inb_S1x9_S1x9_0_0).toLoadRect (harg4.unread x2) = x2 := by rw [View.readAt_full, harg4.read_unread]
  have e3 : View.readAt (Elt F) arg5.view (Rect.unit (s := S1x9) ![0, 0] S1x9.size inb_S1x9_S1x9_0_0).toLoadRect (harg5.unread x3) = x3 := by rw [View.readAt_full, harg5.read_unread]
  have e4 : View.readAt (Elt F) arg6.view (Rect.unit (s := S1x9) ![0, 0] S1x9.size inb_S1x9_S1x9_0_0).toLoadRect (harg6.unread x4) = x4 := by rw [View.readAt_full, harg6.read_unread]
  have e5 : View.readAt (Elt F) arg7.view (Rect.unit (s := S9x9) ![0, 0] S9x9.size inb_S9x9_S9x9_0_0).toLoadRect (harg7.unread x5) = x5 := by rw [View.readAt_full, harg7.read_unread]
  have e6 : View.readAt (Elt F) arg8.view (Rect.unit (s := S1x9) ![0, 0] S1x9.size inb_S1x9_S1x9_0_0).toLoadRect (harg8.unread y) = y := by rw [View.readAt_full, harg8.read_unread]
  have e7 : View.readAt (Elt F) arg9.view (Rect.unit (s := S9x9) ![0, 0] S9x9.size inb_S9x9_S9x9_0_0).toLoadRect (harg9.unread z) = z := by rw [View.readAt_full, harg9.read_unread]
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    exact read_writes_block _ _ _
  iexists _; isplitr
  swap; · iexact H7
  ipureintro
  exact read_writes_block _ _ _

end Cert.KernelIdeal.Gen

end
-- ==== Proof.SecondBody.lean ====
/- What the outputs of the second call hold after each point, and its body at every point. -/
module

public import proofs.«01_k».proof.Proof.Second

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem first_stores1 {t : Fin cfg1.N} (h : t.val = 0) : cond1_0 (grid1.coords t) := (hcond1_0 t).mpr (by rw [h])
theorem first_not_later1 {t : Fin cfg1.N} (h : t.val = 0) : ¬cond1_1 (grid1.coords t) := fun h1 => by
  have := (hcond1_1 t).mp h1; omega
theorem later_adds1 {t : Fin cfg1.N} (h : t.val ≠ 0) : cond1_1 (grid1.coords t) := (hcond1_1 t).mpr (by omega)
theorem later_not_first1 {t : Fin cfg1.N} (h : t.val ≠ 0) : ¬cond1_0 (grid1.coords t) := fun h0 => by
  have := (hcond1_0 t).mp h0
  have := lt_of_lt_of_eq t.isLt (show cfg1.N = 64 from N_1)
  omega

/-- The accumulation: what the two outputs' buffers hold after the point `n`. -/
def outsAt1 (c : Dev nD) : (n : ℕ) → n < cfg1.N → Vec F S1x9 .f32 × Vec F S9x9 .f32
  | 0, hn => (k1_pay2 (k1_pay8 (iblk1 V c 1 ⟨0, hn⟩) (iblk1 V c 2 ⟨0, hn⟩) (iblk1 V c 3 ⟨0, hn⟩) (iblk1 V c 4 ⟨0, hn⟩) (iblk1 V c 5 ⟨0, hn⟩)) (k1_pay9 (iblk1 V c 1 ⟨0, hn⟩) (iblk1 V c 2 ⟨0, hn⟩) (iblk1 V c 4 ⟨0, hn⟩) (iblk1 V c 5 ⟨0, hn⟩) (iblk1 V c 0 ⟨0, hn⟩)),
      k1_pay3 (k1_pay8 (iblk1 V c 1 ⟨0, hn⟩) (iblk1 V c 2 ⟨0, hn⟩) (iblk1 V c 3 ⟨0, hn⟩) (iblk1 V c 4 ⟨0, hn⟩) (iblk1 V c 5 ⟨0, hn⟩)) (k1_pay9 (iblk1 V c 1 ⟨0, hn⟩) (iblk1 V c 2 ⟨0, hn⟩) (iblk1 V c 4 ⟨0, hn⟩) (iblk1 V c 5 ⟨0, hn⟩) (iblk1 V c 0 ⟨0, hn⟩)))
  | n + 1, hn => (k1_pay4 (k1_pay8 (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩)) (k1_pay9 (iblk1 V c 1 ⟨n + 1, hn⟩) (iblk1 V c 2 ⟨n + 1, hn⟩) (iblk1 V c 4 ⟨n + 1, hn⟩) (iblk1 V c 5 ⟨n + 1, hn⟩) (iblk1 V c 0 ⟨n + 1, hn⟩)) (outsAt1 c n (Nat.lt_of_succ_lt hn)).1,
      k1_pay5 (k1_pay8 (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩)) (k1_pay9 (iblk1 V c 1 ⟨n + 1, hn⟩) (iblk1 V c 2 ⟨n + 1, hn⟩) (iblk1 V c 4 ⟨n + 1, hn⟩) (iblk1 V c 5 ⟨n + 1, hn⟩) (iblk1 V c 0 ⟨n + 1, hn⟩)) (outsAt1 c n (Nat.lt_of_succ_lt hn)).2)

theorem outsAt1_first (c : Dev nD) (t : Fin cfg1.N) (h : t.val = 0) :
    outsAt1 V c t.val t.isLt = (k1_pay2 (k1_pay8 (iblk1 V c 1 t) (iblk1 V c 2 t) (iblk1 V c 3 t) (iblk1 V c 4 t) (iblk1 V c 5 t)) (k1_pay9 (iblk1 V c 1 t) (iblk1 V c 2 t) (iblk1 V c 4 t) (iblk1 V c 5 t) (iblk1 V c 0 t)), k1_pay3 (k1_pay8 (iblk1 V c 1 t) (iblk1 V c 2 t) (iblk1 V c 3 t) (iblk1 V c 4 t) (iblk1 V c 5 t)) (k1_pay9 (iblk1 V c 1 t) (iblk1 V c 2 t) (iblk1 V c 4 t) (iblk1 V c 5 t) (iblk1 V c 0 t))) := by
  obtain ⟨n, hn⟩ := t
  cases n with
  | zero => rfl
  | succ n => exact absurd h (Nat.succ_ne_zero n)

theorem outsAt1_next (c : Dev nD) (t : Fin cfg1.N) (h : t.val ≠ 0) :
    outsAt1 V c t.val t.isLt = (k1_pay4 (k1_pay8 (iblk1 V c 1 t) (iblk1 V c 2 t) (iblk1 V c 3 t) (iblk1 V c 4 t) (iblk1 V c 5 t)) (k1_pay9 (iblk1 V c 1 t) (iblk1 V c 2 t) (iblk1 V c 4 t) (iblk1 V c 5 t) (iblk1 V c 0 t)) (outsAt1 V c (t.val - 1) (Nat.lt_of_le_of_lt (Nat.sub_le _ _) t.isLt)).1,
      k1_pay5 (k1_pay8 (iblk1 V c 1 t) (iblk1 V c 2 t) (iblk1 V c 3 t) (iblk1 V c 4 t) (iblk1 V c 5 t)) (k1_pay9 (iblk1 V c 1 t) (iblk1 V c 2 t) (iblk1 V c 4 t) (iblk1 V c 5 t) (iblk1 V c 0 t)) (outsAt1 V c (t.val - 1) (Nat.lt_of_le_of_lt (Nat.sub_le _ _) t.isLt)).2) := by
  obtain ⟨n, hn⟩ := t
  cases n with
  | zero => exact absurd rfl h
  | succ n => rfl

/-- The arrays as the call finds them; after the body each input's buffer at its block and the outputs' at `outsAt1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- At a later point the buffers of the sums hold what the point before left. -/
theorem before1_6 (c : Dev nD) (t : Fin cfg1.N) (h : t.val ≠ 0) (d) :
    (dat1 V c).before 6 t d = (outsAt1 V c (t.val - 1) (Nat.lt_of_le_of_lt (Nat.sub_le _ _) t.isLt)).1 := by
  rw [Dat.before_out_traj _ 6 rfl (fun _ _ => rfl) (fun t _ hi _ => absurd hi (by rw [live1_6 t]; exact Bool.false_ne_true)) t.val t rfl d,
    if_neg (by rw [notFresh1_6 t h]; exact Bool.false_ne_true)]
  dsimp only [dat1]
theorem before1_7 (c : Dev nD) (t : Fin cfg1.N) (h : t.val ≠ 0) (d) :
    (dat1 V c).before 7 t d = (outsAt1 V c (t.val - 1) (Nat.lt_of_le_of_lt (Nat.sub_le _ _) t.isLt)).2 := by
  rw [Dat.before_out_traj _ 7 rfl (fun _ _ => rfl) (fun t _ hi _ => absurd hi (by rw [live1_7 t]; exact Bool.false_ne_true)) t.val t rfl d,
    if_neg (by rw [notFresh1_7 t h]; exact Bool.false_ne_true)]
  dsimp only [dat1]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

theorem leaves1_0 (c : Dev nD) (t : Fin cfg1.N) : (dat1 V c).leavesExact 0 t = owns (c : Thread nD τ) (ms1_0 t) fullShare (iblk1 V c 0 t) := by
  unfold Dat.leavesExact; rw [show cfg1.idle 0 (grid1.coords t) = false from rfl, after1_0]
theorem leaves1_1 (c : Dev nD) (t : Fin cfg1.N) : (dat1 V c).leavesExact 1 t = owns (c : Thread nD τ) (ms1_1 t) fullShare (iblk1 V c 1 t) := by
  unfold Dat.leavesExact; rw [show cfg1.idle 1 (grid1.coords t) = false from rfl, after1_1]
theorem leaves1_2 (c : Dev nD) (t : Fin cfg1.N) : (dat1 V c).leavesExact 2 t = owns (c : Thread nD τ) (ms1_2 t) fullShare (iblk1 V c 2 t) := by
  unfold Dat.leavesExact; rw [show cfg1.idle 2 (grid1.coords t) = false from rfl, after1_2]
theorem leaves1_3 (c : Dev nD) (t : Fin cfg1.N) : (dat1 V c).leavesExact 3 t = owns (c : Thread nD τ) (ms1_3 t) fullShare (iblk1 V c 3 t) := by
  unfold Dat.leavesExact; rw [show cfg1.idle 3 (grid1.coords t) = false from rfl, after1_3]
theorem leaves1_4 (c : Dev nD) (t : Fin cfg1.N) : (dat1 V c).leavesExact 4 t = owns (c : Thread nD τ) (ms1_4 t) fullShare (iblk1 V c 4 t) := by
  unfold Dat.leavesExact; rw [show cfg1.idle 4 (grid1.coords t) = false from rfl, after1_4]
theorem leaves1_5 (c : Dev nD) (t : Fin cfg1.N) : (dat1 V c).leavesExact 5 t = owns (c : Thread nD τ) (ms1_5 t) fullShare (iblk1 V c 5 t) := by
  unfold Dat.leavesExact; rw [show cfg1.idle 5 (grid1.coords t) = false from rfl, after1_5]
theorem leaves1_6 (c : Dev nD) (t : Fin cfg1.N) : (dat1 V c).leavesExact 6 t = owns (c : Thread nD τ) (ms1_6 t) fullShare ((outsAt1 V c t.val t.isLt).1) := by
  unfold Dat.leavesExact; rw [show cfg1.idle 6 (grid1.coords t) = false from live1_6 t, after1_6]
theorem leaves1_7 (c : Dev nD) (t : Fin cfg1.N) : (dat1 V c).leavesExact 7 t = owns (c : Thread nD τ) (ms1_7 t) fullShare ((outsAt1 V c t.val t.isLt).2) := by
  unfold Dat.leavesExact; rw [show cfg1.idle 7 (grid1.coords t) = false from live1_7 t, after1_7]

set_option maxHeartbeats 800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    leaves1_0, leaves1_1, leaves1_2, leaves1_3, leaves1_4, leaves1_5, leaves1_6, leaves1_7]
  by_cases h : t.val = 0
  · rw [outsAt1_first V c t h]; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runFirst1 c (grid1.coords t) _ _ _ _ _ _ _ _ _ _ _ _ _ _ _ _ (first_stores1 h) (first_not_later1 h) (iblk1 V c 0 t) (iblk1 V c 1 t) (iblk1 V c 2 t) (iblk1 V c 3 t) (iblk1 V c 4 t) (iblk1 V c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outsAt1_next V c t h]; simp only [before1_6 V c t h, before1_7 V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runNext1 c (grid1.coords t) _ _ _ _ _ _ _ _ _ _ _ _ _ _ _ _ (later_not_first1 h) (later_adds1 h) (iblk1 V c 0 t) (iblk1 V c 1 t) (iblk1 V c 2 t) (iblk1 V c 3 t) (iblk1 V c 4 t) (iblk1 V c 5 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row1 (t : Fin cfg1.N) :
    defs₀ (F := F) .tc cfg1.body (cfg1.bodyArgs t (cfg1.slots t)) = bodyAt1 t := by
  unfold defs₀; rw [Defs.onTc_tc]

/-- The obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Gen

end
-- ==== Proof.Third.lean ====
/- The third call: its body at a point, and at every point. -/
module

public import proofs.«01_k».proof.Proof.RunFirst

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The block of each window at a point, and that it is a whole buffer. -/
abbrev ms2_0 (t : Fin cfg2.N) : Memref sig .tc .vmem S1x9x9x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S9x9 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x9 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x9 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S9x9 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x9 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x9 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x9 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S9x9 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x9 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S1x9 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S9x9 .f32 := win2_11.stage (cfg2.slots t 11)
abbrev hs2_11 (t : Fin cfg2.N) : (ms2_11 t).IsWhole := hstage2_11 ((cfg2.slots t 11).cast nbuf2_11)
abbrev ms2_12 (t : Fin cfg2.N) : Memref sig .tc .vmem S1x9 .f32 := win2_12.stage (cfg2.slots t 12)
abbrev hs2_12 (t : Fin cfg2.N) : (ms2_12 t).IsWhole := hstage2_12 ((cfg2.slots t 12).cast nbuf2_12)
abbrev ms2_13 (t : Fin cfg2.N) : Memref sig .tc .vmem S9x9 .f32 := win2_13.stage (cfg2.slots t 13)
abbrev hs2_13 (t : Fin cfg2.N) : (ms2_13 t).IsWhole := hstage2_13 ((cfg2.slots t 13).cast nbuf2_13)
abbrev ms2_14 (t : Fin cfg2.N) : Memref sig .tc .vmem S1x9x256 .f32 := win2_14.stage (cfg2.slots t 14)
abbrev hs2_14 (t : Fin cfg2.N) : (ms2_14 t).IsWhole := hstage2_14 ((cfg2.slots t 14).cast nbuf2_14)

/-! ## The inputs at a point -/

section Inputs

variable (V : (c : Dev nD) → (b : Ref sig .tc) → Buf (Elt F) ((c : Thread nD τ).loc b))

/-- The block of a window at a point, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The buffer of an input holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)

end Inputs

/-! ## The body at a point -/

set_option maxHeartbeats 1000000 in
/-- The body at a point, on whole memrefs: it stores the block of results. -/
theorem run2 (c : Dev nD) (i : grid2.Coords) (arg2 : Memref sig .tc .vmem S1x9x9x256 .f32) (harg2 : arg2.IsWhole) (arg3 : Memref sig .tc .vmem S9x9 .f32) (harg3 : arg3.IsWhole) (arg4 : Memref sig .tc .vmem S1x9 .f32) (harg4 : arg4.IsWhole) (arg5 : Memref sig .tc .vmem S1x9 .f32) (harg5 : arg5.IsWhole) (arg6 : Memref sig .tc .vmem S9x9 .f32) (harg6 : arg6.IsWhole) (arg7 : Memref sig .tc .vmem S1x9 .f32) (harg7 : arg7.IsWhole) (arg8 : Memref sig .tc .vmem S1x9 .f32) (harg8 : arg8.IsWhole) (arg9 : Memref sig .tc .vmem S1x9 .f32) (harg9 : arg9.IsWhole) (arg10 : Memref sig .tc .vmem S9x9 .f32) (harg10 : arg10.IsWhole) (arg11 : Memref sig .tc .vmem S1x9 .f32) (harg11 : arg11.IsWhole) (arg12 : Memref sig .tc .vmem S1x9 .f32) (harg12 : arg12.IsWhole) (arg13 : Memref sig .tc .vmem S9x9 .f32) (harg13 : arg13.IsWhole) (arg14 : Memref sig .tc .vmem S1x9 .f32) (harg14 : arg14.IsWhole) (arg15 : Memref sig .tc .vmem S9x9 .f32) (harg15 : arg15.IsWhole) (arg16 : Memref sig .tc .vmem S1x9x256 .f32) (harg16 : arg16.IsWhole)
    (x0 : Vec F S1x9x9x256 .f32) (x1 : Vec F S9x9 .f32) (x2 : Vec F S1x9 .f32) (x3 : Vec F S1x9 .f32) (x4 : Vec F S9x9 .f32) (x5 : Vec F S1x9 .f32) (x6 : Vec F S1x9 .f32) (x7 : Vec F S1x9 .f32) (x8 : Vec F S9x9 .f32) (x9 : Vec F S1x9 .f32) (x10 : Vec F S1x9 .f32) (x11 : Vec F S9x9 .f32) (x12 : Vec F S1x9 .f32) (x13 : Vec F S9x9 .f32)  (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (k2_pay1 (k2_pay9 x4 (k2_pay6 x6) x12 x13) (k2_pay10 x4 (k2_pay6 x6) x7 x12 x13 x5) (k2_pay11 (k2_pay4 x1 x2 x10 x11) (k2_pay5 x1 x2 x3 x10 x11) x0) (Scalar.ofBits .f32 0x00000000#32) x8 x9)) -∗ K ⟨⟩))
      ⊢ wp frame (wpE (defs₀ (F := F)) Variants.none c none) E (cc2__final_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc2__final_body_eq_skeleton]; unfold cc2__final_body_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  have e0 : View.readAt (Elt F) arg2.view (Rect.unit (s := S1x9x9x256) ![0, 0, 0, 0] S1x9x9x256.size inb_S1x9x9x256_S1x9x9x256_0_0_0_0).toLoadRect (harg2.unread x0) = x0 := by rw [View.readAt_full, harg2.read_unread]
  have e1 : View.readAt (Elt F) arg3.view (Rect.unit (s := S9x9) ![0, 0] S9x9.size inb_S9x9_S9x9_0_0).toLoadRect (harg3.unread x1) = x1 := by rw [View.readAt_full, harg3.read_unread]
  have e2 : View.readAt (Elt F) arg4.view (Rect.unit (s := S1x9) ![0, 0] S1x9.size inb_S1x9_S1x9_0_0).toLoadRect (harg4.unread x2) = x2 := by rw [View.readAt_full, harg4.read_unread]
  have e3 : View.readAt (Elt F) arg5.view (Rect.unit (s := S1x9) ![0, 0] S1x9.size inb_S1x9_S1x9_0_0).toLoadRect (harg5.unread x3) = x3 := by rw [View.readAt_full, harg5.read_unread]
  have e4 : View.readAt (Elt F) arg6.view (Rect.unit (s := S9x9) ![0, 0] S9x9.size inb_S9x9_S9x9_0_0).toLoadRect (harg6.unread x4) = x4 := by rw [View.readAt_full, harg6.read_unread]
  have e5 : View.readAt (Elt F) arg7.view (Rect.unit (s := S1x9) ![0, 0] S1x9.size inb_S1x9_S1x9_0_0).toLoadRect (harg7.unread x5) = x5 := by rw [View.readAt_full, harg7.read_unread]
  have e6 : View.readAt (Elt F) arg8.view (Rect.unit (s := S1x9) ![0, 0] S1x9.size inb_S1x9_S1x9_0_0).toLoadRect (harg8.unread x6) = x6 := by rw [View.readAt_full, harg8.read_unread]
  have e7 : View.readAt (Elt F) arg9.view (Rect.unit (s := S1x9) ![0, 0] S1x9.size inb_S1x9_S1x9_0_0).toLoadRect (harg9.unread x7) = x7 := by rw [View.readAt_full, harg9.read_unread]
  have e8 : View.readAt (Elt F) arg10.view (Rect.unit (s := S9x9) ![0, 0] S9x9.size inb_S9x9_S9x9_0_0).toLoadRect (harg10.unread x8) = x8 := by rw [View.readAt_full, harg10.read_unread]
  have e9 : View.readAt (Elt F) arg11.view (Rect.unit (s := S1x9) ![0, 0] S1x9.size inb_S1x9_S1x9_0_0).toLoadRect (harg11.unread x9) = x9 := by rw [View.readAt_full, harg11.read_unread]
  have e10 : View.readAt (Elt F) arg12.view (Rect.unit (s := S1x9) ![0, 0] S1x9.size inb_S1x9_S1x9_0_0).toLoadRect (harg12.unread x10) = x10 := by rw [View.readAt_full, harg12.read_unread]
  have e11 : View.readAt (Elt F) arg13.view (Rect.unit (s := S9x9) ![0, 0] S9x9.size inb_S9x9_S9x9_0_0).toLoadRect (harg13.unread x11) = x11 := by rw [View.readAt_full, harg13.read_unread]
  have e12 : View.readAt (Elt F) arg14.view (Rect.unit (s := S1x9) ![0, 0] S1x9.size inb_S1x9_S1x9_0_0).toLoadRect (harg14.unread x12) = x12 := by rw [View.readAt_full, harg14.read_unread]
  have e13 : View.readAt (Elt F) arg15.view (Rect.unit (s := S9x9) ![0, 0] S9x9.size inb_S9x9_S9x9_0_0).toLoadRect (harg15.unread x13) = x13 := by rw [View.readAt_full, harg15.read_unread]
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  iexists _; isplitr
  swap; · iexact H14
  ipureintro
  exact read_writes_block _ _ _

variable (V : (c : Dev nD) → (b : Ref sig .tc) → Buf (Elt F) ((c : Thread nD τ).loc b))

/-- What the body leaves at a point. -/
def outAt2 (c : Dev nD) (t : Fin cfg2.N) : Vec F S1x9x256 .f32 :=
  k2_pay1 (k2_pay9 (iblk2 V c 4 t) (k2_pay6 (iblk2 V c 6 t)) (iblk2 V c 12 t) (iblk2 V c 13 t)) (k2_pay10 (iblk2 V c 4 t) (k2_pay6 (iblk2 V c 6 t)) (iblk2 V c 7 t) (iblk2 V c 12 t) (iblk2 V c 13 t) (iblk2 V c 5 t)) (k2_pay11 (k2_pay4 (iblk2 V c 1 t) (iblk2 V c 2 t) (iblk2 V c 10 t) (iblk2 V c 11 t)) (k2_pay5 (iblk2 V c 1 t) (iblk2 V c 2 t) (iblk2 V c 3 t) (iblk2 V c 10 t) (iblk2 V c 11 t)) (iblk2 V c 0 t)) (Scalar.ofBits .f32 0x00000000#32) (iblk2 V c 8 t) (iblk2 V c 9 t)

/-- The arrays as the call finds them; after the body each input's buffer at its block and the output's at `outAt2`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = outAt2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d))
    ∗ (∃ d, owns (c : Thread nD τ) (ms2_12 t) fullShare ((dat2 V c).before 12 t d))
    ∗ (∃ d, owns (c : Thread nD τ) (ms2_13 t) fullShare ((dat2 V c).before 13 t d))
    ∗ (∃ d, owns (c : Thread nD τ) (ms2_14 t) fullShare ((dat2 V c).before 14 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t)
    ∗ owns (c : Thread nD τ) (ms2_9 t) fullShare ((dat2 V c).after 9 t)
    ∗ owns (c : Thread nD τ) (ms2_10 t) fullShare ((dat2 V c).after 10 t)
    ∗ owns (c : Thread nD τ) (ms2_11 t) fullShare ((dat2 V c).after 11 t)
    ∗ owns (c : Thread nD τ) (ms2_12 t) fullShare ((dat2 V c).after 12 t)
    ∗ owns (c : Thread nD τ) (ms2_13 t) fullShare ((dat2 V c).after 13 t)
    ∗ owns (c : Thread nD τ) (ms2_14 t) fullShare ((dat2 V c).after 14 t))

/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14]
  unfold outAt2
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (run2 c (grid2.coords t) _ _ _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem defs₀_row2 (t : Fin cfg2.N) :
    defs₀ (F := F) .tc cfg2.body (cfg2.bodyArgs t (cfg2.slots t)) = bodyAt2 t := by
  unfold defs₀; rw [Defs.onTc_tc]

/-- The obligation at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Gen

end
-- ==== Proof.Run.lean ====
/- The run of the whole program: the host operations and the three calls, one after the other. -/
module

public import proofs.«01_k».proof.Proof.Body
public import proofs.«01_k».proof.Proof.SecondBody
public import proofs.«01_k».proof.Proof.Third
public import Idealize.ShloMosaic.Lib.Pipeline.RegionsLoop
public import Idealize.ShloMosaic.Lib.Pipeline.FrameSuffix

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The arguments. -/
abbrev argRefs : List (Ref sig .tc) := [main_arg0, main_arg1, main_arg2, main_arg3, main_arg4, main_arg5, main_arg6, main_arg7, main_arg8, main_arg9]

/-! ## The host operations -/

/-- The transposition before the first call writes one array, none of the arguments. -/
theorem hostOps0_fresh : (hostOps0 : List (HloOp τ sig (Elt F))).Forall fun op => op.fresh = ∅ := by
  simp only [List.Forall]; repeat' constructor
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

/-- The reshapes between the first and the second call write six arrays, none of the arguments. -/
theorem hostOps1_fresh : (hostOps1 : List (HloOp τ sig (Elt F))).Forall fun op => op.fresh = ∅ := by
  simp only [List.Forall]; repeat' constructor
abbrev hostOps1_W : List (Ref sig .tc) := [main_v2, main_v3, main_v4, main_v5, main_v6, main_v7]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

/-! ## The contents of the buffers between the calls -/

/-- What the buffers hold at the start, -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- before the first call, -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- after the first call, -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- before the second call, -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- after the second call, -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- and after the third call. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## What is held throughout -/

abbrev adm : (p : Fin 3) → (pcfgs (F := F) p).Adm := fun p => (cfgs p).toPCfg_adm
/-- What each call is entered with and leaves. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What goes along from call to call beside the buffers: the random state, and that nothing is owed. -/
abbrev R (c : Dev nD) : sProp 𝕄 := iprop((∃ r, prngReg c r) ∗ ∃ W, owes (c : Thread nD τ) (0 : CellTallies nD τ sig Unit) W)
/-- A stretch of host operations as a segment of the program. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A buffer outside every scope is among those held throughout. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the end. -/
abbrev Tₙ (c : Dev nD) : sProp 𝕄 := iprop(StableHlo.held (c : Thread nD τ) (Pipeline.ucRefs τ sig) (W5 m ρ c) ∗ ∃ r, prngReg c r)

/-! ## The three calls -/

set_option backward.isDefEq.respectTransparency.types false in
/-- The first call as a segment: its arrays are taken out of the buffers held and put back as it leaves them. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third call as a segment. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program -/

/-- The program, segment by segment. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ) ]
theorem main_run (c : Dev nD) : main (F := F) c = Pipeline.Seg.run (segs m ρ) := (main_chain c).trans (by chain_rfl)

/-- Every counter is inside a scope. -/
theorem no_unscoped : ∀ sm : SemLoc sig, sm.isScoped .tc = true := by decide

set_option backward.isDefEq.respectTransparency.types false in
/-- The program runs to its end: the arguments unchanged, the result as the third call leaves it, every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_v9) = (dat2 (V4 m ρ) c).arrAt 14 cfg2.N)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_arg0 (by decide))).trans (W5_args m ρ c main_arg0 (by decide)),
       (h c _ (mem_uc main_arg1 (by decide))).trans (W5_args m ρ c main_arg1 (by decide)),
       (h c _ (mem_uc main_arg2 (by decide))).trans (W5_args m ρ c main_arg2 (by decide)),
       (h c _ (mem_uc main_arg3 (by decide))).trans (W5_args m ρ c main_arg3 (by decide)),
       (h c _ (mem_uc main_arg4 (by decide))).trans (W5_args m ρ c main_arg4 (by decide)),
       (h c _ (mem_uc main_arg5 (by decide))).trans (W5_args m ρ c main_arg5 (by decide)),
       (h c _ (mem_uc main_arg6 (by decide))).trans (W5_args m ρ c main_arg6 (by decide)),
       (h c _ (mem_uc main_arg7 (by decide))).trans (W5_args m ρ c main_arg7 (by decide)),
       (h c _ (mem_uc main_arg8 (by decide))).trans (W5_args m ρ c main_arg8 (by decide)),
       (h c _ (mem_uc main_arg9 (by decide))).trans (W5_args m ρ c main_arg9 (by decide)),
       (h c _ (mem_uc main_v9 (by decide))).trans (W5_arr m ρ c 14)⟩), funext fun g => hz g (.inr (no_unscoped g.2))⟩)

end Cert.KernelIdeal.Gen

end
-- ==== Proof.Frames.lean ====
/- The claims that say nothing of the results: the three programs run to their end and leave the arguments and the
   counters as they were, and the named constants of the idealized kernel are the printed ones. -/
module

public import proofs.«01_k».proof.Defs
public import proofs.«01_k».proof.Proof.Run
public import proofs.«01_k».proof.Proof.Printed.Run
public import proofs.«01_k».proof.Proof.Gen.ReferenceIdeal.Run
public import proofs.«01_k».proof.Proof.Gen.Kernel
public import proofs.«01_k».proof.Proof.Gen.KernelIdeal
public import proofs.«01_k».proof.Proof.Gen.ReferenceIdeal
public import Idealize.ShloMosaic.Lib.Quiescent

@[expose] public section

noncomputable section

namespace Cert.Proof

open Idealize.ShloMosaic Idealize.SL.Sem

theorem frame_kernel : Cert.quiescent_Kernel (hKernel := Cert.Kernel.Gen.facts) :=
  fun m ρ _ =>
  (θ_run Cert.Kernel.defs _ _).mono (fun r h => ⟨fun c => by
      obtain ⟨a0, a1, a2, a3, a4, a5, a6, a7, a8, a9, _⟩ := h.1 c
      exact ⟨a0, a1, a2, a3, a4, a5, a6, a7, a8, a9⟩, h.2⟩)
    (Cert.Kernel.Gen.run_main m ρ)

theorem frame_ideal : Cert.quiescent_KernelIdeal (hKernelIdeal := Cert.KernelIdeal.Gen.facts) :=
  fun m ρ _ =>
  (θ_run Cert.KernelIdeal.defs _ _).mono (fun r h => ⟨fun c => by
      obtain ⟨a0, a1, a2, a3, a4, a5, a6, a7, a8, a9, _⟩ := h.1 c
      exact ⟨a0, a1, a2, a3, a4, a5, a6, a7, a8, a9⟩, h.2⟩)
    (Cert.KernelIdeal.Gen.run_main m ρ)

theorem frame_reference : Cert.quiescent_ReferenceIdeal (hReferenceIdeal := Cert.ReferenceIdeal.Gen.facts) :=
  fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  ⟨IdealRules.named_const.statement Cert.KernelIdeal.κ "third" .f32 0x3EAAAAAB#32 ((1 / 3 : ℝ) : EReal) rfl,
   IdealRules.named_const.statement Cert.KernelIdeal.κ "inv_pi" .f32 0x3EA2F983#32 ((4194304 / 13176795 : ℝ) : EReal) rfl,
   IdealRules.named_const.statement Cert.KernelIdeal.κ "inv_two_pi" .f32 0x3E22F983#32 ((2097152 / 13176795 : ℝ) : EReal) rfl⟩

end Cert.Proof

end
-- ==== Proof.Pick.lean ====
/- Elements of a finite family by rank: `pick k r` is the element that has exactly `r` others before it, in the order
   of the keys `k` with equal keys in the order of their indices. A stable sort leaves that element at place `r`. -/
module

public import Idealize.ShloMosaic.Lib.PlanTiles.StableSort
public import Idealize.ShloMosaic.PureOps.Ideal

@[expose] public section

noncomputable section

namespace Cert.Umbrella

open Idealize.ShloMosaic

variable {n : ℕ} {α : Type} [LinearOrder α]

/-- `j` stands before `i`: its key is less, or the keys are equal and its index is less. -/
def Before (k : Fin n → α) (j i : Fin n) : Prop := k j < k i ∨ (k j = k i ∧ j < i)

instance (k : Fin n → α) (j i : Fin n) : Decidable (Before k j i) := by unfold Before; infer_instance

/-- How many elements stand before `i`. -/
def rank (k : Fin n → α) (i : Fin n) : ℕ := (Finset.univ.filter fun j => Before k j i).card

theorem Before.irrefl (k : Fin n → α) (i : Fin n) : ¬ Before k i i := by simp [Before]

theorem Before.trans {k : Fin n → α} {a b c : Fin n} (h₁ : Before k a b) (h₂ : Before k b c) : Before k a c := by
  rcases h₁ with h₁ | ⟨h₁, h₁'⟩ <;> rcases h₂ with h₂ | ⟨h₂, h₂'⟩
  · exact .inl (h₁.trans h₂)
  · exact .inl (h₂ ▸ h₁)
  · exact .inl (h₁ ▸ h₂)
  · exact .inr ⟨h₁.trans h₂, h₁'.trans h₂'⟩

theorem Before.total (k : Fin n → α) {a b : Fin n} (h : a ≠ b) : Before k a b ∨ Before k b a := by
  rcases lt_trichotomy (k a) (k b) with h₁ | h₁ | h₁
  · exact .inl (.inl h₁)
  · rcases lt_or_gt_of_ne h with h₂ | h₂
    · exact .inl (.inr ⟨h₁, h₂⟩)
    · exact .inr (.inr ⟨h₁.symm, h₂⟩)
  · exact .inr (.inl h₁)

theorem rank_lt_rank {k : Fin n → α} {a b : Fin n} (h : Before k a b) : rank k a < rank k b := by
  refine Finset.card_lt_card ⟨fun j hj => ?_, fun hs => ?_⟩
  · simp only [Finset.mem_filter, Finset.mem_univ, true_and] at hj ⊢
    exact hj.trans h
  · have := hs (show a ∈ Finset.univ.filter fun j => Before k j b by simp [h])
    simp only [Finset.mem_filter, Finset.mem_univ, true_and] at this
    exact Before.irrefl k a this

theorem before_iff_rank_lt (k : Fin n → α) (a b : Fin n) : Before k a b ↔ rank k a < rank k b := by
  refine ⟨rank_lt_rank, fun h => ?_⟩
  by_cases hab : a = b
  · subst hab; exact absurd h (lt_irrefl _)
  · rcases Before.total k hab with h₁ | h₁
    · exact h₁
    · exact absurd (rank_lt_rank h₁) (lt_asymm h)

theorem rank_lt (k : Fin n → α) (i : Fin n) : rank k i < n := by
  have : rank k i < (Finset.univ : Finset (Fin n)).card :=
    Finset.card_lt_card ⟨Finset.filter_subset _ _, fun hs => by
      have := hs (Finset.mem_univ i)
      simp only [Finset.mem_filter, Finset.mem_univ, true_and] at this
      exact Before.irrefl k i this⟩
  simpa using this

theorem rank_injective (k : Fin n → α) : Function.Injective (rank k) := fun a b h => by
  by_contra hab
  rcases Before.total k hab with h₁ | h₁
  · exact absurd (rank_lt_rank h₁) (by omega)
  · exact absurd (rank_lt_rank h₁) (by omega)

/-- Each element at its rank. -/
def place (k : Fin n → α) : Fin n ≃ Fin n :=
  Equiv.ofBijective (fun i => ⟨rank k i, rank_lt k i⟩)
    (Finite.injective_iff_bijective.mp fun a b h => rank_injective k (by simpa using h))

/-- The element of rank `r`. -/
def pick (k : Fin n → α) (r : Fin n) : Fin n := (place k).symm r

theorem rank_pick (k : Fin n → α) (r : Fin n) : rank k (pick k r) = r.val :=
  congrArg Fin.val ((place k).apply_symm_apply r)

theorem rank_eq_iff (k : Fin n → α) (i r : Fin n) : rank k i = r.val ↔ i = pick k r :=
  ⟨fun h => rank_injective k (h.trans (rank_pick k r).symm), fun h => h ▸ rank_pick k r⟩

theorem pick_congr {β : Type} [LinearOrder β] (k : Fin n → α) (k' : Fin n → β) (h : ∀ i j, k i < k j ↔ k' i < k' j) :
    pick k = pick k' := by
  have he : ∀ i j, k i = k j ↔ k' i = k' j := fun i j => by
    constructor
    · intro e
      exact le_antisymm (not_lt.mp fun c => absurd ((h j i).mpr c) (by rw [e]; exact lt_irrefl _))
        (not_lt.mp fun c => absurd ((h i j).mpr c) (by rw [e]; exact lt_irrefl _))
    · intro e
      exact le_antisymm (not_lt.mp fun c => absurd ((h j i).mp c) (by rw [e]; exact lt_irrefl _))
        (not_lt.mp fun c => absurd ((h i j).mp c) (by rw [e]; exact lt_irrefl _))
  have hr : ∀ i, rank k i = rank k' i := fun i => by
    refine congrArg Finset.card (Finset.filter_congr fun j _ => ?_)
    unfold Before
    rw [h, he]
  funext r
  exact ((rank_eq_iff k' _ r).mp ((hr _).symm.trans (rank_pick k r)))

/-- The element of rank `r` is the least of those that do not stand before it: with the keys of the first `r` elements
    raised to the top, it is the first of the least. -/
theorem pick_le (k : Fin n → α) (r i : Fin n) (h : r.val ≤ rank k i) : k (pick k r) ≤ k i := by
  by_contra hc
  have := rank_lt_rank (k := k) (a := i) (b := pick k r) (.inl (not_le.mp hc))
  rw [rank_pick] at this
  omega

theorem pick_le_index (k : Fin n → α) (r i : Fin n) (h : r.val ≤ rank k i) (he : k i = k (pick k r)) : pick k r ≤ i := by
  by_contra hc
  have := rank_lt_rank (k := k) (a := i) (b := pick k r) (.inr ⟨he, not_le.mp hc⟩)
  rw [rank_pick] at this
  omega

/-- THE STABLE SORT by the keys leaves the element of rank `r` at place `r`. -/
theorem sortedFrom_eq_pick (k : Fin n → α) (before : Fin n → Fin n → Bool) (hb : ∀ i j, before i j = true ↔ k i < k j) (r : Fin n) :
    sortedFrom before r = pick k r := by
  classical
  set G : Fin n → ℕ := fun a => (Finset.univ.filter fun j => k a < k j).card with hG
  have hlt : ∀ x y, k x < k y → G y < G x := fun x y h => by
    refine Finset.card_lt_card ⟨fun j hj => ?_, fun hs => ?_⟩
    · simp only [Finset.mem_filter, Finset.mem_univ, true_and] at hj ⊢
      exact h.trans hj
    · have := hs (show y ∈ Finset.univ.filter fun j => k x < k j by simp [h])
      simp at this
  have hiff : ∀ x y, k x < k y ↔ G y < G x := fun x y => by
    refine ⟨hlt x y, fun h => ?_⟩
    rcases lt_trichotomy (k x) (k y) with h₁ | h₁ | h₁
    · exact h₁
    · simp only [hG, h₁] at h; exact absurd h (lt_irrefl _)
    · exact absurd (hlt _ _ h₁) (lt_asymm h)
  have hbe : before = fun x y => decide (G y < G x) := by
    funext x y
    rw [Bool.eq_iff_iff, hb, hiff, decide_eq_true_iff]
  have hp : (sortPositions n before).Pairwise (fun a b => rank k a < rank k b) := by
    rw [hbe]
    refine (PlanTiles.pairwise_stableSort_lex G (· < ·) (List.finRange n) (List.pairwise_lt_finRange n)).imp ?_
    intro a b hab
    refine rank_lt_rank ?_
    rcases hab with h₁ | ⟨h₁, h₂⟩
    · exact .inl ((hiff a b).mpr h₁)
    · refine .inr ⟨le_antisymm (not_lt.mp fun c => ?_) (not_lt.mp fun c => ?_), h₂⟩
      · have := (hiff _ _).mp c; omega
      · have := (hiff _ _).mp c; omega
  have hlen := length_sortPositions n before
  -- ranks along the list ascend strictly and there are `n` of them below `n`, so each is its place
  have hmono : ∀ (m : ℕ) (hm : m < (sortPositions n before).length), m ≤ rank k ((sortPositions n before)[m]) := by
    intro m
    induction m with
    | zero => intro hm; exact Nat.zero_le _
    | succ m ih =>
      intro hm
      have h1 := ih (Nat.lt_of_succ_lt hm)
      have h2 := List.pairwise_iff_getElem.mp hp m (m + 1) (Nat.lt_of_succ_lt hm) hm (Nat.lt_succ_self m)
      omega
  have hup : ∀ (d m : ℕ) (hm : m < (sortPositions n before).length), m + d + 1 = n → rank k ((sortPositions n before)[m]) ≤ m := by
    intro d
    induction d with
    | zero => intro m hm h; have := rank_lt k ((sortPositions n before)[m]); omega
    | succ d ih =>
      intro m hm h
      have hm1 : m + 1 < (sortPositions n before).length := by omega
      have h1 := ih (m + 1) hm1 (by omega)
      have h2 := List.pairwise_iff_getElem.mp hp m (m + 1) hm hm1 (Nat.lt_succ_self m)
      omega
  have hr : r.val < (sortPositions n before).length := by rw [hlen]; exact r.isLt
  refine (rank_eq_iff k _ r).mp ?_
  show rank k ((sortPositions n before)[r.val]'hr) = r.val
  exact le_antisymm (hup (n - r.val - 1) r.val hr (by have := r.isLt; omega)) (hmono r.val hr)

end Cert.Umbrella

end
-- ==== Proof.Umbrella.lean ====
/- One umbrella: the nine features of each of nine neighbours, from the neighbours' coordinates relative to the point.
   The neighbours are taken in the order of their angle, each makes a triangle with the next one round and the point. -/
module

public import proofs.«01_k».proof.Proof.Pick

@[expose] public section

noncomputable section

namespace Cert.Umbrella

open Idealize.ShloMosaic

/-- A coordinate (or feature) of the nine neighbours. -/
abbrev Col : Type := Fin 9 → EReal

/-- The order of the neighbours by their angle about the point. -/
def order (x y : Col) : Fin 9 → Fin 9 := pick fun t => Ideal.atan2 (y t) (x t)

/-- The first component of the cross product with the next one; the others by turning the coordinates. -/
def cross (y z : Col) : Col := fun s => y s * z (s + 1) - z s * y (s + 1)

/-- The length of a vector. -/
def norm3 (a b c : EReal) : EReal := Ideal.sqrt (a * a + b * b + c * c)

/-- The length of the cross product, twice the triangle's area. -/
def area (x y z : Col) : Col := fun s => norm3 (cross y z s) (cross z x s) (cross x y s)

/-- The first triangle that has an area, or the first of all. -/
def first (n : Col) : Fin 9 := pick (fun s => if n s = 0 then (1 : ℕ) else 0) 0

/-- A component of the normals before their common sign. -/
def unit (x y z : Col) (v : Col) : Col := fun s => Ideal.div (v s) (if area x y z s = 0 then 1 else area x y z s)

/-- The sign that makes the first normal's first component positive. -/
def sign (x y z : Col) : EReal := if 0 < unit x y z (cross y z) 0 then 1 else -1

/-- A coordinate of the triangles' centres. -/
def centre (v : Col) : Col := fun s => (v s + v (s + 1)) * ((1 / 3 : ℝ) : EReal)

/-- The centre's distance from the point. -/
def dist (x y z : Col) : Col := fun s => norm3 (centre x s) (centre y s) (centre z s)

/-- The cosine of the angle between the centre and the third axis. -/
def cosine (x y z : Col) : Col := fun s =>
  min 1 (max (-1) (Ideal.div (centre z s) (if dist x y z s = 0 then 1 else dist x y z s)))

/-- That angle as a part of a half turn. -/
def theta (x y z : Col) : Col := fun s =>
  (if dist x y z s = 0 then 0
    else Ideal.atan2 (Ideal.sqrt (max ((1 - cosine x y z s) * (1 + cosine x y z s)) 0)) (cosine x y z s))
    * ((4194304 / 13176795 : ℝ) : EReal)

/-- The centre's angle about the third axis as a part of a turn, and a half. -/
def turn (x y : Col) : Col := fun s =>
  Ideal.atan2 (centre y s) (centre x s) * ((2097152 / 13176795 : ℝ) : EReal) + ((1 / 2 : ℝ) : EReal)

/-- A triangle without area takes the value of the first that has one. -/
def fix (n v : Col) : Col := fun s => if n s = 0 then v (first n) else v s

/-- The nine features of the neighbours in their order. -/
def ordered (x y z : Col) : Fin 9 → Col :=
  ![fix (area x y z) (centre x), fix (area x y z) (centre y), fix (area x y z) (centre z),
    dist x y z, theta x y z, turn x y,
    fix (area x y z) fun s => unit x y z (cross y z) s * sign x y z,
    fix (area x y z) fun s => unit x y z (cross z x) s * sign x y z,
    fix (area x y z) fun s => unit x y z (cross x y) s * sign x y z]

/-- The nine features, from the neighbours as found. -/
def features (x y z : Col) : Fin 9 → Col :=
  ordered (x ∘ order x y) (y ∘ order x y) (z ∘ order x y)

theorem ofBits_neg_one : Ideal.ofBits .f32 0xBF800000#32 = -1 := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

end Cert.Umbrella

end
-- ==== Proof.Block.lean ====
/- The kernel's block of features, read at an element: it is the umbrella's feature of that neighbour of that point. -/
module

public import proofs.«01_k».proof.Proof.Gen.KernelIdeal.Skeleton
public import proofs.«01_k».proof.Proof.Umbrella
public import Idealize.ShloMosaic.Lib.Pointwise

@[expose] public section

set_option maxRecDepth 16384

noncomputable section

namespace Cert.KernelIdeal.Gen

open Idealize.ShloMosaic Idealize.ShloMosaic.TcCoe
open Cert.Umbrella

section Blocks

variable {F : FTy → Type} [FloatOps F] [Named F]
variable (x y z p : FVec F S9x256 .f32)

/-- Each neighbour's number. -/
def numbers : IVec S9x256 32 := iota .tc S9x256 32 [0] iota_S9x256_d0_w32

/-- Each neighbour's rank by angle. -/
def ranks : IVec S9x256 32 := k0_pay30 p numbers (k0_pay26 p) (k0_pay28 p) (k0_pay29 p)

/-- Where the first neighbour goes. -/
def hot : IVec S9x256 1 := k0_pay34 p numbers (k0_pay26 p) (k0_pay28 p) (k0_pay29 p)

/-- Where the eighth neighbour goes. -/
def hot7 : IVec S9x256 32 := k0_pay49 numbers (ranks p)

/-- The sums over the first seven neighbours. -/
def partX : FVec F S9x256 .f32 := k0_pay46 x numbers (ranks p) (k0_pay41 x numbers (ranks p) k0_pay31 (hot p))
@[inherit_doc partX] def partY : FVec F S9x256 .f32 :=
  k0_pay47 y numbers (ranks p) (k0_pay38 y numbers (ranks p) k0_pay32 (hot p)) (k0_pay42 y numbers (ranks p))
@[inherit_doc partX] def partZ : FVec F S9x256 .f32 :=
  k0_pay48 z numbers (ranks p) (k0_pay39 z numbers (ranks p) k0_pay33 (hot p)) (k0_pay40 numbers (ranks p))

/-- The neighbours in order, and each one's next. -/
def ordX : FVec F S9x256 .f32 := k0_pay52 x numbers (ranks p) (partX x p) (hot7 p)
@[inherit_doc ordX] def ordY : FVec F S9x256 .f32 := k0_pay53 y numbers (ranks p) (partY y p) (hot7 p)
@[inherit_doc ordX] def ordZ : FVec F S9x256 .f32 := k0_pay54 z numbers (ranks p) (partZ z p) (hot7 p)
@[inherit_doc ordX] def nextX : FVec F S9x256 .f32 := k0_pay55 x numbers (ranks p) (partX x p) (hot7 p)
@[inherit_doc ordX] def nextY : FVec F S9x256 .f32 := k0_pay56 y numbers (ranks p) (partY y p) (hot7 p)
@[inherit_doc ordX] def nextZ : FVec F S9x256 .f32 := k0_pay57 z numbers (ranks p) (partZ z p) (hot7 p)

/-- The cross products, their length, whether that is zero. -/
def crX : FVec F S9x256 .f32 := k0_pay58 y z numbers (ranks p) (partY y p) (partZ z p) (hot7 p)
@[inherit_doc crX] def crY : FVec F S9x256 .f32 := k0_pay59 x z numbers (ranks p) (partX x p) (partZ z p) (hot7 p)
@[inherit_doc crX] def crZ : FVec F S9x256 .f32 := k0_pay60 x y numbers (ranks p) (partX x p) (partY y p) (hot7 p)
@[inherit_doc crX] def bad : IVec S9x256 1 := k0_pay62 x y z numbers (ranks p) (partX x p) (partY y p) (partZ z p) (hot7 p)
@[inherit_doc crX] def len : FVec F S9x256 .f32 := k0_pay63 x y z numbers (ranks p) (partX x p) (partY y p) (partZ z p) (hot7 p)

/-- The normals. -/
def norX : FVec F S9x256 .f32 := k0_pay66 (crX y z p) (len x y z p)
@[inherit_doc norX] def norY : FVec F S9x256 .f32 := k0_pay67 (crX y z p) (crY x z p) (len x y z p)
@[inherit_doc norX] def norZ : FVec F S9x256 .f32 := k0_pay68 (crX y z p) (crZ x y p) (len x y z p)

/-- The centres. -/
def cenX : FVec F S9x256 .f32 := k0_pay69 (ordX x p) (nextX x p)
@[inherit_doc cenX] def cenY : FVec F S9x256 .f32 := k0_pay70 (ordY y p) (nextY y p)
@[inherit_doc cenX] def cenZ : FVec F S9x256 .f32 := k0_pay71 (ordZ z p) (nextZ z p)

/-- The centres in polar coordinates. -/
def polR : FVec F S9x256 .f32 := k0_pay72 (ordX x p) (ordY y p) (ordZ z p) (nextX x p) (nextY y p) (nextZ z p)
@[inherit_doc polR] def polT : FVec F S9x256 .f32 :=
  k0_pay76 (k0_pay73 (ordX x p) (ordY y p) (ordZ z p) (nextX x p) (nextY y p) (nextZ z p))
    (k0_pay74 (ordX x p) (ordY y p) (ordZ z p) (nextX x p) (nextY y p) (nextZ z p))
    (k0_pay75 (ordX x p) (ordY y p) (ordZ z p) (nextX x p) (nextY y p) (nextZ z p))
@[inherit_doc polR] def polP : FVec F S9x256 .f32 := k0_pay77 (cenX x p) (cenY y p)

/-- The block of features, from the neighbours' coordinates and their angles. -/
def block : FVec F S9x9x256 .f32 :=
  k0_pay83 (bad x y z p) (cenX x p) (cenY y p) (cenZ z p) (polR x y z p) (polT x y z p) (polP x y p)
    (k0_pay78 numbers (bad x y z p)) (k0_pay79 numbers (bad x y z p) (norX x y z p))
    (k0_pay80 numbers (bad x y z p) (norY x y z p)) (k0_pay81 numbers (bad x y z p) (norZ x y z p))
    (k0_pay82 numbers (bad x y z p) (cenX x p))

end Blocks

/-! ### Read at an element -/

variable (x y z p : FVec Ideal S9x256 .f32) (s : Fin 9) (j : Fin 256)

/-- Column `j` of an array. -/
def col (v : FVec Ideal S9x256 .f32) (j : Fin 256) : Col := fun s => v (ix2 s j)

theorem col_apply (v : FVec Ideal S9x256 .f32) (j : Fin 256) (s : Fin 9) : v (ix2 s j) = col v j s := rfl

/-- One comparison of the ranking, as a number. -/
theorem before_word (k : Col) (t s : Fin 9) (w : BitVec 32) (hw : w = BitVec.ofNat 32 t.val) :
    BitVec.setWidth 32 (IntOp.ori (BitVec.ofBool (decide (k t < k s)))
      (IntOp.andi (BitVec.ofBool (decide (k t = k s))) (IntOp.cmpi CmpIPredicate.sgt (BitVec.ofNat 32 s.val) w)))
      = BitVec.ofNat 32 (if Before k t s then 1 else 0) := by
  subst hw
  have hc : IntOp.cmpi CmpIPredicate.sgt (BitVec.ofNat 32 s.val) (BitVec.ofNat 32 t.val) = BitVec.ofBool (decide (t < s)) := by
    revert s t; decide
  rw [hc]
  unfold Before
  by_cases h₁ : k t < k s <;> by_cases h₂ : k t = k s <;> by_cases h₃ : t < s <;> simp [h₁, h₂, h₃, IntOp.ori, IntOp.andi]

theorem rank_sum (k : Col) (s : Fin 9) : rank k s = ∑ t, if Before k t s then 1 else 0 := by
  rw [rank, Finset.card_filter]

/-- Column `j` in the order of column `j` of `p`. -/
def sorted (v p : FVec Ideal S9x256 .f32) (j : Fin 256) : Col := col v j ∘ pick (col p j)

/-- The ranks are the ranks. -/
theorem ranks_apply : ranks p (ix2 s j) = BitVec.ofNat 32 (rank (col p j) s) := by
  unfold ranks numbers
  pointwise [k0_pay30, k0_pay26, k0_pay28, k0_pay29, k0_pay27]
  have h := fun t w hw => before_word (fun t => p (ix2 t j)) t s w hw
  beta_reduce at h
  rw [h 0 0#32 rfl, h 1 1#32 rfl, h 2 2#32 rfl, h 3 3#32 rfl, h 4 4#32 rfl, h 5 5#32 rfl, h 6 6#32 rfl, h 7 7#32 rfl,
    h 8 8#32 rfl, rank_sum]
  simp only [Fin.sum_univ_castSucc, BitVec.ofNat_add, IntOp.addi]
  rfl

/-- One entry of the table that sends neighbours to their ranks. -/
theorem hot_word (k : Col) (r s : Fin 9) :
    FloatOps.sitofp (F := Ideal) .f32 (BitVec.setWidth 32 (IntOp.cmpi CmpIPredicate.eq (BitVec.ofNat 32 (rank k r)) (BitVec.ofNat 32 s.val)))
      = if r = pick k s then (1 : EReal) else 0 := by
  have hc : ∀ a b : Fin 9, IntOp.cmpi CmpIPredicate.eq (BitVec.ofNat 32 a.val) (BitVec.ofNat 32 b.val) = BitVec.ofBool (decide (a = b)) := by
    decide
  have h := hc ⟨rank k r, rank_lt k r⟩ s
  simp only at h
  rw [h]
  have hi : (⟨rank k r, rank_lt k r⟩ : Fin 9) = s ↔ r = pick k s := by
    rw [← rank_eq_iff, Fin.ext_iff]
  by_cases hh : r = pick k s
  · rw [if_pos hh, decide_eq_true (hi.mpr hh)]
    show (((BitVec.setWidth 32 (BitVec.ofBool true)).toInt : ℝ) : EReal) = 1
    simp
  · rw [if_neg hh, decide_eq_false (fun c => hh (hi.mp c))]
    show (((BitVec.setWidth 32 (BitVec.ofBool false)).toInt : ℝ) : EReal) = 0
    simp

theorem one_of_nine (q : Fin 9) (v : Col) :
    (if (0 : Fin 9) = q then (1 : EReal) else 0) * v 0 + (if (1 : Fin 9) = q then (1 : EReal) else 0) * v 1
      + (if (2 : Fin 9) = q then (1 : EReal) else 0) * v 2 + (if (3 : Fin 9) = q then (1 : EReal) else 0) * v 3
      + (if (4 : Fin 9) = q then (1 : EReal) else 0) * v 4 + (if (5 : Fin 9) = q then (1 : EReal) else 0) * v 5
      + (if (6 : Fin 9) = q then (1 : EReal) else 0) * v 6 + (if (7 : Fin 9) = q then (1 : EReal) else 0) * v 7
      + (if (8 : Fin 9) = q then (1 : EReal) else 0) * v 8 = v q := by
  fin_cases q <;> simp

theorem ordX_apply : ordX x p (ix2 s j) = col x j (pick (col p j) s) := by
  have h : k0_pay30 p (iota Kind.tc S9x256 32 [0] iota_S9x256_d0_w32) (k0_pay26 p) (k0_pay28 p) (k0_pay29 p) = ranks p := rfl
  unfold ordX partX hot7 hot numbers
  pointwise [k0_pay52, k0_pay50, k0_pay51, k0_pay49, k0_pay46, k0_pay45, k0_pay44, k0_pay43, k0_pay41, k0_pay40, k0_pay37, k0_pay36, k0_pay35,
    k0_pay34, k0_pay31]
  simp only [h, ranks_apply, hot_word]
  exact one_of_nine _ (col x j)

theorem ordY_apply : ordY y p (ix2 s j) = col y j (pick (col p j) s) := by
  have h : k0_pay30 p (iota Kind.tc S9x256 32 [0] iota_S9x256_d0_w32) (k0_pay26 p) (k0_pay28 p) (k0_pay29 p) = ranks p := rfl
  unfold ordY partY hot7 hot numbers
  pointwise [k0_pay53, k0_pay50, k0_pay51, k0_pay49, k0_pay47, k0_pay45, k0_pay44, k0_pay43, k0_pay42, k0_pay40, k0_pay38, k0_pay37, k0_pay36, k0_pay35,
    k0_pay34, k0_pay32]
  simp only [h, ranks_apply, hot_word]
  exact one_of_nine _ (col y j)

theorem ordZ_apply : ordZ z p (ix2 s j) = col z j (pick (col p j) s) := by
  have h : k0_pay30 p (iota Kind.tc S9x256 32 [0] iota_S9x256_d0_w32) (k0_pay26 p) (k0_pay28 p) (k0_pay29 p) = ranks p := rfl
  unfold ordZ partZ hot7 hot numbers
  pointwise [k0_pay54, k0_pay50, k0_pay51, k0_pay49, k0_pay48, k0_pay45, k0_pay44, k0_pay43, k0_pay39, k0_pay40, k0_pay37, k0_pay36, k0_pay35,
    k0_pay34, k0_pay33]
  simp only [h, ranks_apply, hot_word]
  exact one_of_nine _ (col z j)

/-- Turning the rows by one reads the next row. -/
theorem turn_rows (v : FVec Ideal S9x256 .f32) :
    (if h : s.val < 8 then v (ix2 ⟨1 + s.val, by omega⟩ j) else v (ix2 ⟨s.val - 8, by omega⟩ j)) = v (ix2 (s + 1) j) := by
  fin_cases s <;> rfl

theorem nextX_apply : nextX x p (ix2 s j) = col x j (pick (col p j) (s + 1)) := by
  have h : nextX x p (ix2 s j) = ordX x p (ix2 (s + 1) j) := by
    rw [← turn_rows s j (ordX x p)]; unfold nextX ordX
    pointwise [k0_pay55]
  rw [h, ordX_apply]

theorem nextY_apply : nextY y p (ix2 s j) = col y j (pick (col p j) (s + 1)) := by
  have h : nextY y p (ix2 s j) = ordY y p (ix2 (s + 1) j) := by
    rw [← turn_rows s j (ordY y p)]; unfold nextY ordY
    pointwise [k0_pay56]
  rw [h, ordY_apply]

theorem nextZ_apply : nextZ z p (ix2 s j) = col z j (pick (col p j) (s + 1)) := by
  have h : nextZ z p (ix2 s j) = ordZ z p (ix2 (s + 1) j) := by
    rw [← turn_rows s j (ordZ z p)]; unfold nextZ ordZ
    pointwise [k0_pay57]
  rw [h, ordZ_apply]

theorem crX_apply : crX y z p (ix2 s j) = cross (sorted y p j) (sorted z p j) s := by
  have h : crX y z p = subf (mulf (ordY y p) (nextZ z p)) (mulf (ordZ z p) (nextY y p)) := rfl
  rw [h]
  pointwise
  rw [ordY_apply, ordZ_apply, nextY_apply, nextZ_apply]; rfl

theorem crY_apply : crY x z p (ix2 s j) = cross (sorted z p j) (sorted x p j) s := by
  have h : crY x z p = subf (mulf (ordZ z p) (nextX x p)) (mulf (ordX x p) (nextZ z p)) := rfl
  rw [h]
  pointwise
  rw [ordX_apply, ordZ_apply, nextX_apply, nextZ_apply]; rfl

theorem crZ_apply : crZ x y p (ix2 s j) = cross (sorted x p j) (sorted y p j) s := by
  have h : crZ x y p = subf (mulf (ordX x p) (nextY y p)) (mulf (ordY y p) (nextX x p)) := rfl
  rw [h]
  pointwise
  rw [ordX_apply, ordY_apply, nextX_apply, nextY_apply]; rfl

theorem len_eq : len x y z p = select (bad x y z p) (broadcast S9x256 (Scalar.ofBits (F := Ideal) .f32 0x3F800000#32))
    (sqrt (addf (addf (mulf (crX y z p) (crX y z p)) (mulf (crY x z p) (crY x z p))) (mulf (crZ x y p) (crZ x y p)))) := rfl

theorem bad_eq : bad x y z p = cmpf .oeq
    (sqrt (addf (addf (mulf (crX y z p) (crX y z p)) (mulf (crY x z p) (crY x z p))) (mulf (crZ x y p) (crZ x y p))))
    (broadcast S9x256 (Scalar.ofBits (F := Ideal) .f32 0x00000000#32)) := rfl

theorem bad_apply : bad x y z p (ix2 s j) = BitVec.ofBool (decide (area (sorted x p j) (sorted y p j) (sorted z p j) s = 0)) := by
  rw [bad_eq]
  pointwise
  rw [crX_apply, crY_apply, crZ_apply]; rfl

theorem len_apply : len x y z p (ix2 s j) = if area (sorted x p j) (sorted y p j) (sorted z p j) s = 0 then 1 else area (sorted x p j) (sorted y p j) (sorted z p j) s := by
  rw [len_eq]
  pointwise
  rw [crX_apply, crY_apply, crZ_apply, bad_apply]
  by_cases h : area (sorted x p j) (sorted y p j) (sorted z p j) s = 0
  · simp only [h, decide_true, if_true]; rfl
  · simp only [h, decide_false, if_false]; rfl

theorem norX_apply : norX x y z p (ix2 s j) = unit (sorted x p j) (sorted y p j) (sorted z p j) (cross (sorted y p j) (sorted z p j)) s * sign (sorted x p j) (sorted y p j) (sorted z p j) := by
  unfold norX
  pointwise [k0_pay66, k0_pay65, k0_pay64]
  simp only [crX_apply, len_apply, ofBits_neg_one]; rfl

theorem norY_apply : norY x y z p (ix2 s j) = unit (sorted x p j) (sorted y p j) (sorted z p j) (cross (sorted z p j) (sorted x p j)) s * sign (sorted x p j) (sorted y p j) (sorted z p j) := by
  unfold norY
  pointwise [k0_pay67, k0_pay65, k0_pay64]
  simp only [crX_apply, crY_apply, len_apply, ofBits_neg_one]; rfl

theorem norZ_apply : norZ x y z p (ix2 s j) = unit (sorted x p j) (sorted y p j) (sorted z p j) (cross (sorted x p j) (sorted y p j)) s * sign (sorted x p j) (sorted y p j) (sorted z p j) := by
  unfold norZ
  pointwise [k0_pay68, k0_pay65, k0_pay64]
  simp only [crX_apply, crZ_apply, len_apply, ofBits_neg_one]; rfl

theorem cenX_apply : cenX x p (ix2 s j) = centre (sorted x p j) s := by
  unfold cenX
  pointwise [k0_pay69]
  rw [ordX_apply, nextX_apply]; rfl

theorem cenY_apply : cenY y p (ix2 s j) = centre (sorted y p j) s := by
  unfold cenY
  pointwise [k0_pay70]
  rw [ordY_apply, nextY_apply]; rfl

theorem cenZ_apply : cenZ z p (ix2 s j) = centre (sorted z p j) s := by
  unfold cenZ
  pointwise [k0_pay71]
  rw [ordZ_apply, nextZ_apply]; rfl

theorem polR_eq : polR x y z p = sqrt (addf (addf (mulf (cenX x p) (cenX x p)) (mulf (cenY y p) (cenY y p)))
    (mulf (cenZ z p) (cenZ z p))) := rfl

theorem polR_apply : polR x y z p (ix2 s j) = dist (sorted x p j) (sorted y p j) (sorted z p j) s := by
  rw [polR_eq]
  pointwise
  rw [cenX_apply, cenY_apply, cenZ_apply]; rfl

theorem polP_apply : polP x y p (ix2 s j) = turn (sorted x p j) (sorted y p j) s := by
  unfold polP
  pointwise [k0_pay77]
  rw [cenX_apply, cenY_apply, ofBits_half]; rfl

theorem polT_eq : polT x y z p = k0_pay76 (cmpf .oeq (polR x y z p) (broadcast S9x256 (Scalar.ofBits (F := Ideal) .f32 0x00000000#32)))
    (k0_pay74 (ordX x p) (ordY y p) (ordZ z p) (nextX x p) (nextY y p) (nextZ z p))
    (k0_pay75 (ordX x p) (ordY y p) (ordZ z p) (nextX x p) (nextY y p) (nextZ z p)) := rfl

theorem cos_apply : k0_pay74 (ordX x p) (ordY y p) (ordZ z p) (nextX x p) (nextY y p) (nextZ z p) (ix2 s j) = cosine (sorted x p j) (sorted y p j) (sorted z p j) s := by
  have h : k0_pay74 (ordX x p) (ordY y p) (ordZ z p) (nextX x p) (nextY y p) (nextZ z p) =
    minimumf (broadcast S9x256 (Scalar.ofBits (F := Ideal) .f32 0x3F800000#32)) (maximumf (broadcast S9x256 (Scalar.ofBits (F := Ideal) .f32 0xBF800000#32))
      (divf (cenZ z p) (select (cmpf .oeq (polR x y z p) (broadcast S9x256 (Scalar.ofBits (F := Ideal) .f32 0x00000000#32)))
        (broadcast S9x256 (Scalar.ofBits (F := Ideal) .f32 0x3F800000#32)) (polR x y z p)))) := rfl
  rw [h]
  pointwise
  rw [cenZ_apply, polR_apply, ofBits_neg_one]; rfl

theorem polT_apply : polT x y z p (ix2 s j) = theta (sorted x p j) (sorted y p j) (sorted z p j) s := by
  rw [polT_eq]
  pointwise [k0_pay76, k0_pay75]
  rw [cos_apply, polR_apply]; rfl

/-- The least of several words, read as numbers. -/
theorem fold_minsi {ι : Type} [DecidableEq ι] (g : ι → ℕ) (m : ℕ) (hm : m < 2 ^ 31) (S : Finset ι) (hg : ∀ i ∈ S, g i < 2 ^ 31) :
    S.fold IntOp.minsi (BitVec.ofNat 32 m) (fun i => BitVec.ofNat 32 (g i)) = BitVec.ofNat 32 (S.fold min m g) := by
  induction S using Finset.induction_on with
  | empty => rfl
  | insert a S ha ih =>
    rw [Finset.fold_insert ha, Finset.fold_insert ha, ih fun i hi => hg i (Finset.mem_insert_of_mem hi)]
    have h₁ := hg a (Finset.mem_insert_self a S)
    have h₂ : S.fold min m g < 2 ^ 31 := lt_of_le_of_lt ((Finset.fold_min_le m).mpr (.inl le_rfl)) hm
    generalize S.fold min m g = b at *
    generalize g a = c at *
    show (if (BitVec.ofNat 32 c).slt (BitVec.ofNat 32 b) then BitVec.ofNat 32 c else BitVec.ofNat 32 b) = _
    have hs : (BitVec.ofNat 32 c).slt (BitVec.ofNat 32 b) = decide (c < b) := by
      have e : ∀ d : ℕ, d < 2 ^ 31 → (BitVec.ofNat 32 d).toInt = d := fun d hd => by
        rw [BitVec.toInt_eq_toNat_of_lt] <;> simp only [BitVec.toNat_ofNat] <;> omega
      rw [BitVec.slt, e c h₁, e b h₂]; simp
    rw [hs]
    rcases lt_or_ge c b with h | h
    · rw [decide_eq_true h, if_pos rfl, min_eq_left h.le]
    · rw [decide_eq_false h.not_gt, if_neg (by simp), min_eq_right h]

theorem first_lt (n : Col) (h : ∃ s, n s ≠ 0) : n (first n) ≠ 0 ∧ ∀ t, n t ≠ 0 → first n ≤ t := by
  obtain ⟨s, hs⟩ := h
  have h₀ := pick_le (fun s => if n s = 0 then (1 : ℕ) else 0) 0 s (Nat.zero_le _)
  have hf : n (first n) ≠ 0 := by
    intro hc
    rw [if_neg hs] at h₀
    unfold first at hc
    rw [if_pos hc] at h₀
    omega
  refine ⟨hf, fun t ht => pick_le_index (fun s => if n s = 0 then (1 : ℕ) else 0) 0 t (Nat.zero_le _) ?_⟩
  have hf' := hf
  unfold first at hf'
  rw [if_neg ht, if_neg hf']

theorem first_zero (n : Col) (h : ∀ s, n s = 0) : first n = 0 := by
  have := pick_le_index (fun s => if n s = 0 then (1 : ℕ) else 0) 0 0 (Nat.zero_le _) (by simp [h])
  exact le_antisymm this (Fin.zero_le _)

/-- The first good neighbour's number, from the smallest number that is not masked. -/
theorem first_word (b : Fin 9 → BitVec 1) (n : Col) (hb : ∀ s, b s = BitVec.ofBool (decide (n s = 0))) (s : Fin 9) :
    IntOp.cmpi CmpIPredicate.eq (BitVec.ofNat 32 ↑s)
      (Scalar.select
        (IntOp.cmpi CmpIPredicate.eq
          (Finset.fold IntOp.minsi (2147483647#32)
            (fun x => Scalar.select (IntOp.xori (b x) 1#1) (BitVec.ofNat 32 x.val) 9#32) Finset.univ)
          9#32)
        (0#32)
        (Finset.fold IntOp.minsi (2147483647#32)
          (fun x => Scalar.select (IntOp.xori (b x) 1#1) (BitVec.ofNat 32 x.val) 9#32) Finset.univ))
      = BitVec.ofBool (decide (s = first n)) := by
  have hf : (fun x : Fin 9 => Scalar.select (IntOp.xori (b x) 1#1) (BitVec.ofNat 32 x.val) 9#32)
      = fun x => BitVec.ofNat 32 (if n x = 0 then 9 else x.val) := by
    funext x
    rw [hb x]
    by_cases h : n x = 0 <;> simp [h, IntOp.xori, Scalar.select]
  rw [hf, fold_minsi _ 2147483647 (by norm_num) _ (fun i _ => by split <;> omega)]
  have hc : ∀ a b : Fin 9, IntOp.cmpi CmpIPredicate.eq (BitVec.ofNat 32 a.val) (BitVec.ofNat 32 b.val) = BitVec.ofBool (decide (a = b)) := by
    decide
  by_cases hn : ∃ t, n t ≠ 0
  · obtain ⟨h₁, h₂⟩ := first_lt n hn
    have e : Finset.univ.fold min 2147483647 (fun x : Fin 9 => if n x = 0 then 9 else x.val) = (first n).val := by
      apply le_antisymm
      · exact (Finset.fold_min_le _).mpr (.inr ⟨first n, Finset.mem_univ _, by rw [if_neg h₁]⟩)
      · refine (Finset.le_fold_min _).mpr ⟨by omega, fun t _ => ?_⟩
        split
        · omega
        · exact h₂ t ‹_›
    rw [e, ← hc]
    have h9 : ∀ a : Fin 9, Scalar.select (IntOp.cmpi CmpIPredicate.eq (BitVec.ofNat 32 a.val) 9#32) 0#32 (BitVec.ofNat 32 a.val)
        = BitVec.ofNat 32 a.val := by decide
    rw [h9]
  · have hn' : ∀ t, n t = 0 := fun t => not_not.mp fun h => hn ⟨t, h⟩
    have e : Finset.univ.fold min 2147483647 (fun x : Fin 9 => if n x = 0 then 9 else x.val) = 9 := by
      simp only [hn', if_true]
      rfl
    rw [e, first_zero n hn', ← hc]
    rfl

theorem mask_apply : k0_pay78 numbers (bad x y z p) (ix2 s j) = BitVec.ofBool (decide (s = first (area (sorted x p j) (sorted y p j) (sorted z p j)))) := by
  unfold numbers
  pointwise [k0_pay78]
  exact first_word (fun t => bad x y z p (ix2 t j)) _ (fun t => bad_apply x y z p t j) s

theorem masked_sum (q : Fin 9) (v : Col) : ∑ t, Scalar.select (BitVec.ofBool (decide (t = q))) (v t) 0 = v q := by
  rw [Finset.sum_eq_single q]
  · simp [Scalar.select]
  · intro t _ h; simp [Scalar.select, h]
  · simp

theorem fix_select (n v : Col) : Scalar.select (BitVec.ofBool (decide (n s = 0)))
    (∑ t, Scalar.select (BitVec.ofBool (decide (t = first n))) (v t) 0) (v s) = fix n v s := by
  rw [masked_sum, fix]
  by_cases h : n s = 0 <;> simp [h, Scalar.select]

theorem block_apply (c : Fin 9) :
    block x y z p (ix3 c s j) = ordered (sorted x p j) (sorted y p j) (sorted z p j) c s := by
  unfold block
  fin_cases c
  all_goals pointwise [k0_pay83, k0_pay82, k0_pay81, k0_pay80, k0_pay79]
  all_goals simp only [bad_apply, mask_apply, cenX_apply, cenY_apply, cenZ_apply, polR_apply, polT_apply, polP_apply, norX_apply, norY_apply, norZ_apply]
  all_goals first | rfl | exact fix_select s _ _

end Cert.KernelIdeal.Gen

end
-- ==== Proof.Nearest.lean ====
/- The nearest points found one by one: the least of the distances that are left, the first row that has it,
   in four chunks of rows; then that row is struck out. -/
module

public import proofs.«01_k».proof.Proof.Pick
public import Mathlib.Data.EReal.Basic
public import Mathlib.Data.Finset.Fold

@[expose] public section

noncomputable section

namespace Cert.Umbrella

/-- The rows' values when the first `r` in order have been struck out. -/
def left {n : ℕ} (d : Fin n → EReal) (r : ℕ) : Fin n → EReal := fun i => if rank d i < r then ⊤ else d i

theorem left_zero {n : ℕ} (d : Fin n → EReal) : left d 0 = d := funext fun i => if_neg (by simp)

theorem left_succ {n : ℕ} (d : Fin n → EReal) (r : Fin n) :
    left d (r.val + 1) = fun i => if i = pick d r then ⊤ else left d r i := by
  funext i
  unfold left
  have h := rank_eq_iff d i r
  by_cases h₁ : i = pick d r
  · have := h.mpr h₁
    rw [if_pos h₁, if_pos (by omega)]
  · have h₂ : rank d i ≠ r.val := fun e => h₁ (h.mp e)
    rw [if_neg h₁]
    by_cases h₃ : rank d i < r.val
    · rw [if_pos h₃, if_pos (by omega)]
    · rw [if_neg h₃, if_neg (by omega)]

/-- Among the rows below `b`: `m` is the least value, `w` the word of the first row that has it, or of `n` if none is below `⊤`. -/
def Least {n : ℕ} (d : Fin n → EReal) (b : ℕ) (m : EReal) (w : BitVec 32) : Prop :=
  (∀ i, i.val < b → m ≤ d i) ∧
    ((m = ⊤ ∧ w = BitVec.ofNat 32 n) ∨
      ∃ i : Fin n, i.val < b ∧ d i = m ∧ m < ⊤ ∧ w = BitVec.ofNat 32 i.val ∧ ∀ i' : Fin n, i' < i → m < d i')

theorem Least.zero {n : ℕ} (d : Fin n → EReal) : Least d 0 ⊤ (BitVec.ofNat 32 n) :=
  ⟨fun _ h => absurd h (by omega), .inl ⟨rfl, rfl⟩⟩

/-- The least of a chunk of `c` rows, its first row: `f` is the smallest number of a row that has the least value. -/
theorem Least.step {n : ℕ} {d : Fin n → EReal} {b : ℕ} {m : EReal} {w : BitVec 32} (h : Least d b m w) (c : ℕ) (hb : b + c ≤ n)
    (e : Fin c → EReal) (he : ∀ x : Fin c, e x = d ⟨b + x.val, by omega⟩) (u : EReal) (hu : ∀ x, u ≤ e x) (hu' : u = ⊤ ∨ ∃ x, e x = u)
    (f : ℕ) (hf : ∀ x, e x = u → f ≤ b + x.val) (hf' : (∃ x, e x = u) → ∃ x, e x = u ∧ f = b + x.val) :
    Least d (b + c) (if u < m then u else m) (if u < m then BitVec.ofNat 32 f else w) := by
  obtain ⟨h₁, h₂⟩ := h
  have hrow : ∀ (i : Fin n) (hb' : b ≤ i.val) (hi : i.val < b + c), d i = e ⟨i.val - b, by omega⟩ := fun i hi hi' => by
    rw [he]; congr 1; exact Fin.ext (by simp; omega)
  have hge : ∀ i : Fin n, b ≤ i.val → i.val < b + c → u ≤ d i := fun i hi hi' => by
    rw [hrow i hi hi']; exact hu _
  by_cases hc : u < m
  · simp only [if_pos hc]
    refine ⟨fun i hi => ?_, .inr ?_⟩
    · rcases lt_or_ge i.val b with hi' | hi'
      · exact hc.le.trans (h₁ i hi')
      · exact hge i hi' hi
    · have hut : u < ⊤ := lt_of_lt_of_le hc le_top
      obtain ⟨x, hx, hfx⟩ := hf' (hu'.resolve_left hut.ne)
      refine ⟨⟨b + x.val, by omega⟩, by simp, by rw [← he, hx], hut, congrArg (BitVec.ofNat 32) hfx, fun i hi => ?_⟩
      rcases lt_or_ge i.val b with hi' | hi'
      · exact lt_of_lt_of_le hc (h₁ i hi')
      · have hlt : i.val < b + x.val := hi
        refine lt_of_le_of_ne (hge i hi' (by omega)) fun hne => ?_
        have := hf ⟨i.val - b, by omega⟩ (by rw [← hrow i hi' (by omega), ← hne])
        simp only at this
        omega
  · simp only [if_neg hc]
    have hc' := not_lt.mp hc
    refine ⟨fun i hi => ?_, ?_⟩
    · rcases lt_or_ge i.val b with hi' | hi'
      · exact h₁ i hi'
      · exact hc'.trans (hge i hi' hi)
    · rcases h₂ with h₂ | ⟨i, hi, h₃⟩
      · exact .inl h₂
      · exact .inr ⟨i, by omega, h₃⟩

/-- After all rows, the word is the next row in order. -/
theorem Least.pick {n : ℕ} {d : Fin n → EReal} (hd : ∀ i, d i < ⊤) (r : Fin n) {m : EReal} {w : BitVec 32}
    (h : Least (left d r) n m w) : w = BitVec.ofNat 32 (pick d r).val := by
  obtain ⟨h₁, h₂⟩ := h
  have hp : left d r (Cert.Umbrella.pick d r) = d (Cert.Umbrella.pick d r) := by
    unfold left; rw [if_neg (by rw [rank_pick]; omega)]
  have hm : m ≤ d (Cert.Umbrella.pick d r) := hp ▸ h₁ _ (Fin.isLt _)
  rcases h₂ with ⟨ht, _⟩ | ⟨i, _, hi, ht, hw, hmin⟩
  · exact absurd (ht ▸ hm) (not_le.mpr (hd _))
  · have hr : ¬ rank d i < r.val := fun hc => by
      unfold left at hi; rw [if_pos hc] at hi; exact ht.ne hi.symm
    have hi' : d i = m := by unfold left at hi; rwa [if_neg hr] at hi
    have he : d i = d (Cert.Umbrella.pick d r) :=
      le_antisymm (hi' ▸ hm) (pick_le d r i (not_lt.mp hr))
    have hle := pick_le_index d r i (not_lt.mp hr) he
    rw [hw]
    congr 2
    refine (le_antisymm hle (not_lt.mp fun hc => ?_)).symm
    have := hmin _ hc
    rw [hp, ← he, hi'] at this
    exact lt_irrefl _ this

end Cert.Umbrella

end
-- ==== Proof.Found.lean ====
/- What the rounds find: after the last, row `r` of each array holds that coordinate of the point that is `r`-th in order
   of its distance. -/
module

public import proofs.«01_k».proof.Proof.Block
public import proofs.«01_k».proof.Proof.Nearest
public import proofs.«01_k».proof.Proof.Rounds
public import Idealize.ShloMosaic.Lib.WritesUnit

@[expose] public section

set_option maxRecDepth 16384

noncomputable section

namespace Cert.KernelIdeal.Gen

open Idealize.ShloMosaic Idealize.ShloMosaic.TcCoe Idealize.SL.Sem
open Cert.Umbrella

theorem trips1 : k0_t1_loop.trips = 10 := by decide
theorem trips2 : k0_t2_loop.trips = 4 := by decide
theorem trips3 : k0_t3_loop.trips = 4 := by decide
theorem lt1 (k : Fin k0_t1_loop.trips) : k.val < 10 := lt_of_lt_of_eq k.isLt trips1
theorem lt2 (k : Fin k0_t2_loop.trips) : k.val < 4 := lt_of_lt_of_eq k.isLt trips2
theorem lt3 (k : Fin k0_t3_loop.trips) : k.val < 4 := lt_of_lt_of_eq k.isLt trips3
theorem off1 : ∀ k, k0_off1 k = ![1024 * k.val, 0] := by decide
theorem off2 : ∀ k, k0_off2 k = ![1024 * k.val, 0] := by decide
theorem off3 : ∀ k, k0_off3 k = ![0, 1024 * k.val, 0] := by decide
theorem off4 : ∀ k, k0_off4 k = ![0, 1024 * k.val, 1] := by decide
theorem off5 : ∀ k, k0_off5 k = ![0, 1024 * k.val, 2] := by decide
theorem word1 : ∀ k : Fin k0_t1_loop.trips, Scf.iv 0#32 1#32 k = BitVec.ofNat 32 k.val := by decide
theorem word2 : ∀ k : Fin k0_t2_loop.trips, Scalar.muli (Scf.iv 0#32 1#32 k) 1024#32 = BitVec.ofNat 32 (1024 * k.val) := by decide
theorem word3 : ∀ k : Fin k0_t3_loop.trips, Scalar.muli (Scf.iv 0#32 1#32 k) 1024#32 = BitVec.ofNat 32 (1024 * k.val) := by decide

theorem ofBits_top : Ideal.ofBits .f32 0x7F800000#32 = ⊤ := by simp [Ideal.ofBits, Ideal.ieee]

/-- The numbers of a chunk's rows. -/
abbrev rowsIota : IVec S1024x256 32 := iota .tc S1024x256 32 [0] iota_S1024x256_d0_w32

/-! ### One chunk -/

section Chunk

variable (e : Vec Ideal S1024x256 .f32) (j : Fin 256)

theorem least_eq : k0_pay13 e (ix2 0 j) = Finset.univ.fold min ⊤ fun x => e (ix2 x j) := by
  pointwise [k0_pay13]
  rw [ofBits_top]

theorem least_le (x : Fin 1024) : k0_pay13 e (ix2 0 j) ≤ e (ix2 x j) := by
  rw [least_eq]; exact (Finset.fold_min_le _).mpr (.inr ⟨x, Finset.mem_univ _, le_rfl⟩)

theorem least_mem : k0_pay13 e (ix2 0 j) = ⊤ ∨ ∃ x, e (ix2 x j) = k0_pay13 e (ix2 0 j) := by
  rw [least_eq]
  by_cases h : Finset.univ.fold min ⊤ (fun x => e (ix2 x j)) = ⊤
  · exact .inl h
  · right
    have hlt := lt_of_le_of_ne le_top h
    rcases (Finset.fold_min_le _).mp (le_refl (Finset.univ.fold min ⊤ fun x => e (ix2 x j))) with h' | ⟨x, _, hx⟩
    · exact absurd h' (not_le.mpr hlt)
    · exact ⟨x, le_antisymm hx ((Finset.le_fold_min _).mp le_rfl |>.2 x (Finset.mem_univ _))⟩

theorem search_step {d : Fin 4096 → EReal} (k : Fin k0_t2_loop.trips) (acc : FVec Ideal S1x256 .f32 × IVec S1x256 32)
    (h : Least d (1024 * k.val) (acc.1 (ix2 0 j)) (acc.2 (ix2 0 j)))
    (he : ∀ x : Fin 1024, e (ix2 x j) = d ⟨1024 * k.val + x.val, by have := lt2 k; omega⟩) :
    Least d (1024 * (k.val + 1)) (k0_pay15 acc.1 e (ix2 0 j)) (k0_pay16 k acc.1 acc.2 e (ix2 0 j)) := by
  have hk := lt2 k
  have e15 : k0_pay15 acc.1 e (ix2 0 j) = if k0_pay13 e (ix2 0 j) < acc.1 (ix2 0 j) then k0_pay13 e (ix2 0 j) else acc.1 (ix2 0 j) := by
    pointwise [k0_pay15, k0_pay14]
  let g : Fin 1024 → ℕ := fun x => if e (ix2 x j) = k0_pay13 e (ix2 0 j) then 1024 * k.val + x.val else 4096
  have e16 : k0_pay16 k acc.1 acc.2 e (ix2 0 j)
      = if k0_pay13 e (ix2 0 j) < acc.1 (ix2 0 j) then BitVec.ofNat 32 (Finset.univ.fold min 2147483647 g) else acc.2 (ix2 0 j) := by
    pointwise [k0_pay16, k0_pay14]
    rw [← fold_minsi _ 2147483647 (by norm_num) _ (fun i _ => by show g i < _; simp only [g]; split <;> omega)]
    congr 2
    funext x
    simp only [g]
    split
    · rw [word2, IntOp.addi, ← BitVec.ofNat_add, Nat.add_comm]
    · rfl
  rw [e15, e16, Nat.mul_add, Nat.mul_one]
  refine h.step 1024 (by omega) (fun x => e (ix2 x j)) he _ (least_le e j) (least_mem e j) _ (fun x hx => ?_) fun hx => ?_
  · refine (Finset.fold_min_le _).mpr (.inr ⟨x, Finset.mem_univ _, ?_⟩)
    simp only [g]; rw [if_pos hx]
  · obtain ⟨x₀, hx₀⟩ := hx
    have hle : Finset.univ.fold min 2147483647 g ≤ 1024 * k.val + x₀.val := by
      refine (Finset.fold_min_le _).mpr (.inr ⟨x₀, Finset.mem_univ _, ?_⟩)
      simp only [g]; rw [if_pos hx₀]
    rcases (Finset.fold_min_le _).mp (le_refl (Finset.univ.fold min 2147483647 g)) with h' | ⟨x, _, hx⟩
    · omega
    · have hge := ((Finset.le_fold_min _).mp (le_refl (Finset.univ.fold min 2147483647 g))).2 x (Finset.mem_univ _)
      have heq := le_antisymm hge hx
      by_cases hc : e (ix2 x j) = k0_pay13 e (ix2 0 j)
      · have hg : g x = 1024 * k.val + x.val := if_pos hc
        exact ⟨x, hc, heq.trans hg⟩
      · have hg : g x = 4096 := if_neg hc
        have := x₀.isLt
        omega

theorem mask_chunk (k : Fin k0_t3_loop.trips) (w : IVec S1x256 32) (p : Fin 4096) (hw : w (ix2 0 j) = BitVec.ofNat 32 p.val) (x : Fin 1024) :
    k0_pay3 rowsIota w 0#32 1#32 k (ix2 x j) = BitVec.ofBool (decide (1024 * k.val + x.val = p.val)) := by
  have hk := lt3 k
  pointwise [k0_pay3]
  rw [word3, hw, IntOp.addi, ← BitVec.ofNat_add]
  have : (BitVec.ofNat 32 (x.val + 1024 * k.val) = BitVec.ofNat 32 p.val) ↔ 1024 * k.val + x.val = p.val := by
    rw [← BitVec.toNat_inj]; simp only [BitVec.toNat_ofNat]; omega
  show BitVec.ofBool (_ == _) = _
  congr 1
  rw [Bool.eq_iff_iff, beq_iff_eq, decide_eq_true_iff, this]

theorem chunk_sum (k : Fin k0_t3_loop.trips) (w : IVec S1x256 32) (p : Fin 4096) (hw : w (ix2 0 j) = BitVec.ofNat 32 p.val)
    (v : Fin 4096 → EReal) (m : EReal) (hm : m = if p.val < 1024 * k.val then v p else 0)
    (u : Fin 1024 → EReal) (hu : ∀ x : Fin 1024, u x = v ⟨1024 * k.val + x.val, by have := lt3 k; omega⟩) :
    m + ∑ x, Scalar.select (k0_pay3 rowsIota w 0#32 1#32 k (ix2 x j)) (u x) 0 = if p.val < 1024 * (k.val + 1) then v p else 0 := by
  have hk := lt3 k
  simp only [mask_chunk j k w p hw]
  by_cases h : 1024 * k.val ≤ p.val ∧ p.val < 1024 * (k.val + 1)
  · rw [Finset.sum_eq_single ⟨p.val - 1024 * k.val, by omega⟩]
    · rw [hm, if_neg (by omega), if_pos h.2, hu, zero_add, Scalar.select]
      simp only [show 1024 * k.val + (p.val - 1024 * k.val) = p.val by omega]
      simp
    · intro x _ hx
      have : ¬ 1024 * k.val + x.val = p.val := fun he => hx (Fin.ext (by simp; omega))
      simp [Scalar.select, this]
    · simp
  · rw [Finset.sum_eq_zero, add_zero, hm]
    · by_cases h' : p.val < 1024 * k.val
      · rw [if_pos h', if_pos (by omega)]
      · rw [if_neg h', if_neg (by omega)]
    · intro x _
      have := x.isLt
      have : ¬ 1024 * k.val + x.val = p.val := fun he => h (by omega)
      simp [Scalar.select, this]

end Chunk

/-! ### The loops -/

variable (𝒱 : Variants) (c : Dev nD) (bd : Option 𝒱.V) (i : grid0.Coords) (arg2 : Memref sig .tc .vmem S1x4096x3 .f32) (harg2 : arg2.IsWhole) (arg3 : Memref sig .tc .vmem S1x3x256 .f32) (harg3 : arg3.IsWhole) (arg4 : Memref sig .tc .vmem S1x9x9x256 .f32) (harg4 : arg4.IsWhole) (arg5 : Memref sig .tc .vmem S1x9 .f32) (harg5 : arg5.IsWhole)
  (arg6 : Memref sig .tc .vmem S9x9 .f32) (harg6 : arg6.IsWhole) (arg7 : Memref sig .tc .vmem S4096x256 .f32) (harg7 : arg7.IsWhole)
  (X : BufTy.Contents (Elt Ideal) arg2.view.ty)

/-- Column `j` of the distance block. -/
def column (f : BufTy.Contents (Elt Ideal) arg7.view.ty) (j : Fin 256) : Fin 4096 → EReal := fun n => arg7.view.read (Elt Ideal) f (ix2 n j)

/-- Coordinate `a` of the points. -/
def points (a : Fin 3) : Fin 4096 → EReal := fun n => arg2.view.read (Elt Ideal) X (ix3 0 n a)

/-- A chunk of the distance block. -/
theorem load_chunk (f : BufTy.Contents (Elt Ideal) arg7.view.ty) (o : Fin 2 → ℕ) (b : ℕ) (inb : ∀ a, o a + S1024x256.size a ≤ S4096x256.size a)
    (ho : o = ![b, 0]) (x : Fin 1024) (j : Fin 256) (hb : b + x.val < 4096) :
    View.readAt (Elt Ideal) arg7.view (Rect.unit (s := S4096x256) o S1024x256.size inb).toLoadRect f (ix2 x j) = column arg7 f j ⟨b + x.val, hb⟩ := by
  subst ho
  refine congrArg (arg7.view.read (Elt Ideal) f) (funext fun a => Fin.ext ?_)
  revert a
  refine Fin.forall_fin_two.mpr ⟨?_, ?_⟩
  · show b + 1 * x.val = b + x.val
    omega
  · show 0 + 1 * j.val = j.val
    omega

/-- A chunk of one coordinate of the points. -/
theorem load_points (o : Fin 3 → ℕ) (b : ℕ) (q : Fin 3) (inb : ∀ a, o a + S1x1024x1.size a ≤ S1x4096x3.size a)
    (ho : o = ![0, b, q.val]) (x : Fin 1024) (hb : b + x.val < 4096) :
    View.readAt (Elt Ideal) arg2.view (Rect.unit (s := S1x4096x3) o S1x1024x1.size inb).toLoadRect X (ix3 0 x 0) = points arg2 X q ⟨b + x.val, hb⟩ := by
  subst ho
  refine congrArg (arg2.view.read (Elt Ideal) X) (funext fun a => Fin.ext ?_)
  fin_cases a
  · show 0 + 1 * 0 = 0
    omega
  · show b + 1 * x.val = b + x.val
    omega
  · show q.val + 1 * 0 = q.val
    omega

theorem search_trip (k) (acc) (f : BufTy.Contents (Elt Ideal) arg7.view.ty) : (trip_k0_t2 𝒱 c bd i arg2 harg2 arg3 harg3 arg4 harg4 arg5 harg5 arg6 harg6 arg7 harg7 f k).1 acc =
  (k0_pay15 acc.1 (View.readAt (Elt Ideal) arg7.view (Rect.unit (s := S4096x256) (k0_off1 k) S1024x256.size (k0_off1_inb k)).toLoadRect f),
   k0_pay16 k acc.1 acc.2 (View.readAt (Elt Ideal) arg7.view (Rect.unit (s := S4096x256) (k0_off1 k) S1024x256.size (k0_off1_inb k)).toLoadRect f)) := by
  unfold trip_k0_t2; rfl

theorem search_upto (f : BufTy.Contents (Elt Ideal) arg7.view.ty) (j : Fin 256) (k : ℕ) (hk : k ≤ 4) :
    Least (column arg7 f j) (1024 * k)
      ((st_k0_t2 𝒱 c bd i arg2 harg2 arg3 harg3 arg4 harg4 arg5 harg5 arg6 harg6 arg7 harg7 f (k0_pay11, k0_pay12) k).1 (ix2 0 j))
      ((st_k0_t2 𝒱 c bd i arg2 harg2 arg3 harg3 arg4 harg4 arg5 harg5 arg6 harg6 arg7 harg7 f (k0_pay11, k0_pay12) k).2 (ix2 0 j)) := by
  induction k with
  | zero =>
    have h := Least.zero (column arg7 f j)
    rw [← ofBits_top] at h
    exact h
  | succ k ih =>
    have hk' : k < k0_t2_loop.trips := by rw [trips2]; omega
    have e := st_k0_t2_succ (F := Ideal) 𝒱 c bd i arg2 harg2 arg3 harg3 arg4 harg4 arg5 harg5 arg6 harg6 arg7 harg7 f (k0_pay11, k0_pay12) ⟨k, hk'⟩
    simp only at e
    rw [e, tripR_k0_t2, search_trip]
    exact search_step _ j ⟨k, hk'⟩ _ (ih (by omega)) fun x => load_chunk arg7 f _ (1024 * k) _ (off1 ⟨k, hk'⟩) x j _

/-- The row found in the block that is left after `r` rounds is the next in order. -/
abbrev found (f : BufTy.Contents (Elt Ideal) arg7.view.ty) : IVec S1x256 32 :=
  (st_k0_t2 𝒱 c bd i arg2 harg2 arg3 harg3 arg4 harg4 arg5 harg5 arg6 harg6 arg7 harg7 f (k0_pay11, k0_pay12) (Scf.trips k0_t2_loop.lb k0_t2_loop.ub k0_t2_loop.st)).2

theorem found_apply (f : BufTy.Contents (Elt Ideal) arg7.view.ty) (j : Fin 256) (d : Fin 4096 → EReal) (hd : ∀ n, d n < ⊤) (r : Fin 4096)
    (h : column arg7 f j = left d r) :
    found 𝒱 c bd i arg2 harg2 arg3 harg3 arg4 harg4 arg5 harg5 arg6 harg6 arg7 harg7 f (ix2 0 j) = BitVec.ofNat 32 (pick d r).val := by
  have e : Scf.trips k0_t2_loop.lb k0_t2_loop.ub k0_t2_loop.st = 4 := trips2
  have hl := search_upto 𝒱 c bd i arg2 harg2 arg3 harg3 arg4 harg4 arg5 harg5 arg6 harg6 arg7 harg7 f j 4 le_rfl
  rw [← e, h] at hl
  exact Least.pick hd r hl

theorem take_trip (k) (acc) (f : BufTy.Contents (Elt Ideal) arg7.view.ty) (v22) (cst) (w) : (trip_k0_t3 𝒱 c bd i arg2 harg2 arg3 harg3 arg4 harg4 arg5 harg5 arg6 harg6 arg7 harg7 v22 cst w X k).1 acc f =
  (k0_pay4 v22 w 0#32 1#32 k acc.1 (View.readAt (Elt Ideal) arg2.view (Rect.unit (s := S1x4096x3) (k0_off3 k) S1x1024x1.size (k0_off3_inb k)).toLoadRect X),
   k0_pay5 v22 w 0#32 1#32 k acc.2.1 (View.readAt (Elt Ideal) arg2.view (Rect.unit (s := S1x4096x3) (k0_off4 k) S1x1024x1.size (k0_off4_inb k)).toLoadRect X),
   k0_pay6 v22 w 0#32 1#32 k acc.2.2 (View.readAt (Elt Ideal) arg2.view (Rect.unit (s := S1x4096x3) (k0_off5 k) S1x1024x1.size (k0_off5_inb k)).toLoadRect X)) := by
  unfold trip_k0_t3; rfl

theorem strike_trip (k) (acc) (f : BufTy.Contents (Elt Ideal) arg7.view.ty) (v22) (cst) (w) : (trip_k0_t3 𝒱 c bd i arg2 harg2 arg3 harg3 arg4 harg4 arg5 harg5 arg6 harg6 arg7 harg7 v22 cst w X k).2.1 acc f =
  [⟨Rect.unit (s := S4096x256) (k0_off2 k) S1024x256.size (k0_off2_inb k), k0_pay7 v22 cst w 0#32 1#32 k (View.readAt (Elt Ideal) arg7.view (Rect.unit (s := S4096x256) (k0_off2 k) S1024x256.size (k0_off2_inb k)).toLoadRect f)⟩] := by
  unfold trip_k0_t3; rfl

/-- The second inner loop before chunk `k`. -/
abbrev takes (w : IVec S1x256 32) (f : BufTy.Contents (Elt Ideal) arg7.view.ty) (k : ℕ) :=
  st_k0_t3 𝒱 c bd i arg2 harg2 arg3 harg3 arg4 harg4 arg5 harg5 arg6 harg6 arg7 harg7 rowsIota (Ideal.ofBits .f32 0x7F800000#32) w X f (k0_pay17, k0_pay17, k0_pay17) k

theorem takes_succ (w : IVec S1x256 32) (f : BufTy.Contents (Elt Ideal) arg7.view.ty) (k : Fin k0_t3_loop.trips) :
    takes 𝒱 c bd i arg2 harg2 arg3 harg3 arg4 harg4 arg5 harg5 arg6 harg6 arg7 harg7 X w f (k.val + 1) =
      ((k0_pay4 rowsIota w 0#32 1#32 k (takes 𝒱 c bd i arg2 harg2 arg3 harg3 arg4 harg4 arg5 harg5 arg6 harg6 arg7 harg7 X w f k.val).1.1 (View.readAt (Elt Ideal) arg2.view (Rect.unit (s := S1x4096x3) (k0_off3 k) S1x1024x1.size (k0_off3_inb k)).toLoadRect X),
       k0_pay5 rowsIota w 0#32 1#32 k (takes 𝒱 c bd i arg2 harg2 arg3 harg3 arg4 harg4 arg5 harg5 arg6 harg6 arg7 harg7 X w f k.val).1.2.1 (View.readAt (Elt Ideal) arg2.view (Rect.unit (s := S1x4096x3) (k0_off4 k) S1x1024x1.size (k0_off4_inb k)).toLoadRect X),
       k0_pay6 rowsIota w 0#32 1#32 k (takes 𝒱 c bd i arg2 harg2 arg3 harg3 arg4 harg4 arg5 harg5 arg6 harg6 arg7 harg7 X w f k.val).1.2.2 (View.readAt (Elt Ideal) arg2.view (Rect.unit (s := S1x4096x3) (k0_off5 k) S1x1024x1.size (k0_off5_inb k)).toLoadRect X)),
       ⟨Rect.unit (s := S4096x256) (k0_off2 k) S1024x256.size (k0_off2_inb k),
         k0_pay7 rowsIota (Ideal.ofBits .f32 0x7F800000#32) w 0#32 1#32 k (View.readAt (Elt Ideal) arg7.view (Rect.unit (s := S4096x256) (k0_off2 k) S1024x256.size (k0_off2_inb k)).toLoadRect
           (arg7.view.writes (Elt Ideal) f (takes 𝒱 c bd i arg2 harg2 arg3 harg3 arg4 harg4 arg5 harg5 arg6 harg6 arg7 harg7 X w f k.val).2))⟩
        :: (takes 𝒱 c bd i arg2 harg2 arg3 harg3 arg4 harg4 arg5 harg5 arg6 harg6 arg7 harg7 X w f k.val).2) := by
  have e := st_k0_t3_succ (F := Ideal) 𝒱 c bd i arg2 harg2 arg3 harg3 arg4 harg4 arg5 harg5 arg6 harg6 arg7 harg7 rowsIota (Ideal.ofBits .f32 0x7F800000#32) w X f (k0_pay17, k0_pay17, k0_pay17) k
  rw [tripR_k0_t3, tripL_k0_t3, take_trip, strike_trip] at e
  exact e

theorem takes_upto (w : IVec S1x256 32) (f : BufTy.Contents (Elt Ideal) arg7.view.ty) (j : Fin 256) (p : Fin 4096) (hw : w (ix2 0 j) = BitVec.ofNat 32 p.val)
    (k : ℕ) (hk : k ≤ 4) :
    (takes 𝒱 c bd i arg2 harg2 arg3 harg3 arg4 harg4 arg5 harg5 arg6 harg6 arg7 harg7 X w f k).1.1 (ix2 0 j) = (if p.val < 1024 * k then points arg2 X 0 p else 0) ∧
    (takes 𝒱 c bd i arg2 harg2 arg3 harg3 arg4 harg4 arg5 harg5 arg6 harg6 arg7 harg7 X w f k).1.2.1 (ix2 0 j) = (if p.val < 1024 * k then points arg2 X 1 p else 0) ∧
    (takes 𝒱 c bd i arg2 harg2 arg3 harg3 arg4 harg4 arg5 harg5 arg6 harg6 arg7 harg7 X w f k).1.2.2 (ix2 0 j) = (if p.val < 1024 * k then points arg2 X 2 p else 0) ∧
    column arg7 (arg7.view.writes (Elt Ideal) f (takes 𝒱 c bd i arg2 harg2 arg3 harg3 arg4 harg4 arg5 harg5 arg6 harg6 arg7 harg7 X w f k).2) j = fun n => if n.val < 1024 * k ∧ n = p then ⊤ else column arg7 f j n := by
  induction k with
  | zero =>
    have hz : (k0_pay17 (F := Ideal)) (ix2 0 j) = (0 : EReal) := Ideal.ofBits_zero_f32
    refine ⟨hz, hz, hz, ?_⟩
    funext n
    rw [if_neg (by omega)]
    rfl
  | succ k ih =>
    have hk' : k < k0_t3_loop.trips := by rw [trips3]; omega
    obtain ⟨hx, hy, hz, hc⟩ := ih (by omega)
    have e := takes_succ 𝒱 c bd i arg2 harg2 arg3 harg3 arg4 harg4 arg5 harg5 arg6 harg6 arg7 harg7 X w f ⟨k, hk'⟩
    simp only at e
    rw [e]
    refine ⟨?_, ?_, ?_, ?_⟩
    · show k0_pay4 _ _ _ _ _ _ _ (ix2 0 j) = _
      rw [show ∀ v m, k0_pay4 (F := Ideal) rowsIota w 0#32 1#32 ⟨k, hk'⟩ m v (ix2 0 j) = m (ix2 0 j) + ∑ x, Scalar.select (k0_pay3 rowsIota w 0#32 1#32 ⟨k, hk'⟩ (ix2 x j)) (v (ix3 0 x 0)) 0 from
        fun v m => by pointwise [k0_pay4]]
      exact chunk_sum j ⟨k, hk'⟩ w p hw _ _ hx _ fun x => load_points arg2 X _ _ 0 _ (off3 ⟨k, hk'⟩) x _
    · show k0_pay5 _ _ _ _ _ _ _ (ix2 0 j) = _
      rw [show ∀ v m, k0_pay5 (F := Ideal) rowsIota w 0#32 1#32 ⟨k, hk'⟩ m v (ix2 0 j) = m (ix2 0 j) + ∑ x, Scalar.select (k0_pay3 rowsIota w 0#32 1#32 ⟨k, hk'⟩ (ix2 x j)) (v (ix3 0 x 0)) 0 from
        fun v m => by pointwise [k0_pay5]]
      exact chunk_sum j ⟨k, hk'⟩ w p hw _ _ hy _ fun x => load_points arg2 X _ _ 1 _ (off4 ⟨k, hk'⟩) x _
    · show k0_pay6 _ _ _ _ _ _ _ (ix2 0 j) = _
      rw [show ∀ v m, k0_pay6 (F := Ideal) rowsIota w 0#32 1#32 ⟨k, hk'⟩ m v (ix2 0 j) = m (ix2 0 j) + ∑ x, Scalar.select (k0_pay3 rowsIota w 0#32 1#32 ⟨k, hk'⟩ (ix2 x j)) (v (ix3 0 x 0)) 0 from
        fun v m => by pointwise [k0_pay6]]
      exact chunk_sum j ⟨k, hk'⟩ w p hw _ _ hz _ fun x => load_points arg2 X _ _ 2 _ (off5 ⟨k, hk'⟩) x _
    · funext n
      have hn := n.isLt
      by_cases hin : 1024 * k ≤ n.val ∧ n.val < 1024 * (k + 1)
      · unfold column
        rw [View.read_writes_cons_rows_of_mem arg7.view f (k0_off2_inb ⟨k, hk'⟩) _ _ (ix2 n j)
          (ix2 (⟨n.val - 1024 * k, by omega⟩ : Fin 1024) j) (off2 ⟨k, hk'⟩) (by show n.val = 1024 * k + (n.val - 1024 * k); omega) rfl]
        have h7 : ∀ v m (x : Fin 1024), k0_pay7 (F := Ideal) rowsIota m w 0#32 1#32 ⟨k, hk'⟩ v (ix2 x j) = Scalar.select (k0_pay3 rowsIota w 0#32 1#32 ⟨k, hk'⟩ (ix2 x j)) m (v (ix2 x j)) :=
          fun v m x => by pointwise [k0_pay7]
        rw [h7, mask_chunk j ⟨k, hk'⟩ w p hw, load_chunk arg7 _ _ (1024 * k) _ (off2 ⟨k, hk'⟩) _ j (by show 1024 * k + (n.val - 1024 * k) < _; omega), hc, ofBits_top]
        have hn' : (⟨1024 * k + (n.val - 1024 * k), by omega⟩ : Fin 4096) = n := Fin.ext (by show 1024 * k + (n.val - 1024 * k) = _; omega)
        simp only [hn', show 1024 * k + (n.val - 1024 * k) = n.val by omega]
        rw [if_neg (by omega)]
        by_cases hp : n = p
        · rw [if_pos ⟨hin.2, hp⟩]; simp [hp, Scalar.select]
        · rw [if_neg (fun h => hp h.2)]
          have : ¬ n.val = p.val := fun h => hp (Fin.ext h)
          simp [this, Scalar.select, column]
      · unfold column
        rw [View.read_writes_cons_rows_of_not_mem arg7.view f (W := 1024) (k0_off2_inb ⟨k, hk'⟩) _ _ (ix2 n j) (off2 ⟨k, hk'⟩) rfl
          (by show n.val < 1024 * k ∨ 1024 * k + 1024 ≤ n.val; omega)]
        refine (congrFun hc n).trans ?_
        by_cases hp : n = p
        · by_cases hl : n.val < 1024 * k
          · rw [if_pos ⟨hl, hp⟩, if_pos ⟨by omega, hp⟩]
          · rw [if_neg (by omega), if_neg (by omega)]; rfl
        · rw [if_neg (fun h => hp h.2), if_neg (fun h => hp h.2)]; rfl

/-! ### The rounds -/

/-- What one round takes and strikes. -/
abbrev taken (f : BufTy.Contents (Elt Ideal) arg7.view.ty) :=
  takes 𝒱 c bd i arg2 harg2 arg3 harg3 arg4 harg4 arg5 harg5 arg6 harg6 arg7 harg7 X (found 𝒱 c bd i arg2 harg2 arg3 harg3 arg4 harg4 arg5 harg5 arg6 harg6 arg7 harg7 f) f (Scf.trips k0_t3_loop.lb k0_t3_loop.ub k0_t3_loop.st)

theorem round_trip (k) (acc) (f : BufTy.Contents (Elt Ideal) arg7.view.ty) : (trip_k0_t1 𝒱 c bd i arg2 harg2 arg3 harg3 arg4 harg4 arg5 harg5 arg6 harg6 arg7 harg7 rowsIota (Ideal.ofBits .f32 0x7F800000#32) X k).1 acc f =
  (k0_pay19 k acc.1 (taken 𝒱 c bd i arg2 harg2 arg3 harg3 arg4 harg4 arg5 harg5 arg6 harg6 arg7 harg7 X f).1.1, k0_pay20 k acc.2.1 (taken 𝒱 c bd i arg2 harg2 arg3 harg3 arg4 harg4 arg5 harg5 arg6 harg6 arg7 harg7 X f).1.2.1, k0_pay21 k acc.2.2 (taken 𝒱 c bd i arg2 harg2 arg3 harg3 arg4 harg4 arg5 harg5 arg6 harg6 arg7 harg7 X f).1.2.2) := by
  unfold trip_k0_t1; rfl

theorem round_strike (k) (acc) (f : BufTy.Contents (Elt Ideal) arg7.view.ty) : (trip_k0_t1 𝒱 c bd i arg2 harg2 arg3 harg3 arg4 harg4 arg5 harg5 arg6 harg6 arg7 harg7 rowsIota (Ideal.ofBits .f32 0x7F800000#32) X k).2.1 acc f =
  (taken 𝒱 c bd i arg2 harg2 arg3 harg3 arg4 harg4 arg5 harg5 arg6 harg6 arg7 harg7 X f).2 := by
  unfold trip_k0_t1; rfl

/-- The rounds before round `k`. -/
abbrev rounds (f : BufTy.Contents (Elt Ideal) arg7.view.ty) (k : ℕ) :=
  st_k0_t1 𝒱 c bd i arg2 harg2 arg3 harg3 arg4 harg4 arg5 harg5 arg6 harg6 arg7 harg7 rowsIota (Ideal.ofBits .f32 0x7F800000#32) X f (k0_pay10, k0_pay10, k0_pay10) k

theorem rounds_succ (f : BufTy.Contents (Elt Ideal) arg7.view.ty) (k : Fin k0_t1_loop.trips) :
    rounds 𝒱 c bd i arg2 harg2 arg3 harg3 arg4 harg4 arg5 harg5 arg6 harg6 arg7 harg7 X f (k.val + 1) =
      ((k0_pay19 k (rounds 𝒱 c bd i arg2 harg2 arg3 harg3 arg4 harg4 arg5 harg5 arg6 harg6 arg7 harg7 X f k.val).1.1 (taken 𝒱 c bd i arg2 harg2 arg3 harg3 arg4 harg4 arg5 harg5 arg6 harg6 arg7 harg7 X (arg7.view.writes (Elt Ideal) f (rounds 𝒱 c bd i arg2 harg2 arg3 harg3 arg4 harg4 arg5 harg5 arg6 harg6 arg7 harg7 X f k.val).2)).1.1,
        k0_pay20 k (rounds 𝒱 c bd i arg2 harg2 arg3 harg3 arg4 harg4 arg5 harg5 arg6 harg6 arg7 harg7 X f k.val).1.2.1 (taken 𝒱 c bd i arg2 harg2 arg3 harg3 arg4 harg4 arg5 harg5 arg6 harg6 arg7 harg7 X (arg7.view.writes (Elt Ideal) f (rounds 𝒱 c bd i arg2 harg2 arg3 harg3 arg4 harg4 arg5 harg5 arg6 harg6 arg7 harg7 X f k.val).2)).1.2.1,
        k0_pay21 k (rounds 𝒱 c bd i arg2 harg2 arg3 harg3 arg4 harg4 arg5 harg5 arg6 harg6 arg7 harg7 X f k.val).1.2.2 (taken 𝒱 c bd i arg2 harg2 arg3 harg3 arg4 harg4 arg5 harg5 arg6 harg6 arg7 harg7 X (arg7.view.writes (Elt Ideal) f (rounds 𝒱 c bd i arg2 harg2 arg3 harg3 arg4 harg4 arg5 harg5 arg6 harg6 arg7 harg7 X f k.val).2)).1.2.2),
       (taken 𝒱 c bd i arg2 harg2 arg3 harg3 arg4 harg4 arg5 harg5 arg6 harg6 arg7 harg7 X (arg7.view.writes (Elt Ideal) f (rounds 𝒱 c bd i arg2 harg2 arg3 harg3 arg4 harg4 arg5 harg5 arg6 harg6 arg7 harg7 X f k.val).2)).2 ++ (rounds 𝒱 c bd i arg2 harg2 arg3 harg3 arg4 harg4 arg5 harg5 arg6 harg6 arg7 harg7 X f k.val).2) := by
  have e := st_k0_t1_succ (F := Ideal) 𝒱 c bd i arg2 harg2 arg3 harg3 arg4 harg4 arg5 harg5 arg6 harg6 arg7 harg7 rowsIota (Ideal.ofBits .f32 0x7F800000#32) X f (k0_pay10, k0_pay10, k0_pay10) k
  rw [st_k0_t1Step, round_trip, round_strike] at e
  exact e

/-- A row of neighbours, the row of one of them added. -/
theorem row_add (k : Fin k0_t1_loop.trips) (s : Fin 16) (m a : EReal) (v : Fin 16 → EReal) (hm : m = if s.val < k.val then v s else 0) (ha : s.val = k.val → a = v s) :
    m + FloatOps.sitofp (F := Ideal) FTy.f32 (BitVec.setWidth 32 (IntOp.cmpi CmpIPredicate.eq (BitVec.ofNat 32 s.val) (Scf.iv 0#32 1#32 k.val))) * a
      = if s.val < k.val + 1 then v s else 0 := by
  have hk := lt1 k
  rw [word1]
  have hc : IntOp.cmpi CmpIPredicate.eq (BitVec.ofNat 32 s.val) (BitVec.ofNat 32 k.val) = BitVec.ofBool (decide (s.val = k.val)) := by
    show BitVec.ofBool (_ == _) = _
    congr 1
    rw [Bool.eq_iff_iff, beq_iff_eq, decide_eq_true_iff, ← BitVec.toNat_inj]
    simp only [BitVec.toNat_ofNat]
    have := s.isLt
    omega
  rw [hc]
  by_cases h : s.val = k.val
  · have e : FloatOps.sitofp (F := Ideal) FTy.f32 (BitVec.setWidth 32 (BitVec.ofBool (decide (s.val = k.val)))) = (1 : EReal) := by
      rw [decide_eq_true h]
      show (((BitVec.setWidth 32 (BitVec.ofBool true)).toInt : ℝ) : EReal) = 1
      simp
    rw [e, hm, if_neg (by omega), if_pos (by omega), one_mul, zero_add, ha h]
  · have e : FloatOps.sitofp (F := Ideal) FTy.f32 (BitVec.setWidth 32 (BitVec.ofBool (decide (s.val = k.val)))) = (0 : EReal) := by
      rw [decide_eq_false h]
      show (((BitVec.setWidth 32 (BitVec.ofBool false)).toInt : ℝ) : EReal) = 0
      simp
    rw [e, hm, zero_mul, add_zero]
    by_cases hl : s.val < k.val
    · rw [if_pos hl, if_pos (by omega)]
    · rw [if_neg hl, if_neg (by omega)]

/-- Neighbour `s` in order of the values `d`. -/
abbrev nth (d : Fin 4096 → EReal) (s : Fin 16) : Fin 4096 := pick d ⟨s.val, by omega⟩

theorem rounds_upto (f : BufTy.Contents (Elt Ideal) arg7.view.ty) (j : Fin 256) (hd : ∀ n, column arg7 f j n < ⊤) (k : ℕ) (hk : k ≤ 10) :
    (∀ s, (rounds 𝒱 c bd i arg2 harg2 arg3 harg3 arg4 harg4 arg5 harg5 arg6 harg6 arg7 harg7 X f k).1.1 (ix2 s j) = if s.val < k then points arg2 X 0 (nth (column arg7 f j) s) else 0) ∧
    (∀ s, (rounds 𝒱 c bd i arg2 harg2 arg3 harg3 arg4 harg4 arg5 harg5 arg6 harg6 arg7 harg7 X f k).1.2.1 (ix2 s j) = if s.val < k then points arg2 X 1 (nth (column arg7 f j) s) else 0) ∧
    (∀ s, (rounds 𝒱 c bd i arg2 harg2 arg3 harg3 arg4 harg4 arg5 harg5 arg6 harg6 arg7 harg7 X f k).1.2.2 (ix2 s j) = if s.val < k then points arg2 X 2 (nth (column arg7 f j) s) else 0) ∧
    column arg7 (arg7.view.writes (Elt Ideal) f (rounds 𝒱 c bd i arg2 harg2 arg3 harg3 arg4 harg4 arg5 harg5 arg6 harg6 arg7 harg7 X f k).2) j = left (column arg7 f j) k := by
  induction k with
  | zero =>
    have hz : ∀ s : Fin 16, (k0_pay10 (F := Ideal)) (ix2 s j) = (0 : EReal) := fun _ => Ideal.ofBits_zero_f32
    refine ⟨hz, hz, hz, ?_⟩
    rw [left_zero]
    rfl
  | succ k ih =>
    have hk' : k < k0_t1_loop.trips := by rw [trips1]; omega
    obtain ⟨hx, hy, hz, hc⟩ := ih (by omega)
    have e := rounds_succ 𝒱 c bd i arg2 harg2 arg3 harg3 arg4 harg4 arg5 harg5 arg6 harg6 arg7 harg7 X f ⟨k, hk'⟩
    simp only at e
    have hw := found_apply 𝒱 c bd i arg2 harg2 arg3 harg3 arg4 harg4 arg5 harg5 arg6 harg6 arg7 harg7 (arg7.view.writes (Elt Ideal) f (rounds 𝒱 c bd i arg2 harg2 arg3 harg3 arg4 harg4 arg5 harg5 arg6 harg6 arg7 harg7 X f k).2) j (column arg7 f j) hd ⟨k, by omega⟩ hc
    obtain ⟨tx, ty, tz, tc⟩ := takes_upto 𝒱 c bd i arg2 harg2 arg3 harg3 arg4 harg4 arg5 harg5 arg6 harg6 arg7 harg7 X _ (arg7.view.writes (Elt Ideal) f (rounds 𝒱 c bd i arg2 harg2 arg3 harg3 arg4 harg4 arg5 harg5 arg6 harg6 arg7 harg7 X f k).2) j _ hw 4 le_rfl
    have h4 : Scf.trips k0_t3_loop.lb k0_t3_loop.ub k0_t3_loop.st = 4 := trips3
    rw [if_pos (by have := (pick (column arg7 f j) ⟨k, by omega⟩).isLt; omega), ← h4] at tx ty tz
    rw [← h4] at tc
    rw [e]
    have hs : ∀ (s : Fin 16) (q : Fin 3), s.val = k → points arg2 X q (pick (column arg7 f j) ⟨k, by omega⟩) = points arg2 X q (nth (column arg7 f j) s) :=
      fun s q h => by subst h; rfl
    refine ⟨fun s => ?_, fun s => ?_, fun s => ?_, ?_⟩
    · show k0_pay19 _ _ _ (ix2 s j) = _
      pointwise [k0_pay19, k0_pay18]
      exact row_add ⟨k, hk'⟩ s _ _ (fun s => points arg2 X 0 (nth (column arg7 f j) s)) (hx s) fun h => tx.trans (hs s 0 h)
    · show k0_pay20 _ _ _ (ix2 s j) = _
      pointwise [k0_pay20, k0_pay18]
      exact row_add ⟨k, hk'⟩ s _ _ (fun s => points arg2 X 1 (nth (column arg7 f j) s)) (hy s) fun h => ty.trans (hs s 1 h)
    · show k0_pay21 _ _ _ (ix2 s j) = _
      pointwise [k0_pay21, k0_pay18]
      exact row_add ⟨k, hk'⟩ s _ _ (fun s => points arg2 X 2 (nth (column arg7 f j) s)) (hz s) fun h => tz.trans (hs s 2 h)
    · show column arg7 (arg7.view.writes (Elt Ideal) f (_ ++ _)) j = _
      rw [View.writes_append, tc, hc]
      have := left_succ (column arg7 f j) ⟨k, by omega⟩
      simp only at this
      rw [this]
      funext n
      have hn := n.isLt
      by_cases hp : n = pick (column arg7 f j) ⟨k, by omega⟩
      · rw [if_pos ⟨by omega, hp⟩, if_pos hp]
      · rw [if_neg (fun h => hp h.2), if_neg hp]

end Cert.KernelIdeal.Gen

end
-- ==== Proof.Cloud.lean ====
/- The features of a cloud of points, from the points alone. -/
module

public import proofs.«01_k».proof.Proof.Umbrella

@[expose] public section

noncomputable section

namespace Cert.Umbrella

open Idealize.ShloMosaic

/-- The squared distance of each point of a cloud from a point, as both programs compute it. -/
def key (p : Fin 3 → Fin 4096 → EReal) (y : Fin 3 → EReal) : Fin 4096 → EReal := fun n =>
  ∑ q, p q n * p q n + ∑ q, y q * y q - ((2 : ℝ) : EReal) * ∑ q, p q n * y q

/-- A coordinate of the nine nearest points from the point, the nearest of all left out. -/
def gap (p : Fin 3 → Fin 4096 → EReal) (y : Fin 3 → EReal) (q : Fin 3) : Col := fun s =>
  p q (pick (key p y) ⟨s.val + 1, by omega⟩) - y q

/-- The features of a point of a cloud. -/
def around (p : Fin 3 → Fin 4096 → EReal) (y : Fin 3 → EReal) : Fin 9 → Col :=
  features (gap p y 0) (gap p y 1) (gap p y 2)

/-- The features of every point of the four clouds. -/
def feat (A : Fin 4 → Fin 3 → Fin 4096 → EReal) (b : Fin 4) (c s : Fin 9) (n : Fin 4096) : EReal :=
  around (A b) (fun q => A b q n) c s

theorem key_real {p : Fin 3 → Fin 4096 → EReal} {y : Fin 3 → EReal} (hp : ∀ q n, ∃ r : ℝ, p q n = r) (hy : ∀ q, ∃ r : ℝ, y q = r) (n : Fin 4096) :
    ∃ r : ℝ, key p y n = r := by
  choose P hP using hp
  choose Y hY using hy
  refine ⟨∑ q, P q n * P q n + ∑ q, Y q * Y q - 2 * ∑ q, P q n * Y q, ?_⟩
  simp only [key, hP, hY, Fin.sum_univ_three]
  norm_cast

theorem key_lt_top {p : Fin 3 → Fin 4096 → EReal} {y : Fin 3 → EReal} (hp : ∀ q n, ∃ r : ℝ, p q n = r) (hy : ∀ q, ∃ r : ℝ, y q = r) (n : Fin 4096) :
    key p y n < ⊤ := by
  obtain ⟨r, hr⟩ := key_real hp hy n
  rw [hr]
  exact EReal.coe_lt_top r

end Cert.Umbrella

end
-- ==== Proof.Point.lean ====
/- What one point of the grid computes: its block of features, their sums and the sums of their products. -/
module

public import proofs.«01_k».proof.Proof.Found
public import proofs.«01_k».proof.Proof.Body
public import proofs.«01_k».proof.Proof.Cloud

@[expose] public section

set_option maxRecDepth 16384

noncomputable section

namespace Cert.KernelIdeal.Gen

open Idealize.ShloMosaic Idealize.ShloMosaic.TcCoe Idealize.SL.Sem
open Cert.Umbrella

variable (c : Dev nD) (i : grid0.Coords) (arg2 : Memref sig .tc .vmem S1x4096x3 .f32) (harg2 : arg2.IsWhole) (arg3 : Memref sig .tc .vmem S1x3x256 .f32) (harg3 : arg3.IsWhole) (arg4 : Memref sig .tc .vmem S1x9x9x256 .f32) (harg4 : arg4.IsWhole) (arg5 : Memref sig .tc .vmem S1x9 .f32) (harg5 : arg5.IsWhole)
  (arg6 : Memref sig .tc .vmem S9x9 .f32) (harg6 : arg6.IsWhole) (arg7 : Memref sig .tc .vmem S4096x256 .f32) (harg7 : arg7.IsWhole)
  (x0 : Vec Ideal S1x4096x3 .f32) (x1 : Vec Ideal S1x3x256 .f32)

/-- The distance block as first stored, from the points and columns loaded. -/
def start : BufTy.Contents (Elt Ideal) arg7.view.ty :=
  arg7.view.writes (Elt Ideal) arg7.view.junk [⟨Rect.unit ![0, 0] S4096x256.size inb_S4096x256_S4096x256_0_0, k0_pay9 x0 x1⟩]

/-- The rows of neighbours after all rounds. -/
def nearest (f : BufTy.Contents (Elt Ideal) arg7.view.ty) : Rows Ideal :=
  (rounds Variants.none c none i arg2 harg2 arg3 harg3 arg4 harg4 arg5 harg5 arg6 harg6 arg7 harg7 (harg2.unread x0) f (Scf.trips k0_t1_loop.lb k0_t1_loop.ub k0_t1_loop.st)).1

/-- The features from the rows of neighbours and the columns. -/
def featsOf (x1 : Vec Ideal S1x3x256 .f32) (T : Rows Ideal) : FVec Ideal S9x9x256 .f32 :=
  block (k0_pay22 x1 T.1) (k0_pay23 x1 T.2.1) (k0_pay24 x1 T.2.2) (k0_pay25 x1 T.1 T.2.1)

/-- The block of features of one point of the grid. -/
def feats : FVec Ideal S9x9x256 .f32 := featsOf x1 (nearest c i arg2 harg2 arg3 harg3 arg4 harg4 arg5 harg5 arg6 harg6 arg7 harg7 x0 (start arg7 x0 x1))

theorem load_columns : View.readAt (Elt Ideal) arg3.view (Rect.unit (s := S1x3x256) ![0, 0, 0] S1x3x256.size inb_S1x3x256_S1x3x256_0_0_0).toLoadRect (harg3.unread x1) = x1 := by
  rw [View.readAt_full, harg3.read_unread]

theorem load_whole : View.readAt (Elt Ideal) arg2.view (Rect.unit (s := S1x4096x3) ![0, 0, 0] S1x4096x3.size inb_S1x4096x3_S1x4096x3_0_0_0).toLoadRect (harg2.unread x0) = x0 := by
  rw [View.readAt_full, harg2.read_unread]

theorem feats_loaded :
    featsOf (View.readAt (Elt Ideal) arg3.view (Rect.unit (s := S1x3x256) ![0, 0, 0] S1x3x256.size inb_S1x3x256_S1x3x256_0_0_0).toLoadRect (harg3.unread x1))
        (nearest c i arg2 harg2 arg3 harg3 arg4 harg4 arg5 harg5 arg6 harg6 arg7 harg7 x0 (start arg7
          (View.readAt (Elt Ideal) arg2.view (Rect.unit (s := S1x4096x3) ![0, 0, 0] S1x4096x3.size inb_S1x4096x3_S1x4096x3_0_0_0).toLoadRect (harg2.unread x0))
          (View.readAt (Elt Ideal) arg3.view (Rect.unit (s := S1x3x256) ![0, 0, 0] S1x3x256.size inb_S1x3x256_S1x3x256_0_0_0).toLoadRect (harg3.unread x1))))
      = feats c i arg2 harg2 arg3 harg3 arg4 harg4 arg5 harg5 arg6 harg6 arg7 harg7 x0 x1 := by
  rw [load_columns, load_whole]; rfl

theorem featsA : kernelRun0_A.sl.v443 c i arg2 harg2 arg3 harg3 arg4 harg4 arg5 harg5 arg6 harg6 arg7 harg7 x0 x1 = feats c i arg2 harg2 arg3 harg3 arg4 harg4 arg5 harg5 arg6 harg6 arg7 harg7 x0 x1 := by
  rw [← feats_loaded]; rfl

theorem featsB : kernelRun0_B.sl.v443 c i arg2 harg2 arg3 harg3 arg4 harg4 arg5 harg5 arg6 harg6 arg7 harg7 x0 x1 = feats c i arg2 harg2 arg3 harg3 arg4 harg4 arg5 harg5 arg6 harg6 arg7 harg7 x0 x1 := by
  rw [← feats_loaded]; rfl

/-- The sum of a block's features over the neighbours and the points. -/
def sums (u : FVec Ideal S9x9x256 .f32) : FVec Ideal S1x9 .f32 :=
  shapeCast S1x9 (multiReduction .add [1] S9 (shapeCast S9x2304 u shapeCasts_S9x9x256_S9x2304) 0x00000000#32 reduces_S9x2304_S9 (.inl rfl) rfl) shapeCasts_S9_S1x9

/-- The sums of the products of a block's features. -/
def prods (u : FVec Ideal S9x9x256 .f32) : FVec Ideal S9x9 .f32 :=
  matmul dot_S9x2304_S9x2304_S9x9_1_1_0_0_n_n (some .fp32) (shapeCast S9x2304 u shapeCasts_S9x9x256_S9x2304) (shapeCast S9x2304 u shapeCasts_S9x9x256_S9x2304) (constant S9x9 .f32 0x00000000#32)

theorem firstRun (hc0 : cond0_0 i) (hc1 : ¬cond0_1 i) :
    (kernelRun0_A c i arg2 harg2 arg3 harg3 arg4 harg4 arg5 harg5 arg6 harg6 arg7 harg7 hc0 hc1 x0 x1).1 = shapeCast S1x9x9x256 (feats c i arg2 harg2 arg3 harg3 arg4 harg4 arg5 harg5 arg6 harg6 arg7 harg7 x0 x1) shapeCasts_S9x9x256_S1x9x9x256
    ∧ (kernelRun0_A c i arg2 harg2 arg3 harg3 arg4 harg4 arg5 harg5 arg6 harg6 arg7 harg7 hc0 hc1 x0 x1).2.1 = sums (feats c i arg2 harg2 arg3 harg3 arg4 harg4 arg5 harg5 arg6 harg6 arg7 harg7 x0 x1)
    ∧ (kernelRun0_A c i arg2 harg2 arg3 harg3 arg4 harg4 arg5 harg5 arg6 harg6 arg7 harg7 hc0 hc1 x0 x1).2.2.1 = prods (feats c i arg2 harg2 arg3 harg3 arg4 harg4 arg5 harg5 arg6 harg6 arg7 harg7 x0 x1) := by
  rw [← featsA]
  unfold kernelRun0_A
  exact ⟨rfl, rfl, rfl⟩

theorem nextRun (hc0 : ¬cond0_0 i) (hc1 : cond0_1 i) (y : Vec Ideal S1x9 .f32) (z : Vec Ideal S9x9 .f32) :
    (kernelRun0_B c i arg2 harg2 arg3 harg3 arg4 harg4 arg5 harg5 arg6 harg6 arg7 harg7 hc0 hc1 x0 x1 y z).1 = shapeCast S1x9x9x256 (feats c i arg2 harg2 arg3 harg3 arg4 harg4 arg5 harg5 arg6 harg6 arg7 harg7 x0 x1) shapeCasts_S9x9x256_S1x9x9x256
    ∧ (kernelRun0_B c i arg2 harg2 arg3 harg3 arg4 harg4 arg5 harg5 arg6 harg6 arg7 harg7 hc0 hc1 x0 x1 y z).2.1 = k0_pay1 (sums (feats c i arg2 harg2 arg3 harg3 arg4 harg4 arg5 harg5 arg6 harg6 arg7 harg7 x0 x1)) y
    ∧ (kernelRun0_B c i arg2 harg2 arg3 harg3 arg4 harg4 arg5 harg5 arg6 harg6 arg7 harg7 hc0 hc1 x0 x1 y z).2.2.1 = k0_pay2 (prods (feats c i arg2 harg2 arg3 harg3 arg4 harg4 arg5 harg5 arg6 harg6 arg7 harg7 x0 x1)) z := by
  have hy : View.readAt (Elt Ideal) arg5.view (Rect.unit (s := S1x9) ![0, 0] S1x9.size inb_S1x9_S1x9_0_0).toLoadRect (harg5.unread y) = y := by
    rw [View.readAt_full, harg5.read_unread]
  have hz : View.readAt (Elt Ideal) arg6.view (Rect.unit (s := S9x9) ![0, 0] S9x9.size inb_S9x9_S9x9_0_0).toLoadRect (harg6.unread z) = z := by
    rw [View.readAt_full, harg6.read_unread]
  rw [← featsB]
  conv in k0_pay1 _ y => rw [← hy]
  conv in k0_pay2 _ z => rw [← hz]
  unfold kernelRun0_B
  exact ⟨rfl, rfl, rfl⟩

/-- A sum over the elements of a table, by rows. -/
theorem sum_split {a b : ℕ} (f : Fin a → Fin b → EReal) : ∑ x : Fin (a * b), f x.divNat x.modNat = ∑ s, ∑ j, f s j := by
  rw [← Fintype.sum_prod_type']
  exact Fintype.sum_equiv finProdFinEquiv.symm _ _ fun _ => rfl

theorem sums_apply (u : FVec Ideal S9x9x256 .f32) (a : Fin 9) : sums u (ix2 0 a) = ∑ s : Fin 9, ∑ j : Fin 256, u (ix3 a s j) := by
  pointwise [sums]
  exact sum_split (a := 9) (b := 256) fun s j => u (ix3 a s j)

theorem prods_apply (u : FVec Ideal S9x9x256 .f32) (a b : Fin 9) : prods u (ix2 a b) = ∑ s : Fin 9, ∑ j : Fin 256, u (ix3 a s j) * u (ix3 b s j) := by
  pointwise [prods]
  exact sum_split (a := 9) (b := 256) fun s j => u (ix3 a s j) * u (ix3 b s j)

theorem column_start (j : Fin 256) :
    column arg7 (start arg7 x0 x1) j = key (fun q n => x0 (ix3 0 n q)) fun q => x1 (ix3 0 q j) := by
  funext n
  have e : arg7.view.read (Elt Ideal) (start arg7 x0 x1) = k0_pay9 x0 x1 := by
    unfold start
    rw [View.read_writes_full]
  unfold column
  rw [e]
  pointwise [k0_pay9, k0_pay8]
  rw [ofBits_two]
  rfl

theorem feats_apply (h0 : ∀ q n, ∃ r : ℝ, x0 (ix3 0 n q) = r) (h1 : ∀ q j, ∃ r : ℝ, x1 (ix3 0 q j) = r) (f s : Fin 9) (j : Fin 256) :
    feats c i arg2 harg2 arg3 harg3 arg4 harg4 arg5 harg5 arg6 harg6 arg7 harg7 x0 x1 (ix3 f s j) = around (fun q n => x0 (ix3 0 n q)) (fun q => x1 (ix3 0 q j)) f s := by
  have hd : ∀ n, column arg7 (start arg7 x0 x1) j n < ⊤ := by
    rw [column_start]
    exact key_lt_top h0 fun q => h1 q j
  obtain ⟨ha, hb, hc, -⟩ := rounds_upto Variants.none c none i arg2 harg2 arg3 harg3 arg4 harg4 arg5 harg5 arg6 harg6 arg7 harg7 (harg2.unread x0) (start arg7 x0 x1) j hd 10 le_rfl
  rw [← show Scf.trips k0_t1_loop.lb k0_t1_loop.ub k0_t1_loop.st = 10 from trips1] at ha hb hc
  unfold feats featsOf
  rw [block_apply]
  have gx : col (k0_pay22 x1 (nearest c i arg2 harg2 arg3 harg3 arg4 harg4 arg5 harg5 arg6 harg6 arg7 harg7 x0 (start arg7 x0 x1)).1) j = gap (fun q n => x0 (ix3 0 n q)) (fun q => x1 (ix3 0 q j)) 0 := by
    funext t
    have e := ha ⟨1 + t.val, by omega⟩
    rw [if_pos (by rw [show Scf.trips k0_t1_loop.lb k0_t1_loop.ub k0_t1_loop.st = 10 from trips1]; show 1 + t.val < 10; omega), column_start] at e
    unfold col
    pointwise [k0_pay22, k0_pay8]
    unfold nearest
    rw [e, points, harg2.read_unread]
    simp only [nth, gap, Nat.add_comm 1]
  have gy : col (k0_pay23 x1 (nearest c i arg2 harg2 arg3 harg3 arg4 harg4 arg5 harg5 arg6 harg6 arg7 harg7 x0 (start arg7 x0 x1)).2.1) j = gap (fun q n => x0 (ix3 0 n q)) (fun q => x1 (ix3 0 q j)) 1 := by
    funext t
    have e := hb ⟨1 + t.val, by omega⟩
    rw [if_pos (by rw [show Scf.trips k0_t1_loop.lb k0_t1_loop.ub k0_t1_loop.st = 10 from trips1]; show 1 + t.val < 10; omega), column_start] at e
    unfold col
    pointwise [k0_pay23, k0_pay8]
    unfold nearest
    rw [e, points, harg2.read_unread]
    simp only [nth, gap, Nat.add_comm 1]
  have gz : col (k0_pay24 x1 (nearest c i arg2 harg2 arg3 harg3 arg4 harg4 arg5 harg5 arg6 harg6 arg7 harg7 x0 (start arg7 x0 x1)).2.2) j = gap (fun q n => x0 (ix3 0 n q)) (fun q => x1 (ix3 0 q j)) 2 := by
    funext t
    have e := hc ⟨1 + t.val, by omega⟩
    rw [if_pos (by rw [show Scf.trips k0_t1_loop.lb k0_t1_loop.ub k0_t1_loop.st = 10 from trips1]; show 1 + t.val < 10; omega), column_start] at e
    unfold col
    pointwise [k0_pay24, k0_pay8]
    unfold nearest
    rw [e, points, harg2.read_unread]
    simp only [nth, gap, Nat.add_comm 1]
  have gp : pick (col (k0_pay25 x1 (nearest c i arg2 harg2 arg3 harg3 arg4 harg4 arg5 harg5 arg6 harg6 arg7 harg7 x0 (start arg7 x0 x1)).1 (nearest c i arg2 harg2 arg3 harg3 arg4 harg4 arg5 harg5 arg6 harg6 arg7 harg7 x0 (start arg7 x0 x1)).2.1) j)
      = order (gap (fun q n => x0 (ix3 0 n q)) (fun q => x1 (ix3 0 q j)) 0) (gap (fun q n => x0 (ix3 0 n q)) (fun q => x1 (ix3 0 q j)) 1) := by
    rw [← gx, ← gy]
    rfl
  simp only [sorted]
  rw [gp, gx, gy, gz]
  rfl

end Cert.KernelIdeal.Gen

end
-- ==== Proof.Result.lean ====
/- What the first call's three result arrays hold after its run: the features of every point, their sums and the sums of their products. -/
module

public import proofs.«01_k».proof.Proof.Point
public import proofs.«01_k».proof.Proof.Body
public import Idealize.ShloMosaic.Lib.Pipeline.ValueKit

@[expose] public section

set_option maxRecDepth 16384

noncomputable section

namespace Cert.KernelIdeal.Gen

open Idealize.ShloMosaic Idealize.ShloMosaic.TcCoe Idealize.SL.Sem
open Idealize.ShloMosaic.Pipeline (Dat Cfg Window)
open Cert.Umbrella

variable (V : (c : Dev nD) → (b : Ref sig .tc) → Buf (Elt Ideal) ((c : Thread nD τ).loc b))

/-- The clouds, as the argument holds them. -/
def clouds (c : Dev nD) (b : Fin 4) (q : Fin 3) (n : Fin 4096) : EReal := V c main_arg0 (ix3 b q n)

theorem index0 : ∀ t : Fin cfg0.N, win0_0.index t = ![(grid0.coords t 0).val, 0, 0] := by decide +kernel
theorem index1 : ∀ t : Fin cfg0.N, win0_1.index t = ![(grid0.coords t 0).val, 0, (grid0.coords t 1).val] := by decide +kernel
theorem index2 : ∀ t : Fin cfg0.N, win0_2.index t = ![(grid0.coords t 0).val, 0, 0, (grid0.coords t 1).val] := by decide +kernel

/-- The second operand holds the clouds with their last two axes exchanged. -/
abbrev Turned : Prop := ∀ c : Dev nD, V c main_v0 = transpose S4x4096x3 [0, 2, 1] (V c main_arg0 : FVec Ideal S4x3x4096 .f32) transposes_S4x3x4096_S4x4096x3_0_2_1

variable (hT : Turned V)

include hT in
theorem points_block (c : Dev nD) (t : Fin cfg0.N) (q : Fin 3) (n : Fin 4096) :
    iblk0 V c 0 t (ix3 0 n q) = clouds V c (grid0.coords t 0) q n := by
  have e : iblk0 V c 0 t (ix3 0 n q) = V c main_v0 (ix3 (grid0.coords t 0) n q) := by
    blk_ext [iblk0, index0]
  rw [e, hT c]
  unfold clouds
  pointwise []

/-- The cloud and the place of a column at a point of the grid. -/
def cloudAt (k : ℕ) : Fin 4 := ⟨k / 16 % 4, Nat.mod_lt _ (by decide)⟩
def placeAt (k : ℕ) (j : Fin 256) : Fin 4096 := ⟨256 * (k % 16) + j.val, by omega⟩

theorem coords_zero (t : Fin cfg0.N) : (grid0.coords t 0).val = t.val / 16 % 4 := Pipeline.Grid.coords_val t 0 (by decide) rfl
theorem coords_one (t : Fin cfg0.N) : (grid0.coords t 1).val = t.val % 16 := by
  have e : (grid0.coords t 1).val = t.val / 1 % 16 := Pipeline.Grid.coords_val t 1 (by decide) rfl
  rw [e, Nat.div_one]

theorem columns_block (c : Dev nD) (t : Fin cfg0.N) (q : Fin 3) (j : Fin 256) :
    iblk0 V c 1 t (ix3 0 q j) = clouds V c (cloudAt t.val) q (placeAt t.val j) := by
  have e0 := coords_zero t
  have e1 := coords_one t
  unfold clouds cloudAt placeAt
  blk_ext [iblk0, index1, e0, e1]

include hT in
theorem points_block' (c : Dev nD) (t : Fin cfg0.N) (q : Fin 3) (n : Fin 4096) :
    iblk0 V c 0 t (ix3 0 n q) = clouds V c (cloudAt t.val) q n := by
  rw [points_block V hT]
  exact congrArg (fun b => clouds V c b q n) (Fin.ext (coords_zero t))

/-- The block of features at a point of the grid. -/
def featsAt (c : Dev nD) (t : Fin cfg0.N) : FVec Ideal S9x9x256 .f32 :=
  feats c (grid0.coords t) (ms0_0 t) (hs0_0 t) (ms0_1 t) (hs0_1 t) (ms0_2 t) (hs0_2 t) (ms0_3 t) (hs0_3 t) (ms0_4 t) (hs0_4 t) scM0_0 (Memref.isWhole_whole _) (iblk0 V c 0 t) (iblk0 V c 1 t)

variable (c : Dev nD) (hA : ∀ b q n, ∃ r : ℝ, clouds V c b q n = r)

include hT hA in
theorem featsAt_apply (t : Fin cfg0.N) (f s : Fin 9) (j : Fin 256) :
    featsAt V c t (ix3 f s j) = feat (clouds V c) (cloudAt t.val) f s (placeAt t.val j) := by
  have h := feats_apply c (grid0.coords t) (ms0_0 t) (hs0_0 t) (ms0_1 t) (hs0_1 t) (ms0_2 t) (hs0_2 t) (ms0_3 t) (hs0_3 t) (ms0_4 t) (hs0_4 t) scM0_0 (Memref.isWhole_whole _) (iblk0 V c 0 t) (iblk0 V c 1 t)
    (fun q n => by rw [points_block' V hT]; exact hA _ _ _) (fun q j => by rw [columns_block]; exact hA _ _ _) f s j
  refine h.trans ?_
  simp only [points_block' V hT, columns_block]
  rfl

theorem block_at (t : Fin cfg0.N) : (outsAt0 V c t.val t.isLt).1 = shapeCast S1x9x9x256 (featsAt V c t) shapeCasts_S9x9x256_S1x9x9x256 := by
  by_cases h : t.val = 0
  · rw [outsAt0_A V c t h]
    exact (firstRun c (grid0.coords t) (ms0_0 t) (hs0_0 t) (ms0_1 t) (hs0_1 t) (ms0_2 t) (hs0_2 t) (ms0_3 t) (hs0_3 t) (ms0_4 t) (hs0_4 t) scM0_0 (Memref.isWhole_whole _) (iblk0 V c 0 t) (iblk0 V c 1 t) (first_stores h) (first_not_later h)).1
  · rw [outsAt0_B V c t h]
    exact (nextRun c (grid0.coords t) (ms0_0 t) (hs0_0 t) (ms0_1 t) (hs0_1 t) (ms0_2 t) (hs0_2 t) (ms0_3 t) (hs0_3 t) (ms0_4 t) (hs0_4 t) scM0_0 (Memref.isWhole_whole _) (iblk0 V c 0 t) (iblk0 V c 1 t) (later_not_first h) (later_adds h) (outsAt0 V c (t.val - 1) (Nat.lt_of_le_of_lt (Nat.sub_le _ _) t.isLt)).2.1 (outsAt0 V c (t.val - 1) (Nat.lt_of_le_of_lt (Nat.sub_le _ _) t.isLt)).2.2).1

include hT hA in
theorem sums_at (n : ℕ) (hn : n < cfg0.N) (a : Fin 9) :
    (outsAt0 V c n hn).2.1 (ix2 0 a) = ∑ k ∈ Finset.range (n + 1), ∑ s : Fin 9, ∑ j : Fin 256, feat (clouds V c) (cloudAt k) a s (placeAt k j) := by
  induction n with
  | zero =>
    have e := (firstRun c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) (iblk0 V c 0 ⟨0, hn⟩) (iblk0 V c 1 ⟨0, hn⟩) (first_stores rfl) (first_not_later rfl)).2.1
    rw [Finset.sum_range_one]
    refine (congrFun e (ix2 0 a)).trans ((sums_apply _ a).trans ?_)
    exact Finset.sum_congr rfl fun s _ => Finset.sum_congr rfl fun j _ => featsAt_apply V hT c hA ⟨0, hn⟩ a s j
  | succ n ih =>
    have e := (nextRun c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (iblk0 V c 0 ⟨n + 1, hn⟩) (iblk0 V c 1 ⟨n + 1, hn⟩) (later_not_first (Nat.succ_ne_zero n)) (later_adds (Nat.succ_ne_zero n)) (outsAt0 V c n (Nat.lt_of_succ_lt hn)).2.1 (outsAt0 V c n (Nat.lt_of_succ_lt hn)).2.2).2.1
    rw [Finset.sum_range_succ, ← ih (Nat.lt_of_succ_lt hn)]
    refine (congrFun e (ix2 0 a)).trans ?_
    pointwise [k0_pay1]
    rw [sums_apply]
    exact congrArg _ (Finset.sum_congr rfl fun s _ => Finset.sum_congr rfl fun j _ => featsAt_apply V hT c hA ⟨n + 1, hn⟩ a s j)

include hT hA in
theorem prods_at (n : ℕ) (hn : n < cfg0.N) (a b : Fin 9) :
    (outsAt0 V c n hn).2.2 (ix2 a b) = ∑ k ∈ Finset.range (n + 1), ∑ s : Fin 9, ∑ j : Fin 256,
      feat (clouds V c) (cloudAt k) a s (placeAt k j) * feat (clouds V c) (cloudAt k) b s (placeAt k j) := by
  induction n with
  | zero =>
    have e := (firstRun c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) (iblk0 V c 0 ⟨0, hn⟩) (iblk0 V c 1 ⟨0, hn⟩) (first_stores rfl) (first_not_later rfl)).2.2
    rw [Finset.sum_range_one]
    refine (congrFun e (ix2 a b)).trans ((prods_apply _ a b).trans ?_)
    exact Finset.sum_congr rfl fun s _ => Finset.sum_congr rfl fun j _ => congrArg₂ (· * ·) (featsAt_apply V hT c hA ⟨0, hn⟩ a s j) (featsAt_apply V hT c hA ⟨0, hn⟩ b s j)
  | succ n ih =>
    have e := (nextRun c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (iblk0 V c 0 ⟨n + 1, hn⟩) (iblk0 V c 1 ⟨n + 1, hn⟩) (later_not_first (Nat.succ_ne_zero n)) (later_adds (Nat.succ_ne_zero n)) (outsAt0 V c n (Nat.lt_of_succ_lt hn)).2.1 (outsAt0 V c n (Nat.lt_of_succ_lt hn)).2.2).2.2
    rw [Finset.sum_range_succ, ← ih (Nat.lt_of_succ_lt hn)]
    refine (congrFun e (ix2 a b)).trans ?_
    pointwise [k0_pay2]
    rw [prods_apply]
    exact congrArg _ (Finset.sum_congr rfl fun s _ => Finset.sum_congr rfl fun j _ => congrArg₂ (· * ·) (featsAt_apply V hT c hA ⟨n + 1, hn⟩ a s j) (featsAt_apply V hT c hA ⟨n + 1, hn⟩ b s j))

/-- The points of the grid with their columns and neighbours are the points of the clouds with theirs. -/
theorem sum_points (F : Fin 4 → Fin 9 → Fin 4096 → EReal) :
    ∑ k ∈ Finset.range 64, ∑ s : Fin 9, ∑ j : Fin 256, F (cloudAt k) s (placeAt k j) = ∑ b, ∑ s, ∑ n, F b s n := by
  have h1 : ∀ b s, ∑ i : Fin 16, ∑ j : Fin 256, F b s (placeAt i.val j) = ∑ n, F b s n := fun b s => by
    rw [← sum_split (a := 16) (b := 256) fun i j => F b s (placeAt i.val j)]
    refine Finset.sum_congr rfl fun x _ => congrArg (F b s) (Fin.ext ?_)
    have h : x.val < 4096 := x.isLt
    show 256 * (x.val / 256 % 16) + x.val % 256 = x.val
    omega
  rw [Finset.sum_range, ← Finset.sum_congr rfl fun b _ => Finset.sum_congr rfl fun s _ => h1 b s]
  simp_rw [fun b => Finset.sum_comm (s := (Finset.univ : Finset (Fin 9))) (t := (Finset.univ : Finset (Fin 16))) (f := fun s i => ∑ j : Fin 256, F b s (placeAt i.val j))]
  rw [← sum_split (a := 4) (b := 16) fun b i => ∑ s : Fin 9, ∑ j : Fin 256, F b s (placeAt i.val j)]
  refine Finset.sum_congr rfl fun k _ => Finset.sum_congr rfl fun s _ => Finset.sum_congr rfl fun j _ => ?_
  have h : k.val < 64 := k.isLt
  refine congrArg₂ (fun b n => F b s n) (Fin.ext ?_) (Fin.ext ?_)
  · show k.val / 16 % 4 = k.val / 16
    omega
  · show 256 * (k.val % 16) + j.val = 256 * (k.val % 16 % 16) + j.val
    omega

/-- The last point of the grid. -/
def lastPoint : Fin cfg0.N := ⟨63, by decide +kernel⟩

include hT hA in
theorem final_feats : (dat0 V c).arrAt 2 cfg0.N = fun i : S4x9x9x4096.Idx => feat (clouds V c) (i 0) (i 1) (i 2) (i 3) := by
  refine (dat0 V c).arrAt_eq_of_covers 2 _ (by decide +kernel) fun t hf y => ?_
  blk_simp
  rw [after0_2, block_at]
  have e0 := coords_zero t
  have e1 := coords_one t
  have hy : (y : S1x9x9x256.Idx) = ix4 0 (y 1) (y 2) (y 3) := by
    funext a
    fin_cases a
    · exact Fin.ext (Nat.lt_one_iff.mp (y 0).isLt)
    · rfl
    · rfl
    · rfl
  have hs : shapeCast S1x9x9x256 (featsAt V c t) shapeCasts_S9x9x256_S1x9x9x256 y = featsAt V c t (ix3 (y 1) (y 2) (y 3)) := by
    refine (congrArg _ hy).trans ?_
    pointwise []
  have h0 : (y 0 : ℕ) < 1 := (y 0).isLt
  refine hs.trans ((featsAt_apply V hT c hA t (y 1) (y 2) (y 3)).trans ?_)
  have g0 : (win0_2.blk t).view.emb y 0 = cloudAt t.val := Fin.ext (by
    blk_simp [index2]
    show _ = t.val / 16 % 4
    simp [e0])
  have g1 : (win0_2.blk t).view.emb y 1 = y 1 := Fin.ext (by blk_simp [index2])
  have g2 : (win0_2.blk t).view.emb y 2 = y 2 := Fin.ext (by blk_simp [index2])
  have g3 : (win0_2.blk t).view.emb y 3 = placeAt t.val (y 3) := Fin.ext (by
    blk_simp [index2]
    show _ = 256 * (t.val % 16) + (y 3).val
    simp [e1]
    omega)
  rw [g0, g1, g2, g3]

include hT hA in
theorem final_sums : (dat0 V c).arrAt 3 cfg0.N = fun i : S1x9.Idx => ∑ b, ∑ s, ∑ n, feat (clouds V c) b (i 1) s n := by
  refine (dat0 V c).arrAt_eq_of_after_last 3 lastPoint (by decide +kernel) _ fun j => ?_
  blk_simp
  rw [after0_3]
  have hj : (j : S1x9.Idx) = ix2 0 (j 1) := by
    funext a
    fin_cases a
    · exact Fin.ext (Nat.lt_one_iff.mp (j 0).isLt)
    · rfl
  refine (congrArg _ hj).trans ((sums_at V hT c hA 63 _ (j 1)).trans ?_)
  exact sum_points fun b s n => feat (clouds V c) b (j 1) s n

include hT hA in
theorem final_prods : (dat0 V c).arrAt 4 cfg0.N = fun i : S9x9.Idx => ∑ b, ∑ s, ∑ n, feat (clouds V c) b (i 0) s n * feat (clouds V c) b (i 1) s n := by
  refine (dat0 V c).arrAt_eq_of_after_last 4 lastPoint (by decide +kernel) _ fun j => ?_
  blk_simp
  rw [after0_4]
  have hj : (j : S9x9.Idx) = ix2 (j 0) (j 1) := by
    funext a
    fin_cases a <;> rfl
  refine (congrArg _ hj).trans ((prods_at V hT c hA 63 _ (j 0) (j 1)).trans ?_)
  exact sum_points fun b s n => feat (clouds V c) b (j 0) s n * feat (clouds V c) b (j 1) s n

end Cert.KernelIdeal.Gen

end
-- ==== Proof.Layers.lean ====
/- The layers after the features, over the real numbers: a product with the weights, the normalization over the batch and
   the positive part. The mean and the variance of a product follow from the sums of what is multiplied and of its products. -/
module

public import proofs.«01_k».proof.Proof.Cloud

@[expose] public section

noncomputable section

namespace Cert.Layers

open Idealize.ShloMosaic

/-- The places a channel has a value at: a cloud, a neighbour and a point. -/
abbrev Pts : Type := Fin 4 × Fin 9 × Fin 4096

/-- The channels' values. -/
abbrev Act : Type := Fin 9 → Pts → ℝ

theorem card_pts : (Fintype.card Pts : ℝ) = 147456 := by
  rw [Fintype.card_prod, Fintype.card_prod, Fintype.card_fin, Fintype.card_fin, Fintype.card_fin]
  norm_num

theorem sum_pts (F : Fin 4 → Fin 9 → Fin 4096 → EReal) : ∑ b, ∑ s, ∑ n, F b s n = ∑ i : Pts, F i.1 i.2.1 i.2.2 := by
  rw [Fintype.sum_prod_type]
  exact Finset.sum_congr rfl fun b _ => (Fintype.sum_prod_type (fun i : Fin 9 × Fin 4096 => F b i.1 i.2)).symm

theorem coe_sum {ι : Type*} (s : Finset ι) (f : ι → ℝ) : ∑ i ∈ s, (f i : EReal) = ((∑ i ∈ s, f i : ℝ) : EReal) := by
  classical
  induction s using Finset.induction with
  | empty => rfl
  | insert a s ha ih => rw [Finset.sum_insert ha, Finset.sum_insert ha, ih, EReal.coe_add]

theorem coe_max (a b : ℝ) : max (a : EReal) b = ((max a b : ℝ) : EReal) := (EReal.coe_strictMono.monotone.map_max).symm

/-- The number of places, -/
theorem ofBits_count : Ideal.ofBits .f32 0x48100000#32 = ((147456 : ℝ) : EReal) := by
  simp [Ideal.ofBits, Ideal.ieee, -EReal.coe_mul]; norm_num

/-- the number added to a variance, -/
def eps : ℝ := 2748779 / 274877906944
theorem ofBits_eps : Ideal.ofBits .f32 0x3727C5AC#32 = ((eps : ℝ) : EReal) := by
  simp [Ideal.ofBits, Ideal.ieee, eps, -EReal.coe_mul]; norm_num
theorem eps_pos : 0 < eps := by unfold eps; norm_num

/-- and the number of neighbours. -/
theorem ofBits_nine : Ideal.ofBits .f32 0x41100000#32 = ((9 : ℝ) : EReal) := by
  simp [Ideal.ofBits, Ideal.ieee, -EReal.coe_mul]; norm_num

theorem div_count (v : EReal) : Ideal.div v (Ideal.ofBits .f32 0x48100000#32) = v * ((1 / 147456 : ℝ) : EReal) := by
  rw [ofBits_count, Ideal.div_coe (by norm_num)]

/-- The mean of a channel, -/
def mean (x : Pts → ℝ) : ℝ := (∑ i, x i) * (1 / 147456)

/-- its variance, -/
def var (x : Pts → ℝ) : ℝ := (∑ i, (x i - mean x) * (x i - mean x)) * (1 / 147456)

/-- and the normalized channel, scaled and shifted. -/
def norm (g be : ℝ) (x : Pts → ℝ) (i : Pts) : ℝ := (x i - mean x) * (1 / Real.sqrt (var x + eps)) * g + be

/-- A product with a row of weights and a bias. -/
def mix (w : Fin 9 → ℝ) (b : ℝ) (X : Act) (i : Pts) : ℝ := ∑ k, w k * X k i + b

/-- A layer. -/
def layer (W : Fin 9 → Fin 9 → ℝ) (b g be : Fin 9 → ℝ) (X : Act) : Act := fun o i => max (norm (g o) (be o) (mix (W o) (b o) X) i) 0

/-- The covariance of two channels from the sums of both and of their product. -/
def cov (X : Act) (k l : Fin 9) : ℝ := (∑ i, X k i * X l i) * (1 / 147456) - mean (X k) * mean (X l)

/-- The variance of a product with weights, from the covariances. -/
def spread (w : Fin 9 → ℝ) (X : Act) : ℝ := ∑ l, (∑ k, w k * cov X k l) * w l

/-- The factor of a row of weights, -/
def scale (w : Fin 9 → ℝ) (g : ℝ) (X : Act) : ℝ := g * (Real.sqrt (spread w X + eps))⁻¹

/-- and what is added. -/
def shift (w : Fin 9 → ℝ) (g be : ℝ) (X : Act) : ℝ := be - scale w g X * ∑ k, w k * mean (X k)

theorem mean_mix (w : Fin 9 → ℝ) (b : ℝ) (X : Act) : mean (mix w b X) = ∑ k, w k * mean (X k) + b := by
  unfold mean mix
  rw [Finset.sum_add_distrib, Finset.sum_const, Finset.card_univ, nsmul_eq_mul, card_pts, Finset.sum_comm, add_mul, Finset.sum_mul]
  congr 1
  · refine Finset.sum_congr rfl fun k _ => ?_
    rw [← Finset.mul_sum, mul_assoc]
  · ring

theorem cov_eq (X : Act) (k l : Fin 9) : (∑ i, (X k i - mean (X k)) * (X l i - mean (X l))) * (1 / 147456) = cov X k l := by
  have h : ∀ i, (X k i - mean (X k)) * (X l i - mean (X l)) = X k i * X l i - mean (X l) * X k i - mean (X k) * X l i + mean (X k) * mean (X l) := fun i => by ring
  simp only [h]
  rw [Finset.sum_add_distrib, Finset.sum_sub_distrib, Finset.sum_sub_distrib, Finset.sum_const, Finset.card_univ, nsmul_eq_mul, card_pts, ← Finset.mul_sum, ← Finset.mul_sum]
  unfold cov mean
  ring

theorem var_mix (w : Fin 9 → ℝ) (b : ℝ) (X : Act) : var (mix w b X) = spread w X := by
  have h : ∀ i, mix w b X i - mean (mix w b X) = ∑ k, w k * (X k i - mean (X k)) := fun i => by
    rw [mean_mix]
    unfold mix
    simp only [mul_sub, Finset.sum_sub_distrib]
    ring
  unfold var spread
  simp only [h]
  have e : ∀ i, (∑ k, w k * (X k i - mean (X k))) * (∑ l, w l * (X l i - mean (X l)))
      = ∑ l, ∑ k, w k * ((X k i - mean (X k)) * (X l i - mean (X l))) * w l := fun i => by
    rw [Finset.mul_sum]
    refine Finset.sum_congr rfl fun l _ => ?_
    rw [Finset.sum_mul]
    exact Finset.sum_congr rfl fun k _ => by ring
  simp only [e]
  rw [Finset.sum_comm, Finset.sum_mul]
  refine Finset.sum_congr rfl fun l _ => ?_
  rw [Finset.sum_comm, Finset.sum_mul, Finset.sum_mul]
  refine Finset.sum_congr rfl fun k _ => ?_
  rw [← Finset.sum_mul, ← Finset.mul_sum, ← cov_eq]
  ring

theorem var_nonneg (x : Pts → ℝ) : 0 ≤ var x :=
  mul_nonneg (Finset.sum_nonneg fun i _ => mul_self_nonneg _) (by norm_num)

theorem var_pos (x : Pts → ℝ) : 0 < var x + eps := add_pos_of_nonneg_of_pos (var_nonneg x) eps_pos

theorem spread_pos (w : Fin 9 → ℝ) (X : Act) : 0 < spread w X + eps := var_mix w 0 X ▸ var_pos _

/-- A layer is a product with scaled weights, shifted; its bias has no part in it. -/
theorem layer_eq (W : Fin 9 → Fin 9 → ℝ) (b g be : Fin 9 → ℝ) (X : Act) (o : Fin 9) (i : Pts) :
    layer W b g be X o i = max (∑ k, (scale (W o) (g o) X * W o k) * X k i + shift (W o) (g o) (be o) X) 0 := by
  unfold layer norm
  rw [var_mix, mean_mix]
  unfold mix shift
  congr 1
  simp only [mul_assoc (scale (W o) (g o) X), ← Finset.mul_sum]
  unfold scale
  rw [one_div]
  ring

/-- The last layer before the positive part is taken: its shift may be infinite. -/
def top (W : Fin 9 → Fin 9 → ℝ) (b g : Fin 9 → ℝ) (be : Fin 9 → EReal) (X : Act) (o : Fin 9) (i : Pts) : EReal :=
  max (((norm (g o) 0 (mix (W o) (b o) X) i : ℝ) : EReal) + be o) 0

theorem top_nonneg (W : Fin 9 → Fin 9 → ℝ) (b g : Fin 9 → ℝ) (be : Fin 9 → EReal) (X : Act) (o : Fin 9) (i : Pts) : 0 ≤ top W b g be X o i := le_max_right _ _

/-- The last layer is a product with scaled weights, shifted; its bias has no part in it. -/
theorem top_eq (W : Fin 9 → Fin 9 → ℝ) (b g : Fin 9 → ℝ) (be : Fin 9 → EReal) (X : Act) (o : Fin 9) (i : Pts) :
    max (((∑ k, (scale (W o) (g o) X * W o k) * X k i : ℝ) : EReal)
      + (be o - ((scale (W o) (g o) X * (∑ k, W o k * mean (X k) + b o) : ℝ) : EReal) + ((scale (W o) (g o) X * b o : ℝ) : EReal))) 0 = top W b g be X o i := by
  have e : norm (g o) 0 (mix (W o) (b o) X) i
      = ∑ k, (scale (W o) (g o) X * W o k) * X k i + (-(scale (W o) (g o) X * (∑ k, W o k * mean (X k) + b o)) + scale (W o) (g o) X * b o) := by
    unfold norm
    rw [var_mix, mean_mix]
    unfold mix
    simp only [mul_assoc (scale (W o) (g o) X), ← Finset.mul_sum]
    unfold scale
    rw [one_div]
    ring
  unfold top
  rw [e, EReal.coe_add, EReal.coe_add, EReal.coe_neg, sub_eq_add_neg, add_assoc, add_assoc, add_comm (be o), add_assoc]

/-- A factor comes out of a sum of elements that are not negative. -/
theorem mul_sum_nonneg {n : ℕ} (w : EReal) (f : Fin n → EReal) (hf : ∀ s, 0 ≤ f s) : ∑ s, w * f s = w * ∑ s, f s := by
  induction n with
  | zero => rw [Fin.sum_univ_zero, Fin.sum_univ_zero, mul_zero]
  | succ n ih =>
    rw [Fin.sum_univ_succ, Fin.sum_univ_succ, ih (fun s => f s.succ) fun s => hf _, EReal.left_distrib_of_nonneg (hf _) (Finset.sum_nonneg fun s _ => hf _)]

/-- The last product, summed over the neighbours. -/
def last (W : Fin 9 → Fin 9 → EReal) (b : Fin 9 → EReal) (U : Fin 9 → Pts → EReal) (c : Fin 4) (o : Fin 9) (n : Fin 4096) : EReal := ∑ s, (∑ k, W o k * U k (c, s, n) + b o)

theorem last_eq (W : Fin 9 → Fin 9 → EReal) (b : Fin 9 → EReal) {U : Fin 9 → Pts → EReal} (hU : ∀ k i, 0 ≤ U k i) (c : Fin 4) (o : Fin 9) (n : Fin 4096) :
    last W b U c o n = ∑ k, W o k * (∑ s : Fin 9, U k (c, s, n)) + ((9 : ℝ) : EReal) * b o := by
  unfold last
  rw [Finset.sum_add_distrib, Finset.sum_const, Finset.card_univ, Fintype.card_fin, EReal.nsmul_eq_mul, Finset.sum_comm]
  refine congrArg₂ (· + ·) (Finset.sum_congr rfl fun k _ => mul_sum_nonneg _ _ fun s => hU _ _) (congrArg (· * b o) ?_)
  norm_cast

/-- The whole after the features. The last shift, weights and bias may be infinite. -/
def network (W1 W2 : Fin 9 → Fin 9 → ℝ) (W3 : Fin 9 → Fin 9 → EReal) (g1 be1 b2 g2 : Fin 9 → ℝ) (be2 b3 : Fin 9 → EReal) (X : Act) : Fin 4 → Fin 9 → Fin 4096 → EReal :=
  last W3 b3 (top W2 b2 g2 be2 (layer W1 (fun _ => 0) g1 be1 X))

end Cert.Layers

end
-- ==== Proof.Rows.lean ====
/- What the bodies of the second and the third call compute of real arrays: scaled weights, shifts and layers. -/
module

public import proofs.«01_k».proof.Proof.Point
public import proofs.«01_k».proof.Proof.Layers

@[expose] public section

set_option maxRecDepth 16384

noncomputable section

namespace Cert.KernelIdeal.Gen

open Idealize.ShloMosaic Idealize.ShloMosaic.TcCoe
open Cert.Layers

variable {w : Vec Ideal S9x9 .f32} {g be s : Vec Ideal S1x9 .f32} {m : Vec Ideal S9x9 .f32} {W : Fin 9 → Fin 9 → ℝ} {G B : Fin 9 → ℝ} {X : Act}

theorem pay6_apply (s : Vec Ideal S1x9 .f32) (k : Fin 9) : k1_pay6 s (ix1 k) = s (ix2 0 k) * ((1 / 147456 : ℝ) : EReal) := by
  pointwise [k1_pay6]
  exact div_count _

/-- The means, from the sums. -/
theorem pay6_real (hs : ∀ k, s (ix2 0 k) = ((∑ i, X k i : ℝ) : EReal)) (k : Fin 9) : k1_pay6 s (ix1 k) = ((mean (X k) : ℝ) : EReal) := by
  rw [pay6_apply, hs, ← EReal.coe_mul]
  rfl

/-- The factors, from the sums and the sums of the products. -/
theorem pay7_real (hw : ∀ o k, w (ix2 o k) = (W o k : EReal)) (hg : ∀ o, g (ix2 0 o) = (G o : EReal))
    (hs : ∀ k, s (ix2 0 k) = ((∑ i, X k i : ℝ) : EReal)) (hm : ∀ k l, m (ix2 k l) = ((∑ i, X k i * X l i : ℝ) : EReal)) (o : Fin 9) :
    k1_pay7 w g s m (ix1 o) = ((scale (W o) (G o) X : ℝ) : EReal) := by
  have hc : ∀ k l : Fin 9, Ideal.div (m (ix2 k l)) (Ideal.ofBits .f32 0x48100000#32) - k1_pay6 s (ix1 k) * k1_pay6 s (ix1 l) = ((cov X k l : ℝ) : EReal) := fun k l => by
    rw [div_count, hm, pay6_real hs, pay6_real hs, ← EReal.coe_mul, ← EReal.coe_mul, ← EReal.coe_sub]
    rfl
  pointwise [k1_pay7]
  have hb : ∀ l : Fin 9, (∑ k : Fin 9, w (ix2 o k) * (Ideal.div (m (ix2 k l)) (Ideal.ofBits .f32 0x48100000#32) - k1_pay6 s (ix1 k) * k1_pay6 s (ix1 l))) * w (ix2 o l)
      = (((∑ k, W o k * cov X k l) * W o l : ℝ) : EReal) := fun l => by
    rw [EReal.coe_mul, ← coe_sum, hw]
    exact congrArg (· * (W o l : EReal)) (Finset.sum_congr rfl fun k _ => by rw [hc, hw, EReal.coe_mul])
  have hp := spread_pos (W o) X
  refine (congrArg₂ (fun u v : EReal => u * Ideal.rsqrt (v + Ideal.ofBits .f32 0x3727C5AC#32)) (hg o) ((Finset.sum_congr rfl fun l _ => hb l).trans (coe_sum _ _))).trans ?_
  show (G o : EReal) * Ideal.rsqrt (((spread (W o) X : ℝ) : EReal) + Ideal.ofBits .f32 0x3727C5AC#32) = _
  rw [ofBits_eps, ← EReal.coe_add, Ideal.rsqrt_coe, if_neg (not_lt.2 hp.le), if_neg hp.ne', ← EReal.coe_mul]
  rfl

/-- A product with the means. -/
theorem means_real (hw : ∀ o k, w (ix2 o k) = (W o k : EReal)) (hs : ∀ k, s (ix2 0 k) = ((∑ i, X k i : ℝ) : EReal)) (o : Fin 9) :
    ∑ k : Fin 9, w (ix2 o k) * k1_pay6 s (ix1 k) = ((∑ k, W o k * mean (X k) : ℝ) : EReal) :=
  (Finset.sum_congr rfl fun k _ => by rw [hw, pay6_real hs, ← EReal.coe_mul]).trans (coe_sum _ _)

/-- The shifts. -/
theorem pay8_real (hw : ∀ o k, w (ix2 o k) = (W o k : EReal)) (hg : ∀ o, g (ix2 0 o) = (G o : EReal)) (hb : ∀ o, be (ix2 0 o) = (B o : EReal))
    (hs : ∀ k, s (ix2 0 k) = ((∑ i, X k i : ℝ) : EReal)) (hm : ∀ k l, m (ix2 k l) = ((∑ i, X k i * X l i : ℝ) : EReal)) (o : Fin 9) :
    k1_pay8 w g be s m (ix1 o) = ((shift (W o) (G o) (B o) X : ℝ) : EReal) := by
  pointwise [k1_pay8]
  have hd := means_real (W := W) hw hs o
  rw [pay7_real hw hg hs hm, hb, hd, ← EReal.coe_mul, ← EReal.coe_sub]
  rfl

/-- The scaled weights. -/
theorem weights_real (hw : ∀ o k, w (ix2 o k) = (W o k : EReal)) (hg : ∀ o, g (ix2 0 o) = (G o : EReal))
    (hs : ∀ k, s (ix2 0 k) = ((∑ i, X k i : ℝ) : EReal)) (hm : ∀ k l, m (ix2 k l) = ((∑ i, X k i * X l i : ℝ) : EReal)) (o k : Fin 9) :
    k2_pay4 w g s m (ix2 o k) = ((scale (W o) (G o) X * W o k : ℝ) : EReal) := by
  have e : k2_pay3 w g s m = k1_pay7 w g s m := rfl
  pointwise [k2_pay4]
  rw [e, pay7_real hw hg hs hm, hw, ← EReal.coe_mul]

/-- The shifts of the second layer, whose products have a bias; what is shifted by may be infinite. -/
theorem pay10_real {b : Vec Ideal S1x9 .f32} {C : Fin 9 → ℝ} {D : Fin 9 → EReal} (hw : ∀ o k, w (ix2 o k) = (W o k : EReal)) (hg : ∀ o, g (ix2 0 o) = (G o : EReal))
    (hb : ∀ o, be (ix2 0 o) = D o) (hc : ∀ o, b (ix2 0 o) = (C o : EReal))
    (hs : ∀ k, s (ix2 0 k) = ((∑ i, X k i : ℝ) : EReal)) (hm : ∀ k l, m (ix2 k l) = ((∑ i, X k i * X l i : ℝ) : EReal)) (o : Fin 9) :
    k2_pay10 w (k2_pay6 g) be s m b (ix1 o)
      = D o - ((scale (W o) (G o) X * (∑ k, W o k * mean (X k) + C o) : ℝ) : EReal) + ((scale (W o) (G o) X * C o : ℝ) : EReal) := by
  have e : k2_pay8 w (k2_pay6 g) s m = k1_pay7 w g s m := rfl
  have e' : k2_pay7 s = k1_pay6 s := rfl
  pointwise [k2_pay10]
  have hd := means_real (W := W) hw hs o
  rw [e, e', pay7_real hw hg hs hm, hb, hc, hd, ← EReal.coe_add, ← EReal.coe_mul, ← EReal.coe_mul]

/-- The place of a column of a block: a neighbour and a point. -/
abbrev colSlot (x : Fin 2304) : Fin 9 := Fin.divNat (m := 9) (n := 256) x
abbrev colPoint (x : Fin 2304) : Fin 256 := Fin.modNat (m := 9) (n := 256) x

/-- The first product at a column, of any weights. -/
theorem pay11_apply (a : FVec Ideal S9x9 .f32) (d : FVec Ideal S9 .f32) (x0 : Vec Ideal S1x9x9x256 .f32) (o : Fin 9) (x : Fin 2304) :
    k2_pay11 a d x0 (ix2 o x) = ∑ k : Fin 9, a (ix2 o k) * x0 (ix4 0 k (colSlot x) (colPoint x)) + d (ix1 o) := by
  pointwise [k2_pay11]
  rfl

/-- The positive part of a product with weights, with the shifts added. -/
theorem pay1_eq (x0 : Vec Ideal S1x9x9x256 .f32) (o : Fin 9) (x : Fin 2304) :
    k1_pay1 (k1_pay8 w g be s m) (k1_pay9 w g s m x0) (ix2 o x) = max (k2_pay11 (k2_pay4 w g s m) (k2_pay5 w g be s m) x0 (ix2 o x)) 0 := by
  have e : k2_pay3 w g s m = k1_pay7 w g s m := rfl
  have e' : k2_pay5 w g be s m = k1_pay8 w g be s m := rfl
  rw [e']
  pointwise [k1_pay1, k1_pay9, k2_pay11, k2_pay4]
  rfl

variable {x0 : Vec Ideal S1x9x9x256 .f32} {P : Fin 9 → Fin 256 → Pts}

/-- The first layer at a column, before the positive part and after it. -/
theorem first_real (hw : ∀ o k, w (ix2 o k) = (W o k : EReal)) (hg : ∀ o, g (ix2 0 o) = (G o : EReal)) (hb : ∀ o, be (ix2 0 o) = (B o : EReal))
    (hs : ∀ k, s (ix2 0 k) = ((∑ i, X k i : ℝ) : EReal)) (hm : ∀ k l, m (ix2 k l) = ((∑ i, X k i * X l i : ℝ) : EReal))
    (hx : ∀ k t j, x0 (ix4 0 k t j) = (X k (P t j) : EReal)) (C : Fin 9 → ℝ) (o : Fin 9) (x : Fin 2304) :
    max (k2_pay11 (k2_pay4 w g s m) (k2_pay5 w g be s m) x0 (ix2 o x)) 0 = ((layer W C G B X o (P (colSlot x) (colPoint x)) : ℝ) : EReal) := by
  have e' : k2_pay5 w g be s m = k1_pay8 w g be s m := rfl
  have hd : ∑ k : Fin 9, k2_pay4 w g s m (ix2 o k) * x0 (ix4 0 k (colSlot x) (colPoint x))
      = ((∑ k, (scale (W o) (G o) X * W o k) * X k (P (colSlot x) (colPoint x)) : ℝ) : EReal) :=
    (Finset.sum_congr rfl fun k _ => by rw [weights_real hw hg hs hm, hx, ← EReal.coe_mul]).trans (coe_sum _ _)
  rw [pay11_apply, hd, e', pay8_real hw hg hb hs hm, ← EReal.coe_add, ← EReal.coe_zero, coe_max, layer_eq]

theorem hidden_real (hw : ∀ o k, w (ix2 o k) = (W o k : EReal)) (hg : ∀ o, g (ix2 0 o) = (G o : EReal)) (hb : ∀ o, be (ix2 0 o) = (B o : EReal))
    (hs : ∀ k, s (ix2 0 k) = ((∑ i, X k i : ℝ) : EReal)) (hm : ∀ k l, m (ix2 k l) = ((∑ i, X k i * X l i : ℝ) : EReal))
    (hx : ∀ k t j, x0 (ix4 0 k t j) = (X k (P t j) : EReal)) (C : Fin 9 → ℝ) (o : Fin 9) (x : Fin 2304) :
    k1_pay1 (k1_pay8 w g be s m) (k1_pay9 w g s m x0) (ix2 o x) = ((layer W C G B X o (P (colSlot x) (colPoint x)) : ℝ) : EReal) :=
  (pay1_eq x0 o x).trans (first_real hw hg hb hs hm hx C o x)

/-- The sums over a block's columns of real values, -/
theorem pay2_real {d : FVec Ideal S9 .f32} {h : FVec Ideal S9x2304 .f32} {Y : Act} (hy : ∀ o x, k1_pay1 d h (ix2 o x) = (Y o (P (colSlot x) (colPoint x)) : EReal)) (o : Fin 9) :
    k1_pay2 d h (ix2 0 o) = ∑ t : Fin 9, ∑ j : Fin 256, (Y o (P t j) : EReal) := by
  pointwise [k1_pay2]
  exact (Finset.sum_congr rfl fun x _ => hy o x).trans (sum_split (a := 9) (b := 256) fun t j => (Y o (P t j) : EReal))

/-- and of their products. -/
theorem pay3_real {d : FVec Ideal S9 .f32} {h : FVec Ideal S9x2304 .f32} {Y : Act} (hy : ∀ o x, k1_pay1 d h (ix2 o x) = (Y o (P (colSlot x) (colPoint x)) : EReal)) (o q : Fin 9) :
    k1_pay3 d h (ix2 o q) = ∑ t : Fin 9, ∑ j : Fin 256, (Y o (P t j) : EReal) * (Y q (P t j) : EReal) := by
  pointwise [k1_pay3]
  exact (Finset.sum_congr rfl fun x _ => congrArg₂ (· * ·) (hy o x) (hy q x)).trans (sum_split (a := 9) (b := 256) fun t j => (Y o (P t j) : EReal) * (Y q (P t j) : EReal))

/-- The column of a neighbour and a point. -/
abbrev column' (t : Fin 9) (j : Fin 256) : Fin 2304 := ⟨t.val * 256 + j.val, by omega⟩

/-- The third call's block, of any first layer. -/
theorem last_apply (a : FVec Ideal S9x9 .f32) (d : FVec Ideal S9 .f32) (h : FVec Ideal S9x2304 .f32) (w3 : Vec Ideal S9x9 .f32) (b3 : Vec Ideal S1x9 .f32) (o : Fin 9) (j : Fin 256) :
    k2_pay1 a d h (Scalar.ofBits .f32 0x00000000#32) w3 b3 (ix3 0 o j)
      = ∑ k : Fin 9, w3 (ix2 o k) * ∑ t : Fin 9, max (∑ l : Fin 9, a (ix2 k l) * max (h (ix2 l (column' t j))) 0 + d (ix1 k)) 0 + Ideal.ofBits .f32 0x41100000#32 * b3 (ix2 0 o) := by
  pointwise [k2_pay1]

/-- The third call's block, where the first layer and the weights, factors and bias of the second are real. -/
theorem last_real {w2 : Vec Ideal S9x9 .f32} {W2 : Fin 9 → Fin 9 → ℝ} {g2 be2 b2 s2 : Vec Ideal S1x9 .f32} {m2 : Vec Ideal S9x9 .f32} {G2 C : Fin 9 → ℝ} {B2 : Fin 9 → EReal} {Y : Act}
    {w3 : Vec Ideal S9x9 .f32} {b3 : Vec Ideal S1x9 .f32} {W3 : Fin 9 → Fin 9 → EReal} {D : Fin 9 → EReal} {h : FVec Ideal S9x2304 .f32}
    (hy : ∀ l x, max (h (ix2 l x)) 0 = (Y l (P (colSlot x) (colPoint x)) : EReal))
    (hw : ∀ o k, w2 (ix2 o k) = (W2 o k : EReal)) (hg : ∀ o, g2 (ix2 0 o) = (G2 o : EReal)) (hb : ∀ o, be2 (ix2 0 o) = B2 o) (hc : ∀ o, b2 (ix2 0 o) = (C o : EReal))
    (hs : ∀ k, s2 (ix2 0 k) = ((∑ i, Y k i : ℝ) : EReal)) (hm : ∀ k l, m2 (ix2 k l) = ((∑ i, Y k i * Y l i : ℝ) : EReal))
    (hw3 : ∀ o k, w3 (ix2 o k) = W3 o k) (hb3 : ∀ o, b3 (ix2 0 o) = D o) (o : Fin 9) (j : Fin 256) :
    k2_pay1 (k2_pay9 w2 (k2_pay6 g2) s2 m2) (k2_pay10 w2 (k2_pay6 g2) be2 s2 m2 b2) h (Scalar.ofBits .f32 0x00000000#32) w3 b3 (ix3 0 o j)
      = ∑ k, W3 o k * ∑ t : Fin 9, top W2 C G2 B2 Y k (P t j) + ((9 : ℝ) : EReal) * D o := by
  have e : k2_pay9 w2 (k2_pay6 g2) s2 m2 = k2_pay4 w2 g2 s2 m2 := rfl
  have hd : ∀ k t, ∑ l : Fin 9, k2_pay4 w2 g2 s2 m2 (ix2 k l) * max (h (ix2 l (column' t j))) 0
      = ((∑ l, (scale (W2 k) (G2 k) Y * W2 k l) * Y l (P t j) : ℝ) : EReal) := fun k t => by
    have h1 : colSlot (column' t j) = t := Fin.ext (show (t.val * 256 + j.val) / 256 = t.val by omega)
    have h2 : colPoint (column' t j) = j := Fin.ext (show (t.val * 256 + j.val) % 256 = j.val by omega)
    refine (Finset.sum_congr rfl fun l _ => ?_).trans (coe_sum _ _)
    rw [hy, weights_real hw hg hs hm, h1, h2, ← EReal.coe_mul]
  have hu : ∀ k t, max (∑ l : Fin 9, k2_pay4 w2 g2 s2 m2 (ix2 k l) * max (h (ix2 l (column' t j))) 0 + k2_pay10 w2 (k2_pay6 g2) be2 s2 m2 b2 (ix1 k)) 0
      = top W2 C G2 B2 Y k (P t j) := fun k t => by
    rw [hd, pay10_real hw hg hb hc hs hm, top_eq]
  rw [last_apply, e, ofBits_nine, hb3]
  refine congrArg (· + ((9 : ℝ) : EReal) * D o) (Finset.sum_congr rfl fun k _ => ?_)
  rw [hw3]
  exact congrArg (fun v : EReal => W3 o k * v) (Finset.sum_congr rfl fun t _ => hu k t)

end Cert.KernelIdeal.Gen

end
-- ==== Proof.Stages.lean ====
/- The second and the third call, where the arrays they are given are real: the sums of the first layer and of its products,
   and the result. -/
module

public import proofs.«01_k».proof.Proof.Result
public import proofs.«01_k».proof.Proof.Rows
public import proofs.«01_k».proof.Proof.SecondBody
public import proofs.«01_k».proof.Proof.Third

@[expose] public section

set_option maxRecDepth 16384

noncomputable section

namespace Cert.KernelIdeal.Gen

open Idealize.ShloMosaic Idealize.ShloMosaic.TcCoe
open Idealize.ShloMosaic.Pipeline (Dat Cfg Window)
open Cert.Layers

variable (V : (c : Dev nD) → (b : Ref sig .tc) → Buf (Elt Ideal) ((c : Thread nD τ).loc b)) (c : Dev nD)

/-- Where a column of a point's block is. -/
def placesAt (k : ℕ) (t : Fin 9) (j : Fin 256) : Pts := (cloudAt k, t, placeAt k j)

/-! ## The second call's blocks -/

theorem coords1_zero (t : Fin cfg1.N) : (grid1.coords t 0).val = t.val / 16 % 4 := Pipeline.Grid.coords_val t 0 (by decide) rfl
theorem coords1_one (t : Fin cfg1.N) : (grid1.coords t 1).val = t.val % 16 := by
  have e : (grid1.coords t 1).val = t.val / 1 % 16 := Pipeline.Grid.coords_val t 1 (by decide) rfl
  rw [e, Nat.div_one]
theorem index1_0 : ∀ t : Fin cfg1.N, win1_0.index t = ![(grid1.coords t 0).val, 0, 0, (grid1.coords t 1).val] := by decide +kernel

theorem feats1_block (t : Fin cfg1.N) (k s : Fin 9) (j : Fin 256) :
    iblk1 V c 0 t (ix4 0 k s j) = V c main_v1_0 (ix4 (cloudAt t.val) k s (placeAt t.val j)) := by
  have e0 := coords1_zero t
  have e1 := coords1_one t
  unfold cloudAt placeAt
  blk_ext [iblk1, index1_0, e0, e1]
theorem index1_1 : ∀ t : Fin cfg1.N, win1_1.index t = ![0, 0] := by decide +kernel
theorem whole1_1 (t : Fin cfg1.N) (o k : Fin 9) : iblk1 V c 1 t (ix2 o k) = V c main_arg1 (ix2 o k) := by
  blk_ext [iblk1, index1_1]
theorem index1_2 : ∀ t : Fin cfg1.N, win1_2.index t = ![0, 0] := by decide +kernel
theorem whole1_2 (t : Fin cfg1.N) (k : Fin 9) : iblk1 V c 2 t (ix2 0 k) = V c main_v2 (ix2 0 k) := by
  blk_ext [iblk1, index1_2]
theorem index1_3 : ∀ t : Fin cfg1.N, win1_3.index t = ![0, 0] := by decide +kernel
theorem whole1_3 (t : Fin cfg1.N) (k : Fin 9) : iblk1 V c 3 t (ix2 0 k) = V c main_v3 (ix2 0 k) := by
  blk_ext [iblk1, index1_3]
theorem index1_4 : ∀ t : Fin cfg1.N, win1_4.index t = ![0, 0] := by decide +kernel
theorem whole1_4 (t : Fin cfg1.N) (k : Fin 9) : iblk1 V c 4 t (ix2 0 k) = V c main_v1_1 (ix2 0 k) := by
  blk_ext [iblk1, index1_4]
theorem index1_5 : ∀ t : Fin cfg1.N, win1_5.index t = ![0, 0] := by decide +kernel
theorem whole1_5 (t : Fin cfg1.N) (o k : Fin 9) : iblk1 V c 5 t (ix2 o k) = V c main_v1_2 (ix2 o k) := by
  blk_ext [iblk1, index1_5]

/-! ## The third call's blocks -/

theorem coords2_zero (t : Fin cfg2.N) : (grid2.coords t 0).val = t.val / 16 % 4 := Pipeline.Grid.coords_val t 0 (by decide) rfl
theorem coords2_one (t : Fin cfg2.N) : (grid2.coords t 1).val = t.val % 16 := by
  have e : (grid2.coords t 1).val = t.val / 1 % 16 := Pipeline.Grid.coords_val t 1 (by decide) rfl
  rw [e, Nat.div_one]
theorem index2_0 : ∀ t : Fin cfg2.N, win2_0.index t = ![(grid2.coords t 0).val, 0, 0, (grid2.coords t 1).val] := by decide +kernel

theorem feats2_block (t : Fin cfg2.N) (k s : Fin 9) (j : Fin 256) :
    iblk2 V c 0 t (ix4 0 k s j) = V c main_v1_0 (ix4 (cloudAt t.val) k s (placeAt t.val j)) := by
  have e0 := coords2_zero t
  have e1 := coords2_one t
  unfold cloudAt placeAt
  blk_ext [iblk2, index2_0, e0, e1]
theorem index2_1 : ∀ t : Fin cfg2.N, win2_1.index t = ![0, 0] := by decide +kernel
theorem whole2_1 (t : Fin cfg2.N) (o k : Fin 9) : iblk2 V c 1 t (ix2 o k) = V c main_arg1 (ix2 o k) := by
  blk_ext [iblk2, index2_1]
theorem index2_2 : ∀ t : Fin cfg2.N, win2_2.index t = ![0, 0] := by decide +kernel
theorem whole2_2 (t : Fin cfg2.N) (k : Fin 9) : iblk2 V c 2 t (ix2 0 k) = V c main_v2 (ix2 0 k) := by
  blk_ext [iblk2, index2_2]
theorem index2_3 : ∀ t : Fin cfg2.N, win2_3.index t = ![0, 0] := by decide +kernel
theorem whole2_3 (t : Fin cfg2.N) (k : Fin 9) : iblk2 V c 3 t (ix2 0 k) = V c main_v3 (ix2 0 k) := by
  blk_ext [iblk2, index2_3]
theorem index2_4 : ∀ t : Fin cfg2.N, win2_4.index t = ![0, 0] := by decide +kernel
theorem whole2_4 (t : Fin cfg2.N) (o k : Fin 9) : iblk2 V c 4 t (ix2 o k) = V c main_arg4 (ix2 o k) := by
  blk_ext [iblk2, index2_4]
theorem index2_5 : ∀ t : Fin cfg2.N, win2_5.index t = ![0, 0] := by decide +kernel
theorem whole2_5 (t : Fin cfg2.N) (k : Fin 9) : iblk2 V c 5 t (ix2 0 k) = V c main_v6 (ix2 0 k) := by
  blk_ext [iblk2, index2_5]
theorem index2_6 : ∀ t : Fin cfg2.N, win2_6.index t = ![0, 0] := by decide +kernel
theorem whole2_6 (t : Fin cfg2.N) (k : Fin 9) : iblk2 V c 6 t (ix2 0 k) = V c main_v4 (ix2 0 k) := by
  blk_ext [iblk2, index2_6]
theorem index2_7 : ∀ t : Fin cfg2.N, win2_7.index t = ![0, 0] := by decide +kernel
theorem whole2_7 (t : Fin cfg2.N) (k : Fin 9) : iblk2 V c 7 t (ix2 0 k) = V c main_v5 (ix2 0 k) := by
  blk_ext [iblk2, index2_7]
theorem index2_8 : ∀ t : Fin cfg2.N, win2_8.index t = ![0, 0] := by decide +kernel
theorem whole2_8 (t : Fin cfg2.N) (o k : Fin 9) : iblk2 V c 8 t (ix2 o k) = V c main_arg8 (ix2 o k) := by
  blk_ext [iblk2, index2_8]
theorem index2_9 : ∀ t : Fin cfg2.N, win2_9.index t = ![0, 0] := by decide +kernel
theorem whole2_9 (t : Fin cfg2.N) (k : Fin 9) : iblk2 V c 9 t (ix2 0 k) = V c main_v7 (ix2 0 k) := by
  blk_ext [iblk2, index2_9]
theorem index2_10 : ∀ t : Fin cfg2.N, win2_10.index t = ![0, 0] := by decide +kernel
theorem whole2_10 (t : Fin cfg2.N) (k : Fin 9) : iblk2 V c 10 t (ix2 0 k) = V c main_v1_1 (ix2 0 k) := by
  blk_ext [iblk2, index2_10]
theorem index2_11 : ∀ t : Fin cfg2.N, win2_11.index t = ![0, 0] := by decide +kernel
theorem whole2_11 (t : Fin cfg2.N) (o k : Fin 9) : iblk2 V c 11 t (ix2 o k) = V c main_v1_2 (ix2 o k) := by
  blk_ext [iblk2, index2_11]
theorem index2_12 : ∀ t : Fin cfg2.N, win2_12.index t = ![0, 0] := by decide +kernel
theorem whole2_12 (t : Fin cfg2.N) (k : Fin 9) : iblk2 V c 12 t (ix2 0 k) = V c main_v8_0 (ix2 0 k) := by
  blk_ext [iblk2, index2_12]
theorem index2_13 : ∀ t : Fin cfg2.N, win2_13.index t = ![0, 0] := by decide +kernel
theorem whole2_13 (t : Fin cfg2.N) (o k : Fin 9) : iblk2 V c 13 t (ix2 o k) = V c main_v8_1 (ix2 o k) := by
  blk_ext [iblk2, index2_13]
theorem index2_14 : ∀ t : Fin cfg2.N, win2_14.index t = ![(grid2.coords t 0).val, 0, (grid2.coords t 1).val] := by decide +kernel

/-! ## The first layer's sums -/

/-- What both calls are given of the first layer: real features with their sums and the sums of their products, weights, factors and shifts. -/
structure Given (X : Act) (W1 : Fin 9 → Fin 9 → ℝ) (g1 be1 : Fin 9 → ℝ) : Prop where
  feats : ∀ b k s n, V c main_v1_0 (ix4 b k s n) = (X k (b, s, n) : EReal)
  weights : ∀ o k, V c main_arg1 (ix2 o k) = (W1 o k : EReal)
  factor : ∀ o, V c main_v2 (ix2 0 o) = (g1 o : EReal)
  shift : ∀ o, V c main_v3 (ix2 0 o) = (be1 o : EReal)
  sums : ∀ k, V c main_v1_1 (ix2 0 k) = ((∑ i, X k i : ℝ) : EReal)
  prods : ∀ k l, V c main_v1_2 (ix2 k l) = ((∑ i, X k i * X l i : ℝ) : EReal)

variable {X : Act} {W1 W2 : Fin 9 → Fin 9 → ℝ} {W3 : Fin 9 → Fin 9 → EReal} {g1 be1 g2 b2 : Fin 9 → ℝ} {be2 b3 : Fin 9 → EReal}

/-- The first layer's values; its products have no bias. -/
abbrev hidden (W1 : Fin 9 → Fin 9 → ℝ) (g1 be1 : Fin 9 → ℝ) (X : Act) : Act := layer W1 (fun _ => 0) g1 be1 X

variable {V c} (H : Given V c X W1 g1 be1)

include H in
theorem hidden_at (t : Fin cfg1.N) (o : Fin 9) (x : Fin 2304) :
    k1_pay1 (k1_pay8 (iblk1 V c 1 t) (iblk1 V c 2 t) (iblk1 V c 3 t) (iblk1 V c 4 t) (iblk1 V c 5 t)) (k1_pay9 (iblk1 V c 1 t) (iblk1 V c 2 t) (iblk1 V c 4 t) (iblk1 V c 5 t) (iblk1 V c 0 t)) (ix2 o x)
      = (hidden W1 g1 be1 X o (placesAt t.val (colSlot x) (colPoint x)) : EReal) :=
  hidden_real (P := placesAt t.val) (fun o k => (whole1_1 V c t o k).trans (H.weights o k)) (fun o => (whole1_2 V c t o).trans (H.factor o)) (fun o => (whole1_3 V c t o).trans (H.shift o))
    (fun k => (whole1_4 V c t k).trans (H.sums k)) (fun k l => (whole1_5 V c t k l).trans (H.prods k l)) (fun k s j => (feats1_block V c t k s j).trans (H.feats _ _ _ _)) _ o x

include H in
theorem hidden_sums (n : ℕ) (hn : n < cfg1.N) (o : Fin 9) :
    (outsAt1 V c n hn).1 (ix2 0 o) = ∑ k ∈ Finset.range (n + 1), ∑ s : Fin 9, ∑ j : Fin 256, (hidden W1 g1 be1 X o (placesAt k s j) : EReal) := by
  induction n with
  | zero =>
    rw [Finset.sum_range_one]
    exact (congrArg (fun v => v.1 (ix2 0 o)) (outsAt1_first V c ⟨0, hn⟩ rfl)).trans (pay2_real (P := placesAt 0) (hidden_at H ⟨0, hn⟩) o)
  | succ n ih =>
    rw [Finset.sum_range_succ, ← ih (Nat.lt_of_succ_lt hn)]
    refine (congrArg (fun v => v.1 (ix2 0 o)) (outsAt1_next V c ⟨n + 1, hn⟩ (Nat.succ_ne_zero n))).trans ?_
    have h := pay2_real (P := placesAt (n + 1)) (hidden_at H ⟨n + 1, hn⟩) o
    dsimp only
    pointwise [k1_pay4]
    exact congrArg (fun v : EReal => (outsAt1 V c n (Nat.lt_of_succ_lt hn)).1 (ix2 0 o) + v) h

include H in
theorem hidden_prods (n : ℕ) (hn : n < cfg1.N) (o q : Fin 9) :
    (outsAt1 V c n hn).2 (ix2 o q) = ∑ k ∈ Finset.range (n + 1), ∑ s : Fin 9, ∑ j : Fin 256, (hidden W1 g1 be1 X o (placesAt k s j) : EReal) * (hidden W1 g1 be1 X q (placesAt k s j) : EReal) := by
  induction n with
  | zero =>
    rw [Finset.sum_range_one]
    exact (congrArg (fun v => v.2 (ix2 o q)) (outsAt1_first V c ⟨0, hn⟩ rfl)).trans (pay3_real (P := placesAt 0) (hidden_at H ⟨0, hn⟩) o q)
  | succ n ih =>
    rw [Finset.sum_range_succ, ← ih (Nat.lt_of_succ_lt hn)]
    refine (congrArg (fun v => v.2 (ix2 o q)) (outsAt1_next V c ⟨n + 1, hn⟩ (Nat.succ_ne_zero n))).trans ?_
    have h := pay3_real (P := placesAt (n + 1)) (hidden_at H ⟨n + 1, hn⟩) o q
    dsimp only
    pointwise [k1_pay5]
    exact congrArg (fun v : EReal => (outsAt1 V c n (Nat.lt_of_succ_lt hn)).2 (ix2 o q) + v) h

/-- The last point of the second call's grid. -/
def lastPoint1 : Fin cfg1.N := ⟨63, by decide +kernel⟩

/-- A real number at every place, summed over the points of the grid. -/
theorem sum_real (Y : Pts → ℝ) : ∑ k ∈ Finset.range 64, ∑ s : Fin 9, ∑ j : Fin 256, (Y (placesAt k s j) : EReal) = ((∑ i, Y i : ℝ) : EReal) :=
  (sum_points fun b s n => (Y (b, s, n) : EReal)).trans ((sum_pts fun b s n => (Y (b, s, n) : EReal)).trans (coe_sum _ _))

include H in
/-- The second call's sums -/
theorem second_sums (o : Fin 9) : (dat1 V c).arrAt 6 cfg1.N (ix2 0 o) = ((∑ i, hidden W1 g1 be1 X o i : ℝ) : EReal) := by
  have h : (dat1 V c).arrAt 6 cfg1.N = fun i : S1x9.Idx => ((∑ p, hidden W1 g1 be1 X (i 1) p : ℝ) : EReal) := by
    refine (dat1 V c).arrAt_eq_of_after_last 6 lastPoint1 (by decide +kernel) _ fun j => ?_
    blk_simp
    rw [after1_6]
    have hj : (j : S1x9.Idx) = ix2 0 (j 1) := by
      funext a
      fin_cases a
      · exact Fin.ext (Nat.lt_one_iff.mp (j 0).isLt)
      · rfl
    exact (congrArg _ hj).trans ((hidden_sums H 63 _ (j 1)).trans (sum_real _))
  exact congrFun h _

include H in
/-- and its sums of products. -/
theorem second_prods (o q : Fin 9) : (dat1 V c).arrAt 7 cfg1.N (ix2 o q) = ((∑ i, hidden W1 g1 be1 X o i * hidden W1 g1 be1 X q i : ℝ) : EReal) := by
  have h : (dat1 V c).arrAt 7 cfg1.N = fun i : S9x9.Idx => ((∑ p, hidden W1 g1 be1 X (i 0) p * hidden W1 g1 be1 X (i 1) p : ℝ) : EReal) := by
    refine (dat1 V c).arrAt_eq_of_after_last 7 lastPoint1 (by decide +kernel) _ fun j => ?_
    blk_simp
    rw [after1_7]
    have hj : (j : S9x9.Idx) = ix2 (j 0) (j 1) := by
      funext a
      fin_cases a <;> rfl
    refine (congrArg _ hj).trans ((hidden_prods H 63 _ (j 0) (j 1)).trans ?_)
    simp only [← EReal.coe_mul]
    exact sum_real fun i => hidden W1 g1 be1 X (j 0) i * hidden W1 g1 be1 X (j 1) i
  exact congrFun h _

/-! ## The result -/

variable (V c) in
/-- What the third call is given besides: the second layer's weights, bias, factors and shifts, the first layer's sums, the last weights and bias. -/
structure Given2 (Y : Act) (W2 : Fin 9 → Fin 9 → ℝ) (b2 g2 : Fin 9 → ℝ) (be2 : Fin 9 → EReal) (W3 : Fin 9 → Fin 9 → EReal) (b3 : Fin 9 → EReal) : Prop where
  weights : ∀ o k, V c main_arg4 (ix2 o k) = (W2 o k : EReal)
  bias : ∀ o, V c main_v6 (ix2 0 o) = (b2 o : EReal)
  factor : ∀ o, V c main_v4 (ix2 0 o) = (g2 o : EReal)
  shift : ∀ o, V c main_v5 (ix2 0 o) = be2 o
  lastWeights : ∀ o k, V c main_arg8 (ix2 o k) = W3 o k
  lastBias : ∀ o, V c main_v7 (ix2 0 o) = b3 o
  sums : ∀ k, V c main_v8_0 (ix2 0 k) = ((∑ i, Y k i : ℝ) : EReal)
  prods : ∀ k l, V c main_v8_1 (ix2 k l) = ((∑ i, Y k i * Y l i : ℝ) : EReal)

include H in
theorem outAt2_apply (H2 : Given2 V c (hidden W1 g1 be1 X) W2 b2 g2 be2 W3 b3) (t : Fin cfg2.N) (o : Fin 9) (j : Fin 256) :
    outAt2 V c t (ix3 0 o j) = network W1 W2 W3 g1 be1 b2 g2 be2 b3 X (cloudAt t.val) o (placeAt t.val j) := by
  unfold network
  rw [last_eq _ _ (top_nonneg W2 b2 g2 be2 _)]
  exact last_real (P := placesAt t.val) (Y := hidden W1 g1 be1 X)
    (first_real (fun o k => (whole2_1 V c t o k).trans (H.weights o k)) (fun o => (whole2_2 V c t o).trans (H.factor o)) (fun o => (whole2_3 V c t o).trans (H.shift o))
      (fun k => (whole2_10 V c t k).trans (H.sums k)) (fun k l => (whole2_11 V c t k l).trans (H.prods k l)) (fun k s j => (feats2_block V c t k s j).trans (H.feats _ _ _ _)) _)
    (fun o k => (whole2_4 V c t o k).trans (H2.weights o k)) (fun o => (whole2_6 V c t o).trans (H2.factor o)) (fun o => (whole2_7 V c t o).trans (H2.shift o)) (fun o => (whole2_5 V c t o).trans (H2.bias o))
    (fun k => (whole2_12 V c t k).trans (H2.sums k)) (fun k l => (whole2_13 V c t k l).trans (H2.prods k l))
    (fun o k => (whole2_8 V c t o k).trans (H2.lastWeights o k)) (fun o => (whole2_9 V c t o).trans (H2.lastBias o)) o j

include H in
/-- The third call's result is the network's of the features. -/
theorem third_result (H2 : Given2 V c (hidden W1 g1 be1 X) W2 b2 g2 be2 W3 b3) :
    (dat2 V c).arrAt 14 cfg2.N = fun i : S4x9x4096.Idx => network W1 W2 W3 g1 be1 b2 g2 be2 b3 X (i 0) (i 1) (i 2) := by
  refine (dat2 V c).arrAt_eq_of_covers 14 _ (by decide +kernel) fun t hf y => ?_
  blk_simp
  rw [after2_14]
  have e0 := coords2_zero t
  have e1 := coords2_one t
  have hy : (y : S1x9x256.Idx) = ix3 0 (y 1) (y 2) := by
    funext a
    fin_cases a
    · exact Fin.ext (Nat.lt_one_iff.mp (y 0).isLt)
    · rfl
    · rfl
  have h0 : (y 0 : ℕ) < 1 := (y 0).isLt
  refine (congrArg _ hy).trans ((outAt2_apply H H2 t (y 1) (y 2)).trans ?_)
  have q0 : (win2_14.blk t).view.emb y 0 = cloudAt t.val := Fin.ext (by
    blk_simp [index2_14]
    show _ = t.val / 16 % 4
    simp [e0])
  have q1 : (win2_14.blk t).view.emb y 1 = y 1 := Fin.ext (by blk_simp [index2_14])
  have q2 : (win2_14.blk t).view.emb y 2 = placeAt t.val (y 2) := Fin.ext (by
    blk_simp [index2_14]
    show _ = 256 * (t.val % 16) + (y 2).val
    simp [e1]
    omega)
  rw [q0, q1, q2]

end Cert.KernelIdeal.Gen

end
-- ==== Proof.Whole.lean ====
/- The whole run, read: what each call is given by the host operations and the calls before it, and the result. -/
module

public import proofs.«01_k».proof.Proof.Stages
public import proofs.«01_k».proof.Proof.Run

@[expose] public section

set_option maxRecDepth 16384

noncomputable section

namespace Cert.KernelIdeal.Gen

open Idealize.ShloMosaic Idealize.ShloMosaic.TcCoe Idealize.SL.Sem
open Cert.Umbrella Cert.Layers

variable (m : (ℓ : Loc nD τ sig) → Buf (Elt Ideal) ℓ) (ρ : Dev nD → PrngReg)

/-- The first call's second operand is the transposed argument. -/
theorem turned_V1 : Turned (V1 m ρ) := fun c => rfl

/-- The clouds the first call is given are the argument's. -/
theorem clouds_V1 (c : Dev nD) (b : Fin 4) (q : Fin 3) (n : Fin 4096) : clouds (V1 m ρ) c b q n = m ((c : Thread nD τ).loc main_arg0) (ix3 b q n) :=
  congrFun (W1_args m ρ c main_arg0 (by decide)) _

/-- The reshapes before the second call. -/
theorem reshaped (c : Dev nD) (k : Fin 9) :
    V3 m ρ c main_v2 (ix2 0 k) = m ((c : Thread nD τ).loc main_arg2) (ix1 k)
    ∧ V3 m ρ c main_v3 (ix2 0 k) = m ((c : Thread nD τ).loc main_arg3) (ix1 k)
    ∧ V3 m ρ c main_v4 (ix2 0 k) = m ((c : Thread nD τ).loc main_arg6) (ix1 k)
    ∧ V3 m ρ c main_v5 (ix2 0 k) = m ((c : Thread nD τ).loc main_arg7) (ix1 k)
    ∧ V3 m ρ c main_v6 (ix2 0 k) = m ((c : Thread nD τ).loc main_arg5) (ix1 k)
    ∧ V3 m ρ c main_v7 (ix2 0 k) = m ((c : Thread nD τ).loc main_arg9) (ix1 k) := by
  have h : ∀ v : FVec Ideal S9 .f32, shapeCast S1x9 v shapeCasts_S9_S1x9 (ix2 0 k) = v (ix1 k) := fun v => by
    pointwise []
  have e2 : V3 m ρ c main_v2 = shapeCast S1x9 (W2 m ρ c (Proc.devRef .tc main_arg2) : FVec Ideal S9 .f32) shapeCasts_S9_S1x9 := rfl
  have e3 : V3 m ρ c main_v3 = shapeCast S1x9 (W2 m ρ c (Proc.devRef .tc main_arg3) : FVec Ideal S9 .f32) shapeCasts_S9_S1x9 := rfl
  have e4 : V3 m ρ c main_v4 = shapeCast S1x9 (W2 m ρ c (Proc.devRef .tc main_arg6) : FVec Ideal S9 .f32) shapeCasts_S9_S1x9 := rfl
  have e5 : V3 m ρ c main_v5 = shapeCast S1x9 (W2 m ρ c (Proc.devRef .tc main_arg7) : FVec Ideal S9 .f32) shapeCasts_S9_S1x9 := rfl
  have e6 : V3 m ρ c main_v6 = shapeCast S1x9 (W2 m ρ c (Proc.devRef .tc main_arg5) : FVec Ideal S9 .f32) shapeCasts_S9_S1x9 := rfl
  have e7 : V3 m ρ c main_v7 = shapeCast S1x9 (W2 m ρ c (Proc.devRef .tc main_arg9) : FVec Ideal S9 .f32) shapeCasts_S9_S1x9 := rfl
  rw [e2, e3, e4, e5, e6, e7, h, h, h, h, h, h, W2_args m ρ c main_arg2 (by decide), W2_args m ρ c main_arg3 (by decide), W2_args m ρ c main_arg6 (by decide),
    W2_args m ρ c main_arg7 (by decide), W2_args m ρ c main_arg5 (by decide), W2_args m ρ c main_arg9 (by decide)]
  exact ⟨rfl, rfl, rfl, rfl, rfl, rfl⟩

/-- Real arguments; the last shift, weights and bias may be infinite. -/
structure RealArgs (c : Dev nD) (X : Act) (W1 W2 : Fin 9 → Fin 9 → ℝ) (W3 : Fin 9 → Fin 9 → EReal) (g1 be1 b2 g2 : Fin 9 → ℝ) (be2 b3 : Fin 9 → EReal) : Prop where
  points : ∀ b q n, ∃ r : ℝ, clouds (V1 m ρ) c b q n = r
  feats : ∀ b k s n, feat (clouds (V1 m ρ) c) b k s n = (X k (b, s, n) : EReal)
  h1 : ∀ o k, m ((c : Thread nD τ).loc main_arg1) (ix2 o k) = (W1 o k : EReal)
  h2 : ∀ o, m ((c : Thread nD τ).loc main_arg2) (ix1 o) = (g1 o : EReal)
  h3 : ∀ o, m ((c : Thread nD τ).loc main_arg3) (ix1 o) = (be1 o : EReal)
  h4 : ∀ o k, m ((c : Thread nD τ).loc main_arg4) (ix2 o k) = (W2 o k : EReal)
  h5 : ∀ o, m ((c : Thread nD τ).loc main_arg5) (ix1 o) = (b2 o : EReal)
  h6 : ∀ o, m ((c : Thread nD τ).loc main_arg6) (ix1 o) = (g2 o : EReal)
  h7 : ∀ o, m ((c : Thread nD τ).loc main_arg7) (ix1 o) = be2 o
  h8 : ∀ o k, m ((c : Thread nD τ).loc main_arg8) (ix2 o k) = W3 o k
  h9 : ∀ o, m ((c : Thread nD τ).loc main_arg9) (ix1 o) = b3 o

variable {m ρ} {c : Dev nD} {X : Act} {U1 U2 : Fin 9 → Fin 9 → ℝ} {U3 : Fin 9 → Fin 9 → EReal} {g1 be1 b2 g2 : Fin 9 → ℝ} {be2 b3 : Fin 9 → EReal} (H : RealArgs m ρ c X U1 U2 U3 g1 be1 b2 g2 be2 b3)

include H in
/-- What the second call is given. -/
theorem given_V3 : Given (V3 m ρ) c X U1 g1 be1 where
  feats b k s n := by
    have e : V3 m ρ c main_v1_0 = fun i : S4x9x9x4096.Idx => feat (clouds (V1 m ρ) c) (i 0) (i 1) (i 2) (i 3) :=
      (W3_of m ρ c main_v1_0 (by decide)).trans ((W2_arr m ρ c 2).trans (final_feats (V1 m ρ) (turned_V1 m ρ) c H.points))
    exact (congrFun e _).trans (H.feats b k s n)
  weights o k := (congrFun (W3_args m ρ c main_arg1 (by decide)) _).trans (H.h1 o k)
  factor o := (reshaped m ρ c o).1.trans (H.h2 o)
  shift o := (reshaped m ρ c o).2.1.trans (H.h3 o)
  sums k := by
    have e : V3 m ρ c main_v1_1 = fun i : S1x9.Idx => ∑ b, ∑ s, ∑ n, feat (clouds (V1 m ρ) c) b (i 1) s n :=
      (W3_of m ρ c main_v1_1 (by decide)).trans ((W2_arr m ρ c 3).trans (final_sums (V1 m ρ) (turned_V1 m ρ) c H.points))
    refine (congrFun e _).trans ((sum_pts fun b s n => feat (clouds (V1 m ρ) c) b k s n).trans ?_)
    exact (Finset.sum_congr rfl fun i _ => H.feats _ _ _ _).trans (coe_sum _ _)
  prods k l := by
    have e : V3 m ρ c main_v1_2 = fun i : S9x9.Idx => ∑ b, ∑ s, ∑ n, feat (clouds (V1 m ρ) c) b (i 0) s n * feat (clouds (V1 m ρ) c) b (i 1) s n :=
      (W3_of m ρ c main_v1_2 (by decide)).trans ((W2_arr m ρ c 4).trans (final_prods (V1 m ρ) (turned_V1 m ρ) c H.points))
    refine (congrFun e _).trans ((sum_pts fun b s n => feat (clouds (V1 m ρ) c) b k s n * feat (clouds (V1 m ρ) c) b l s n).trans ?_)
    exact (Finset.sum_congr rfl fun i _ => by rw [H.feats, H.feats, ← EReal.coe_mul]).trans (coe_sum _ _)

/-- The second call changes nothing else. -/
theorem V4_of (c : Dev nD) (r : Ref sig .tc) (h : ∀ w : Fin cfg1.W, Pipeline.arrRef spec1 w = r → (cfg1.win w).isOut = false) : V4 m ρ c r = V3 m ρ c r :=
  W4_of m ρ c r h

include H in
/-- What the third call is given of the first layer, -/
theorem given_V4 : Given (V4 m ρ) c X U1 g1 be1 where
  feats b k s n := (congrFun (V4_of c main_v1_0 (by decide +kernel)) _).trans ((given_V3 H).feats b k s n)
  weights o k := (congrFun (V4_of c main_arg1 (by decide +kernel)) _).trans ((given_V3 H).weights o k)
  factor o := (congrFun (V4_of c main_v2 (by decide +kernel)) _).trans ((given_V3 H).factor o)
  shift o := (congrFun (V4_of c main_v3 (by decide +kernel)) _).trans ((given_V3 H).shift o)
  sums k := (congrFun (V4_of c main_v1_1 (by decide +kernel)) _).trans ((given_V3 H).sums k)
  prods k l := (congrFun (V4_of c main_v1_2 (by decide +kernel)) _).trans ((given_V3 H).prods k l)

include H in
/-- and of the second. -/
theorem given2_V4 : Given2 (V4 m ρ) c (hidden U1 g1 be1 X) U2 b2 g2 be2 U3 b3 where
  weights o k := (congrFun (W4_args m ρ c main_arg4 (by decide)) _).trans (H.h4 o k)
  bias o := (congrFun (V4_of c main_v6 (by decide +kernel)) _).trans ((reshaped m ρ c o).2.2.2.2.1.trans (H.h5 o))
  factor o := (congrFun (V4_of c main_v4 (by decide +kernel)) _).trans ((reshaped m ρ c o).2.2.1.trans (H.h6 o))
  shift o := (congrFun (V4_of c main_v5 (by decide +kernel)) _).trans ((reshaped m ρ c o).2.2.2.1.trans (H.h7 o))
  lastWeights o k := (congrFun (W4_args m ρ c main_arg8 (by decide)) _).trans (H.h8 o k)
  lastBias o := (congrFun (V4_of c main_v7 (by decide +kernel)) _).trans ((reshaped m ρ c o).2.2.2.2.2.trans (H.h9 o))
  sums k := (congrFun (W4_arr m ρ c 6) _).trans (second_sums (given_V3 H) k)
  prods k l := (congrFun (W4_arr m ρ c 7) _).trans (second_prods (given_V3 H) k l)

include H in
/-- The result. -/
theorem whole_result : (dat2 (V4 m ρ) c).arrAt 14 cfg2.N = fun i : S4x9x4096.Idx => network U1 U2 U3 g1 be1 b2 g2 be2 b3 X (i 0) (i 1) (i 2) :=
  third_result (given_V4 H) (given2_V4 H)

end Cert.KernelIdeal.Gen

end
-- ==== Proof.Reading.lean ====
/- The reference's values, read at an index. -/
module

public import proofs.«01_k».proof.Proof.Cloud
public import proofs.«01_k».proof.Proof.Gen.ReferenceIdeal.Run
public import Idealize.ShloMosaic.Lib.Pointwise

@[expose] public section

set_option maxRecDepth 16384

noncomputable section

namespace Cert.ReferenceIdeal.Value

open Idealize.ShloMosaic Idealize.ShloMosaic.TcCoe
open Cert.Umbrella

theorem along_last {p q r : ℕ} (b : Fin p) (n : Fin q) (s k : Fin r) (h : 2 < 3) :
    Shape.Idx.along (s := ⟨3, ![p, q, r]⟩) (ix3 b n s) ⟨2, h⟩ k = ix3 b n k := by
  funext a
  fin_cases a <;> rfl

/-- A sort of pairs along the last of three axes, at an index. -/
theorem sort_apply {p q r : ℕ} {α β : Type} (cmp : α × β → α × β → BitVec 1) (x : Shape.Idx ⟨3, ![p, q, r]⟩ → α) (y : Shape.Idx ⟨3, ![p, q, r]⟩ → β) (b : Fin p) (n : Fin q) (s : Fin r) :
    (Host.sort2 ⟨3, ![p, q, r]⟩ 2 cmp x y).2 (ix3 b n s)
      = y (ix3 b n (sortedFrom (fun k k' => cmp (x (ix3 b n k), y (ix3 b n k)) (x (ix3 b n k'), y (ix3 b n k')) == 1#1) s)) := by
  unfold Host.sort2
  rw [dif_pos (show 2 < 3 by decide)]
  have h := along_last b n s
  refine (congrArg y (h _ _)).trans (congrArg (fun f => y (ix3 b n (sortedFrom f s))) (funext fun k => funext fun k' => ?_))
  exact congrArg₂ (fun u v => cmp (x u, y u) (x v, y v) == 1#1) (h k _) (h k' _)

theorem ofBool_one (p : Prop) [Decidable p] : BitVec.ofBool (decide p) = 1#1 ↔ p := by
  by_cases h : p <;> simp [h]

variable (V0 : Valuation τ sig (Elt Ideal))

/-- The clouds, as the argument holds them. -/
def clouds (b : Fin 4) (q : Fin 3) (n : Fin 4096) : EReal := V0 (Proc.devRef .tc main_arg0) (ix3 b q n)

theorem v0_apply (b : Fin 4) (n : Fin 4096) (q : Fin 3) : res_main_v0 V0 (ix3 b n q) = clouds V0 b q n := by
  pointwise [res_main_v0]
  rfl

theorem v2_apply (b : Fin 4) (n : Fin 4096) : res_main_v2 V0 (ix2 b n) = ∑ q, clouds V0 b q n * clouds V0 b q n := by
  pointwise [res_main_v2, v0_apply]

theorem v12_apply (b : Fin 4) (n k : Fin 4096) : res_main_v12 V0 (ix3 b n k) = -(key (clouds V0 b) (fun q => clouds V0 b q n) k) := by
  pointwise [res_main_v12, v2_apply, v0_apply]
  rw [ofBits_two, key, add_comm]
  simp only [mul_comm]

/-- A word that holds a place below `m` is the place once clamped. -/
theorem clamp_word (i m : ℕ) (h : i ≤ m) (hm : m < 2 ^ 31) : min ((BitVec.ofNat 32 i).toInt.toNat) m = i := by
  rw [BitVec.toInt_eq_toNat_of_lt (by rw [BitVec.toNat_ofNat]; omega), BitVec.toNat_ofNat, Int.toNat_natCast]
  omega

theorem gather_points (x : FVec Ideal S4x4096x3 .f32) (w : IVec S4x4096x10x1 32) (b : Fin 4) (n : Fin 4096) (s : Fin 10) (q : Fin 3) (i : Fin 4096)
    (h : w (ix4 b n s 0) = BitVec.ofNat 32 i.val) :
    Host.gather gather_S4x4096x3_S4x4096x10x1_S4x4096x10x3_3_1_0_0_1_3_113 x w (ix4 b n s q) = x (ix3 b i q) := by
  unfold Host.gather
  congr 1
  funext a
  refine Fin.ext ?_
  fin_cases a
  · show 0 + b.val + 0 = b.val
    omega
  · have e : gather_S4x4096x3_S4x4096x10x1_S4x4096x10x3_3_1_0_0_1_3_113.siIdx (ix4 b n s q) ⟨0, by decide⟩ = ix4 b n s 0 := by
      funext a
      fin_cases a <;> rfl
    show min (w (gather_S4x4096x3_S4x4096x10x1_S4x4096x10x3_3_1_0_0_1_3_113.siIdx (ix4 b n s q) ⟨0, by decide⟩)).toInt.toNat 4095 + 0 + 0 = i.val
    rw [e, h, clamp_word _ _ (by omega) (by decide)]
    rfl
  · show 0 + 0 + q.val = q.val
    omega

theorem gather_nine (x : FVec Ideal S4x4096x9x3 .f32) (w : IVec S4x4096x9x1 32) (b : Fin 4) (n : Fin 4096) (s : Fin 9) (q : Fin 3) (i : Fin 9)
    (h : w (ix4 b n s 0) = BitVec.ofNat 32 i.val) :
    Host.gather gather_S4x4096x9x3_S4x4096x9x1_S4x4096x9x3_3_2_01_01_2_3_1113 x w (ix4 b n s q) = x (ix4 b n i q) := by
  unfold Host.gather
  congr 1
  funext a
  refine Fin.ext ?_
  fin_cases a
  · show 0 + b.val + 0 = b.val
    omega
  · show 0 + n.val + 0 = n.val
    omega
  · have e : gather_S4x4096x9x3_S4x4096x9x1_S4x4096x9x3_3_2_01_01_2_3_1113.siIdx (ix4 b n s q) ⟨0, by decide⟩ = ix4 b n s 0 := by
      funext a
      fin_cases a <;> rfl
    show min (w (gather_S4x4096x9x3_S4x4096x9x1_S4x4096x9x3_3_2_01_01_2_3_1113.siIdx (ix4 b n s q) ⟨0, by decide⟩)).toInt.toNat 8 + 0 + 0 = i.val
    rw [e, h, clamp_word _ _ (by omega) (by decide)]
    rfl
  · show 0 + 0 + q.val = q.val
    omega

theorem gather_first (x : FVec Ideal S4x4096x9x3 .f32) (w : IVec S4x4096x1x1 32) (b : Fin 4) (n : Fin 4096) (q : Fin 3) (i : Fin 9)
    (h : w (ix4 b n 0 0) = BitVec.ofNat 32 i.val) :
    Host.gather gather_S4x4096x9x3_S4x4096x1x1_S4x4096x1x3_3_2_01_01_2_3_1113 x w (ix4 b n 0 q) = x (ix4 b n i q) := by
  unfold Host.gather
  congr 1
  funext a
  refine Fin.ext ?_
  fin_cases a
  · show 0 + b.val + 0 = b.val
    omega
  · show 0 + n.val + 0 = n.val
    omega
  · have e : gather_S4x4096x9x3_S4x4096x1x1_S4x4096x1x3_3_2_01_01_2_3_1113.siIdx (ix4 b n 0 q) ⟨0, by decide⟩ = ix4 b n 0 0 := by
      funext a
      fin_cases a <;> rfl
    show min (w (gather_S4x4096x9x3_S4x4096x1x1_S4x4096x1x3_3_2_01_01_2_3_1113.siIdx (ix4 b n 0 q) ⟨0, by decide⟩)).toInt.toNat 8 + 0 + 0 = i.val
    rw [e, h, clamp_word _ _ (by omega) (by decide)]
    rfl
  · show 0 + 0 + q.val = q.val
    omega

/-- Each point's ten nearest, in order. -/
theorem indices_apply (b : Fin 4) (n : Fin 4096) (s : Fin 10) :
    res_main_indices V0 (ix3 b n s) = BitVec.ofNat 32 (pick (key (clouds V0 b) fun q => clouds V0 b q n) ⟨s.val, by omega⟩).val := by
  have h := sort_apply (p := 4) (q := 4096) (r := 4096) (fun l r : EReal × BitVec 32 => FloatOps.cmpfTotal (F := Ideal) (φ := .f32) .gt l.1 r.1) (res_main_v12 V0)
    (iotaInDim S4x4096x4096 32 2) b n ⟨s.val, by omega⟩
  rw [sortedFrom_eq_pick (key (clouds V0 b) fun q => clouds V0 b q n)] at h
  · refine Eq.trans ?_ h
    refine congrArg (Host.sort2 S4x4096x4096 2 (fun l r : EReal × BitVec 32 => FloatOps.cmpfTotal (F := Ideal) (φ := .f32) .gt l.1 r.1) (res_main_v12 V0) (iotaInDim S4x4096x4096 32 2)).2 (?_ : _ = ix3 b n (⟨s.val, by omega⟩ : Fin 4096))
    funext a
    fin_cases a <;> exact Fin.ext (Nat.zero_add _)
  · intro i j
    rw [v12_apply, v12_apply, Ideal.cmpfTotal_def]
    simp only [Ideal.cmp, CmpDirection.ordered, EReal.neg_lt_neg_iff, beq_iff_eq]
    exact ofBool_one _

/-- A word below the sign bit is not negative. -/
theorem not_negative (i : ℕ) (h : i < 2 ^ 31) (w : BitVec 32) : Scalar.select (IntOp.cmpi .slt (BitVec.ofNat 32 i) 0#32) w (BitVec.ofNat 32 i) = BitVec.ofNat 32 i := by
  have e : IntOp.cmpi .slt (BitVec.ofNat 32 i) 0#32 = 0#1 := by
    have : (BitVec.ofNat 32 i).slt 0#32 = false := by
      rw [BitVec.slt, BitVec.toInt_eq_toNat_of_lt (by rw [BitVec.toNat_ofNat]; omega)]
      exact decide_eq_false (by show ¬((_ : ℤ) < 0); omega)
    unfold IntOp.cmpi
    simp [this]
  rw [e]
  rfl

theorem v23_apply (b : Fin 4) (n : Fin 4096) (s : Fin 9) (q : Fin 3) :
    res_main_v23 V0 (ix4 b n s q) = gap (clouds V0 b) (fun q => clouds V0 b q n) q s := by
  pointwise [res_main_v23, v0_apply]
  rw [gather_points _ _ b n ⟨1 + s.val, by omega⟩ q (pick (key (clouds V0 b) fun q => clouds V0 b q n) ⟨1 + s.val, by omega⟩)]
  · rw [v0_apply]
    unfold gap
    simp only [Nat.add_comm 1]
  · pointwise []
    rw [indices_apply]
    exact not_negative _ (by omega) _

/-- The angle of a neighbour as a part of a turn, and a half. -/
def angle (x y : Col) : Col := fun t => Ideal.div (Ideal.atan2 (y t) (x t)) (Ideal.ofBits .f32 0x40C90FDB#32) + Ideal.ofBits .f32 0x3F000000#32

/-- The order in which the reference takes the neighbours of a point. -/
def byTurn (x y : Col) : Fin 9 → Fin 9 := pick (angle x y)

/-- The comparison of two angles in the sort is the order of their values. -/
theorem compare_floats (a b : EReal) (u v : BitVec 32) : comparator_f32_i32_d2 (F := Ideal) (a, u) (b, v) == 1#1 ↔ a < b := by
  have hz : ∀ x : EReal, Scalar.select (Ideal.cmp .oeq x (Ideal.ofBits .f32 0x00000000#32)) (Ideal.ofBits .f32 0x00000000#32) x = x := fun x => by
    rw [Ideal.ofBits_zero_f32]
    by_cases h : x = 0 <;> simp [Ideal.cmp, Scalar.select, h]
  have hn : ∀ x y : EReal, Scalar.select (Ideal.cmp .une x x) y x = x := fun x y => by
    simp [Ideal.cmp, Scalar.select]
  have e : comparator_f32_i32_d2 (F := Ideal) (a, u) (b, v) = Ideal.cmp .olt
      (Scalar.select (Ideal.cmp .une a a) (Ideal.ofBits .f32 0x7FC00000#32) (Scalar.select (Ideal.cmp .oeq a (Ideal.ofBits .f32 0x00000000#32)) (Ideal.ofBits .f32 0x00000000#32) a))
      (Scalar.select (Ideal.cmp .une b b) (Ideal.ofBits .f32 0x7FC00000#32) (Scalar.select (Ideal.cmp .oeq b (Ideal.ofBits .f32 0x00000000#32)) (Ideal.ofBits .f32 0x00000000#32) b)) := rfl
  rw [e, hz, hz, hn, hn, beq_iff_eq]
  exact ofBool_one _

theorem compare_words (a b : BitVec 32) (u v : BitVec 32) : comparator_i32_i32_d2 (a, u) (b, v) == 1#1 ↔ a.toInt < b.toInt := by
  have e : comparator_i32_i32_d2 (a, u) (b, v) = BitVec.ofBool (decide (a.toInt < b.toInt)) := rfl
  rw [e, beq_iff_eq]
  exact ofBool_one _

theorem v35_apply (b : Fin 4) (n : Fin 4096) (s : Fin 9) :
    res_main_v35 V0 (ix4 b n s 0) = BitVec.ofNat 32 (byTurn (gap (clouds V0 b) (fun q => clouds V0 b q n) 0) (gap (clouds V0 b) (fun q => clouds V0 b q n) 1) s).val := by
  have h := sort_apply (p := 4) (q := 4096) (r := 9) (comparator_f32_i32_d2 (F := Ideal)) (res_main_v32 V0) (res_main_v33 V0) b n s
  have hk : ∀ t, res_main_v32 V0 (ix3 b n t) = angle (gap (clouds V0 b) (fun q => clouds V0 b q n) 0) (gap (clouds V0 b) (fun q => clouds V0 b q n) 1) t := fun t => by
    pointwise [res_main_v32, v23_apply]
    rfl
  simp only [hk] at h
  rw [sortedFrom_eq_pick (angle (gap (clouds V0 b) (fun q => clouds V0 b q n) 0) (gap (clouds V0 b) (fun q => clouds V0 b q n) 1)) _ fun i j => compare_floats _ _ _ _] at h
  pointwise [res_main_v35]
  refine h.trans ?_
  pointwise [res_main_v33]
  rfl

theorem v36_apply (b : Fin 4) (n : Fin 4096) (s : Fin 9) (q : Fin 3) :
    res_main_v36 V0 (ix4 b n s q) = gap (clouds V0 b) (fun q => clouds V0 b q n) q (byTurn (gap (clouds V0 b) (fun q => clouds V0 b q n) 0) (gap (clouds V0 b) (fun q => clouds V0 b q n) 1) s) := by
  unfold res_main_v36
  rw [gather_nine _ _ b n s q (byTurn (gap (clouds V0 b) (fun q => clouds V0 b q n) 0) (gap (clouds V0 b) (fun q => clouds V0 b q n) 1) s)]
  · rw [v23_apply]
  · pointwise [v35_apply]
    exact not_negative _ (by omega) _

/-- A coordinate of a point's neighbours in the reference's order. -/
def umb (b : Fin 4) (n : Fin 4096) (q : Fin 3) : Col := fun s =>
  gap (clouds V0 b) (fun q => clouds V0 b q n) q (byTurn (gap (clouds V0 b) (fun q => clouds V0 b q n) 0) (gap (clouds V0 b) (fun q => clouds V0 b q n) 1) s)

theorem a_apply (b : Fin 4) (n : Fin 4096) (s : Fin 9) (q : Fin 3) : res_main_v36 V0 (ix4 b n s q) = umb V0 b n q s := v36_apply V0 b n s q

theorem b_apply (b : Fin 4) (n : Fin 4096) (s : Fin 9) (q : Fin 3) : res_main_v39 V0 (ix4 b n s q) = umb V0 b n q (s + 1) := by
  fin_cases s <;> pointwise [res_main_v39, a_apply] <;> rfl

variable (b : Fin 4) (n : Fin 4096) (s : Fin 9)

theorem v54_apply : res_main_v54 V0 (ix3 b n s) = cross (umb V0 b n 1) (umb V0 b n 2) s := by
  pointwise [res_main_v54, res_main_v43, res_main_v51, res_main_v45, res_main_v49, a_apply, b_apply]
  rfl
theorem v57_apply : res_main_v57 V0 (ix3 b n s) = cross (umb V0 b n 2) (umb V0 b n 0) s := by
  pointwise [res_main_v57, res_main_v41, res_main_v51, res_main_v45, res_main_v47, a_apply, b_apply]
  rfl
theorem v60_apply : res_main_v60 V0 (ix3 b n s) = cross (umb V0 b n 0) (umb V0 b n 1) s := by
  pointwise [res_main_v60, res_main_v41, res_main_v43, res_main_v47, res_main_v49, a_apply, b_apply]
  rfl
theorem v66_apply : res_main_v66 V0 (ix3 b n s) = area (umb V0 b n 0) (umb V0 b n 1) (umb V0 b n 2) s := by
  pointwise [res_main_v66, v54_apply, v57_apply, v60_apply]
  rfl
theorem v68_apply : res_main_v68 V0 (ix3 b n s) = BitVec.ofBool (decide (area (umb V0 b n 0) (umb V0 b n 1) (umb V0 b n 2) s = 0)) := by
  pointwise [res_main_v68, v66_apply]

/-- The reference's unit normals before their common sign, -/
def unitR (x y z v : Col) : Col := fun s => if area x y z s = 0 then 0 else Ideal.div (v s) (area x y z s)

/-- their sign, -/
def signR (x y z : Col) : EReal := if 0 < unitR x y z (cross y z) 0 then 1 else -1

/-- its centres, -/
def centreR (v : Col) : Col := fun s => Ideal.div (v s + v (s + 1)) (Ideal.ofBits .f32 0x40400000#32)

/-- their distances from the point, -/
def distR (x y z : Col) : Col := fun s => norm3 (centreR x s) (centreR y s) (centreR z s)

/-- the cosine of the angle between the centre and the third axis, -/
def cosineR (x y z : Col) : Col := fun s => min (max (Ideal.div (centreR z s) (if distR x y z s = 0 then 1 else distR x y z s)) (-1)) 1

/-- that angle as a part of a half turn, -/
def thetaR (x y z : Col) : Col := fun s => Ideal.div (if distR x y z s = 0 then 0 else Ideal.acos (cosineR x y z s)) (Ideal.ofBits .f32 0x40490FDB#32)

/-- the centre's angle about the third axis, -/
def turnR (x y : Col) : Col := angle (centreR x) (centreR y)

/-- and the nine features. -/
def orderedR (x y z : Col) : Fin 9 → Col :=
  ![fix (area x y z) (centreR x), fix (area x y z) (centreR y), fix (area x y z) (centreR z),
    distR x y z, thetaR x y z, turnR x y,
    fix (area x y z) fun s => unitR x y z (cross y z) s * signR x y z,
    fix (area x y z) fun s => unitR x y z (cross z x) s * signR x y z,
    fix (area x y z) fun s => unitR x y z (cross x y) s * signR x y z]

/-- The three components of the cross products. -/
def normals : Fin 3 → Col := ![cross (umb V0 b n 1) (umb V0 b n 2), cross (umb V0 b n 2) (umb V0 b n 0), cross (umb V0 b n 0) (umb V0 b n 1)]

theorem v77_apply (q : Fin 3) : res_main_v77 V0 (ix4 b n s q) = unitR (umb V0 b n 0) (umb V0 b n 1) (umb V0 b n 2) (normals V0 b n q) s := by
  have e : id (constant (F := Ideal) S_ .f32 0x00000000#32) ix0 = (0 : EReal) := Ideal.ofBits_zero_f32
  fin_cases q <;> pointwise [res_main_v77, v68_apply, v66_apply, v54_apply, v57_apply, v60_apply] <;> rw [e] <;> rfl

theorem v92_apply (q : Fin 3) : res_main_v92 V0 (ix4 b n s q) = centreR (umb V0 b n q) s := by
  pointwise [res_main_v92, a_apply, b_apply]
  rfl

theorem v95_apply : res_main_v95 V0 (ix3 b n s) = distR (umb V0 b n 0) (umb V0 b n 1) (umb V0 b n 2) s := by
  pointwise [res_main_v95, v92_apply]
  rw [Fin.sum_univ_three]
  rfl

theorem v129_apply : res_main_v129 V0 (ix4 b n 0 0) = BitVec.ofNat 32 (first (area (umb V0 b n 0) (umb V0 b n 1) (umb V0 b n 2))).val := by
  have h := sort_apply (p := 4) (q := 4096) (r := 9) comparator_i32_i32_d2 (res_main_v125 V0) (res_main_v126 V0) b n 0
  have hk : ∀ t, res_main_v125 V0 (ix3 b n t) = (BitVec.ofBool (decide (area (umb V0 b n 0) (umb V0 b n 1) (umb V0 b n 2) t = 0))).setWidth 32 := fun t => by
    pointwise [res_main_v125, v68_apply]
  have hi : ∀ t, ((BitVec.ofBool (decide (area (umb V0 b n 0) (umb V0 b n 1) (umb V0 b n 2) t = 0))).setWidth 32).toInt
      = ((if area (umb V0 b n 0) (umb V0 b n 1) (umb V0 b n 2) t = 0 then 1 else 0 : ℕ) : ℤ) := fun t => by
    by_cases h : area (umb V0 b n 0) (umb V0 b n 1) (umb V0 b n 2) t = 0 <;> simp [h]
  simp only [hk] at h
  rw [sortedFrom_eq_pick (fun t => if area (umb V0 b n 0) (umb V0 b n 1) (umb V0 b n 2) t = 0 then (1 : ℕ) else 0) _ fun i j => (compare_words _ _ _ _).trans (by rw [hi, hi]; exact Nat.cast_lt)] at h
  pointwise [res_main_v129]
  refine h.trans ?_
  pointwise [res_main_v126]
  rfl

/-- A truth value as a sign. -/
theorem sign_word (p : Prop) [Decidable p] : FloatOps.uitofp (F := Ideal) .f32 (BitVec.ofBool (decide p)) * Ideal.ofBits .f32 0x40000000#32 - 1 = if p then (1 : EReal) else -1 := by
  rw [ofBits_two]
  by_cases h : p
  · rw [if_pos h, decide_eq_true h]
    show (((1 : ℕ) : ℝ) : EReal) * ((2 : ℝ) : EReal) - 1 = 1
    rw [← EReal.coe_mul, ← EReal.coe_one, ← EReal.coe_sub]
    norm_num
  · rw [if_neg h, decide_eq_false h]
    show (((0 : ℕ) : ℝ) : EReal) * ((2 : ℝ) : EReal) - 1 = -1
    rw [← EReal.coe_mul, ← EReal.coe_one, ← EReal.coe_sub, ← EReal.coe_neg]
    norm_num

theorem v89_apply (q : Fin 3) : res_main_v89 V0 (ix4 b n s q)
    = unitR (umb V0 b n 0) (umb V0 b n 1) (umb V0 b n 2) (normals V0 b n q) s * signR (umb V0 b n 0) (umb V0 b n 1) (umb V0 b n 2) := by
  pointwise [res_main_v89, v77_apply]
  exact congrArg _ (sign_word _)

set_option maxRecDepth 8192 in
/-- The reference's features: the triangles' centres, their polar coordinates and their normals, side by side. -/
def featsR : FVec Ideal S4x9x9x4096 .f32 :=
  transpose S4x9x9x4096 [0, 3, 2, 1] ((concatenate S4x4096x9x9 3 [⟨S4x4096x9x3, ((select (broadcastInDim S4x4096x9x3 ![0, 1, 2, 3] Gen.bcast_S4x4096x9x1_S4x4096x9x3_0_1_2_3 (broadcastInDim S4x4096x9x1 ![0, 1, 2] Gen.bcast_S4x4096x9_S4x4096x9x1_0_1_2 (res_main_v68 V0))) (broadcastInDim S4x4096x9x3 ![0, 1, 2, 3] Gen.bcast_S4x4096x1x3_S4x4096x9x3_0_1_2_3 (Host.gather gather_S4x4096x9x3_S4x4096x1x1_S4x4096x1x3_3_2_01_01_2_3_1113 (res_main_v92 V0) (select (cmpi .slt (res_main_v129 V0) (broadcastInDim S4x4096x1x1 ![] Gen.bcast_S_S4x4096x1x1 (constantI S_ 32 0#32))) (addi (res_main_v129 V0) (broadcastInDim S4x4096x1x1 ![] Gen.bcast_S_S4x4096x1x1 (constantI S_ 32 9#32))) (res_main_v129 V0)))) (res_main_v92 V0)) : (⟨S4x4096x9x3, .f32⟩ : BufTy).Contents (Elt Ideal))⟩, ⟨S4x4096x9x3, (((concatenate S4x4096x9x3 3 [⟨S4x4096x9x1, ((broadcastInDim S4x4096x9x1 ![0, 1, 2] Gen.bcast_S4x4096x9_S4x4096x9x1_0_1_2 (res_main_v95 V0)) : (⟨S4x4096x9x1, .f32⟩ : BufTy).Contents (Elt Ideal))⟩, ⟨S4x4096x9x1, ((broadcastInDim S4x4096x9x1 ![0, 1, 2] Gen.bcast_S4x4096x9_S4x4096x9x1_0_1_2 (Host.divf (select (cmpf .oeq (res_main_v95 V0) (broadcastInDim S4x4096x9 ![] Gen.bcast_S_S4x4096x9 (constant S_ .f32 0x00000000#32))) (broadcastInDim S4x4096x9 ![] Gen.bcast_S_S4x4096x9 (id (constant S_ .f32 0x00000000#32))) (Host.acos (minimumf (maximumf (Host.divf (shapeCast _ (extractStridedSlice S4x4096x9x1 ![0, 0, 0, 2] (res_main_v92 V0) Gen.slices_S4x4096x9x3_S4x4096x9x1_0_0_0_2) Gen.shapeCasts_S4x4096x9x1_S4x4096x9) (select (cmpf .oeq (res_main_v95 V0) (broadcastInDim S4x4096x9 ![] Gen.bcast_S_S4x4096x9 (constant S_ .f32 0x00000000#32))) (broadcastInDim S4x4096x9 ![] Gen.bcast_S_S4x4096x9 (id (constant S_ .f32 0x3F800000#32))) (res_main_v95 V0))) (broadcastInDim S4x4096x9 ![] Gen.bcast_S_S4x4096x9 (constant S_ .f32 0xBF800000#32))) (broadcastInDim S4x4096x9 ![] Gen.bcast_S_S4x4096x9 (constant S_ .f32 0x3F800000#32))))) (broadcastInDim S4x4096x9 ![] Gen.bcast_S_S4x4096x9 (constant S_ .f32 0x40490FDB#32)))) : (⟨S4x4096x9x1, .f32⟩ : BufTy).Contents (Elt Ideal))⟩, ⟨S4x4096x9x1, ((broadcastInDim S4x4096x9x1 ![0, 1, 2] Gen.bcast_S4x4096x9_S4x4096x9x1_0_1_2 (addf (Host.divf (Host.atan2 (shapeCast _ (extractStridedSlice S4x4096x9x1 ![0, 0, 0, 1] (res_main_v92 V0) Gen.slices_S4x4096x9x3_S4x4096x9x1_0_0_0_1) Gen.shapeCasts_S4x4096x9x1_S4x4096x9) (shapeCast _ (extractStridedSlice S4x4096x9x1 ![0, 0, 0, 0] (res_main_v92 V0) Gen.slices_S4x4096x9x3_S4x4096x9x1_0_0_0_0) Gen.shapeCasts_S4x4096x9x1_S4x4096x9)) (broadcastInDim S4x4096x9 ![] Gen.bcast_S_S4x4096x9 (constant S_ .f32 0x40C90FDB#32))) (broadcastInDim S4x4096x9 ![] Gen.bcast_S_S4x4096x9 (constant S_ .f32 0x3F000000#32)))) : (⟨S4x4096x9x1, .f32⟩ : BufTy).Contents (Elt Ideal))⟩] Gen.concatenates_S4x4096x9x1_S4x4096x9x1_S4x4096x9x1_S4x4096x9x3_d3 : (⟨S4x4096x9x3, .f32⟩ : BufTy).Contents (Elt Ideal))) : (⟨S4x4096x9x3, .f32⟩ : BufTy).Contents (Elt Ideal))⟩, ⟨S4x4096x9x3, ((select (broadcastInDim S4x4096x9x3 ![0, 1, 2, 3] Gen.bcast_S4x4096x9x1_S4x4096x9x3_0_1_2_3 (broadcastInDim S4x4096x9x1 ![0, 1, 2] Gen.bcast_S4x4096x9_S4x4096x9x1_0_1_2 (res_main_v68 V0))) (broadcastInDim S4x4096x9x3 ![0, 1, 2, 3] Gen.bcast_S4x4096x1x3_S4x4096x9x3_0_1_2_3 (Host.gather gather_S4x4096x9x3_S4x4096x1x1_S4x4096x1x3_3_2_01_01_2_3_1113 (res_main_v89 V0) (select (cmpi .slt (res_main_v129 V0) (broadcastInDim S4x4096x1x1 ![] Gen.bcast_S_S4x4096x1x1 (constantI S_ 32 0#32))) (addi (res_main_v129 V0) (broadcastInDim S4x4096x1x1 ![] Gen.bcast_S_S4x4096x1x1 (constantI S_ 32 9#32))) (res_main_v129 V0)))) (res_main_v89 V0)) : (⟨S4x4096x9x3, .f32⟩ : BufTy).Contents (Elt Ideal))⟩] Gen.concatenates_S4x4096x9x3_S4x4096x9x3_S4x4096x9x3_S4x4096x9x9_d3 : (⟨S4x4096x9x9, .f32⟩ : BufTy).Contents (Elt Ideal))) Gen.transposes_S4x4096x9x9_S4x9x9x4096_0_3_2_1

/-- The reference's first product takes them with the first weights. -/
theorem v139_eq : res_main_v139 V0 = transpose S4x9x9x4096 [0, 3, 1, 2] (Host.dotGeneral (F := Ideal) (φ₁ := .f32) (φ₂ := .f32) dot_S4x9x9x4096_S9x9_S4x9x4096x9_1_1_023_0_n_n none (featsR V0) (V0 (Proc.devRef .tc main_arg1) : FVec Ideal S9x9 .f32)) Gen.transposes_S4x9x4096x9_S4x9x9x4096_0_3_1_2 := rfl

theorem featsR_apply (c : Fin 9) : featsR V0 (ix4 b c s n) = orderedR (umb V0 b n 0) (umb V0 b n 1) (umb V0 b n 2) c s := by
  have gf : ∀ x : FVec Ideal S4x4096x9x3 .f32, ∀ q, Host.gather gather_S4x4096x9x3_S4x4096x1x1_S4x4096x1x3_3_2_01_01_2_3_1113 x
      (select (cmpi .slt (res_main_v129 V0) (broadcastInDim S4x4096x1x1 ![] Gen.bcast_S_S4x4096x1x1 (constantI S_ 32 0#32))) (addi (res_main_v129 V0) (broadcastInDim S4x4096x1x1 ![] Gen.bcast_S_S4x4096x1x1 (constantI S_ 32 9#32))) (res_main_v129 V0))
      (ix4 b n 0 q) = x (ix4 b n (first (area (umb V0 b n 0) (umb V0 b n 1) (umb V0 b n 2))) q) := fun x q => by
    refine gather_first x _ b n q _ ?_
    pointwise [v129_apply]
    exact not_negative _ (by omega) _
  fin_cases c <;> pointwise [featsR, v68_apply, v92_apply, v89_apply, v95_apply, gf]
  · rfl
  · rfl
  · rfl
  · rfl
  · have e : id (constant (F := Ideal) S_ .f32 0x00000000#32) ix0 = (0 : EReal) := Ideal.ofBits_zero_f32
    have e' : id (constant (F := Ideal) S_ .f32 0x3F800000#32) ix0 = (1 : EReal) := Ideal.ofBits_one_f32
    rw [e, e', ofBits_neg_one]
    rfl
  · rfl
  · rfl
  · rfl
  · rfl

end Cert.ReferenceIdeal.Value

end
-- ==== Proof.Match.lean ====
/- The reference's features of nine real neighbours are the features as stated. -/
module

public import proofs.«01_k».proof.Proof.Reading
public import Idealize.ShloMosaic.Lib.IdealHost

@[expose] public section

set_option maxRecDepth 16384

noncomputable section

namespace Cert.ReferenceIdeal.Value

open Idealize.ShloMosaic Idealize.ShloMosaic.TcCoe
open Cert.Umbrella

/-- The reference's three. -/
theorem ofBits_three : Ideal.ofBits .f32 0x40400000#32 = ((3 : ℝ) : EReal) := by
  simp [Ideal.ofBits, Ideal.ieee, -EReal.coe_mul]; norm_num

/-- The reference's π, -/
theorem ofBits_pi : Ideal.ofBits .f32 0x40490FDB#32 = ((13176795 / 4194304 : ℝ) : EReal) := by
  simp [Ideal.ofBits, Ideal.ieee, -EReal.coe_mul]; norm_num

/-- and twice it. -/
theorem ofBits_two_pi : Ideal.ofBits .f32 0x40C90FDB#32 = ((13176795 / 2097152 : ℝ) : EReal) := by
  simp [Ideal.ofBits, Ideal.ieee, -EReal.coe_mul]; norm_num

theorem div_pi (v : EReal) : Ideal.div v (Ideal.ofBits .f32 0x40490FDB#32) = v * ((4194304 / 13176795 : ℝ) : EReal) := by
  rw [ofBits_pi, Ideal.div_coe (by norm_num)]; norm_num

theorem div_two_pi (v : EReal) : Ideal.div v (Ideal.ofBits .f32 0x40C90FDB#32) = v * ((2097152 / 13176795 : ℝ) : EReal) := by
  rw [ofBits_two_pi, Ideal.div_coe (by norm_num)]; norm_num

theorem div_three (v : EReal) : Ideal.div v (Ideal.ofBits .f32 0x40400000#32) = v * ((1 / 3 : ℝ) : EReal) := by
  rw [ofBits_three, Ideal.div_coe (by norm_num)]

theorem atan2_real (a b : ℝ) : ∃ r : ℝ, Ideal.atan2 a b = r := ⟨_, rfl⟩

/-- The order by the angle does not depend on the angle's unit or its zero. -/
theorem byTurn_eq {x y : Col} (hx : ∀ s, ∃ r : ℝ, x s = r) (hy : ∀ s, ∃ r : ℝ, y s = r) : byTurn x y = order x y := by
  choose X hX using hx
  choose Y hY using hy
  refine pick_congr _ _ fun i j => ?_
  obtain ⟨p, hp⟩ := atan2_real (Y i) (X i)
  obtain ⟨q, hq⟩ := atan2_real (Y j) (X j)
  simp only [angle, div_two_pi, ofBits_half, hX, hY, hp, hq]
  rw [← EReal.coe_mul, ← EReal.coe_mul, ← EReal.coe_add, ← EReal.coe_add, EReal.coe_lt_coe_iff, EReal.coe_lt_coe_iff]
  constructor <;> intro h <;> linarith

theorem centreR_eq (v : Col) : centreR v = centre v := funext fun s => div_three _

theorem turnR_eq (x y : Col) : turnR x y = turn x y := by
  funext s
  simp only [turnR, angle, centreR_eq, div_two_pi, ofBits_half, turn]

theorem squares_nonneg (a b c : ℝ) : 0 ≤ a * a + b * b + c * c :=
  add_nonneg (add_nonneg (mul_self_nonneg a) (mul_self_nonneg b)) (mul_self_nonneg c)

theorem norm3_real (a b c : ℝ) : norm3 a b c = (Real.sqrt (a * a + b * b + c * c) : EReal) := by
  have h : ¬ a * a + b * b + c * c < 0 := not_lt.2 (squares_nonneg a b c)
  show Ideal.sqrt ((a : EReal) * a + b * b + c * c) = _
  rw [← EReal.coe_mul, ← EReal.coe_mul, ← EReal.coe_mul, ← EReal.coe_add, ← EReal.coe_add, Ideal.sqrt_coe, if_neg h]

/-- A real vector of no length is zero. -/
theorem zero_of_norm3 {a b c : EReal} (ha : ∃ r : ℝ, a = r) (hb : ∃ r : ℝ, b = r) (hc : ∃ r : ℝ, c = r) (h : norm3 a b c = 0) : a = 0 ∧ b = 0 ∧ c = 0 := by
  obtain ⟨a, rfl⟩ := ha
  obtain ⟨b, rfl⟩ := hb
  obtain ⟨c, rfl⟩ := hc
  rw [norm3_real] at h
  have h0 : Real.sqrt (a * a + b * b + c * c) = 0 := by exact_mod_cast h
  rw [Real.sqrt_eq_zero (squares_nonneg a b c)] at h0
  have h1 : a = 0 := by nlinarith [mul_self_nonneg a, mul_self_nonneg b, mul_self_nonneg c]
  have h2 : b = 0 := by nlinarith [mul_self_nonneg a, mul_self_nonneg b, mul_self_nonneg c]
  have h3 : c = 0 := by nlinarith [mul_self_nonneg a, mul_self_nonneg b, mul_self_nonneg c]
  simp [h1, h2, h3]

theorem cross_real {y z : Col} (hy : ∀ s, ∃ r : ℝ, y s = r) (hz : ∀ s, ∃ r : ℝ, z s = r) (s : Fin 9) : ∃ r : ℝ, cross y z s = r := by
  choose Y hY using hy
  choose Z hZ using hz
  exact ⟨Y s * Z (s + 1) - Z s * Y (s + 1), by simp only [cross, hY, hZ]; norm_cast⟩

theorem centre_real {v : Col} (hv : ∀ s, ∃ r : ℝ, v s = r) (s : Fin 9) : ∃ r : ℝ, centre v s = r := by
  choose V hV using hv
  exact ⟨(V s + V (s + 1)) * (1 / 3), by simp only [centre, hV]; norm_cast⟩

variable {x y z : Col} (hx : ∀ s, ∃ r : ℝ, x s = r) (hy : ∀ s, ∃ r : ℝ, y s = r) (hz : ∀ s, ∃ r : ℝ, z s = r)

/-- Where the triangle has no area its normal is zero, so the quotient by one is too. -/
theorem unitR_eq (v : Col) (hv : ∀ s, area x y z s = 0 → v s = 0) : unitR x y z v = unit x y z v := by
  funext s
  unfold unitR unit
  by_cases h : area x y z s = 0
  · rw [if_pos h, if_pos h, hv s h, ← EReal.coe_one, Ideal.div_coe one_ne_zero, zero_mul]
  · rw [if_neg h, if_neg h]

include hx hy hz in
theorem area_zero (s : Fin 9) (h : area x y z s = 0) : cross y z s = 0 ∧ cross z x s = 0 ∧ cross x y s = 0 :=
  zero_of_norm3 (cross_real hy hz s) (cross_real hz hx s) (cross_real hx hy s) h

include hx hy hz in
theorem signR_eq : signR x y z = sign x y z := by
  unfold signR sign
  rw [unitR_eq _ fun s h => (area_zero hx hy hz s h).1]

theorem distR_eq : distR x y z = Umbrella.dist x y z := by
  funext s
  simp only [distR, Umbrella.dist, centreR_eq]

theorem cosineR_eq : cosineR x y z = cosine x y z := by
  funext s
  simp only [cosineR, cosine, centreR_eq, distR_eq]
  rw [min_comm, max_comm]

include hx hy hz in
theorem cosine_real (s : Fin 9) : ∃ r : ℝ, cosine x y z s = r ∧ -1 ≤ r ∧ r ≤ 1 := by
  obtain ⟨a, ha⟩ := centre_real hx s
  obtain ⟨b, hb⟩ := centre_real hy s
  obtain ⟨c, hc⟩ := centre_real hz s
  have hd : ∃ d : ℝ, d ≠ 0 ∧ (if Umbrella.dist x y z s = 0 then 1 else Umbrella.dist x y z s) = (d : EReal) := by
    by_cases h : Umbrella.dist x y z s = 0
    · exact ⟨1, one_ne_zero, by rw [if_pos h, EReal.coe_one]⟩
    · rw [if_neg h]
      unfold Umbrella.dist at h ⊢
      rw [ha, hb, hc, norm3_real] at h ⊢
      exact ⟨_, by exact_mod_cast h, rfl⟩
  obtain ⟨d, hd0, hd⟩ := hd
  refine ⟨min 1 (max (-1) (c * (1 / d))), ?_, ?_, ?_⟩
  · unfold cosine
    rw [hd, hc, Ideal.div_coe hd0, EReal.coe_strictMono.monotone.map_min, EReal.coe_strictMono.monotone.map_max, EReal.coe_mul, EReal.coe_neg, EReal.coe_one]
  · exact le_min (by norm_num) (le_max_left _ _)
  · exact min_le_left _ _

/-- The angle from its cosine, by the inverse cosine and by the quotient of sine and cosine. -/
theorem acos_eq (r : ℝ) (h0 : -1 ≤ r) (h1 : r ≤ 1) : Ideal.acos (r : EReal) = Ideal.atan2 (Ideal.sqrt (max ((1 - (r : EReal)) * (1 + (r : EReal))) 0)) r := by
  have hp : 0 ≤ (1 - r) * (1 + r) := mul_nonneg (by linarith) (by linarith)
  have hs : Ideal.sqrt (max ((1 - (r : EReal)) * (1 + (r : EReal))) 0) = ((Real.sqrt (1 - r ^ 2) : ℝ) : EReal) := by
    have e : max ((1 - (r : EReal)) * (1 + (r : EReal))) 0 = (((1 - r) * (1 + r) : ℝ) : EReal) := by
      rw [← EReal.coe_one, ← EReal.coe_sub, ← EReal.coe_add, ← EReal.coe_mul]
      exact max_eq_left (by exact_mod_cast hp)
    rw [e, Ideal.sqrt_coe, if_neg (not_lt.2 hp)]
    congr 2; ring
  rw [hs, Ideal.acos_coe, if_pos ⟨h0, h1⟩]
  show _ = ((if 0 < r then Real.arctan (Real.sqrt (1 - r ^ 2) / r)
      else if r < 0 then (if 0 ≤ Real.sqrt (1 - r ^ 2) then Real.arctan (Real.sqrt (1 - r ^ 2) / r) + Real.pi else Real.arctan (Real.sqrt (1 - r ^ 2) / r) - Real.pi)
      else if 0 < Real.sqrt (1 - r ^ 2) then Real.pi / 2 else if Real.sqrt (1 - r ^ 2) < 0 then -(Real.pi / 2) else 0 : ℝ) : EReal)
  congr 1
  rcases lt_trichotomy r 0 with h | h | h
  · rw [if_neg (by linarith), if_pos h, if_pos (Real.sqrt_nonneg _)]
    have e := Real.arccos_eq_arctan (x := -r) (by linarith)
    rw [Real.arccos_neg, neg_sq, div_neg, Real.arctan_neg] at e
    linarith
  · subst h
    norm_num
  · rw [if_pos h, Real.arccos_eq_arctan h]

include hx hy hz in
theorem thetaR_eq : thetaR x y z = theta x y z := by
  funext s
  obtain ⟨r, hr, h0, h1⟩ := cosine_real hx hy hz s
  simp only [thetaR, theta, cosineR_eq, distR_eq, div_pi, hr, acos_eq r h0 h1]

include hx hy hz in
theorem orderedR_eq : orderedR x y z = ordered x y z := by
  have u0 := unitR_eq _ fun s h => (area_zero hx hy hz s h).1
  have u1 := unitR_eq _ fun s h => (area_zero hx hy hz s h).2.1
  have u2 := unitR_eq _ fun s h => (area_zero hx hy hz s h).2.2
  unfold orderedR ordered
  rw [u0, u1, u2, signR_eq hx hy hz, thetaR_eq hx hy hz, turnR_eq, distR_eq, centreR_eq, centreR_eq, centreR_eq]

/-! ## The features are real -/

theorem fix_real (n : Col) {v : Col} (hv : ∀ s, ∃ r : ℝ, v s = r) (s : Fin 9) : ∃ r : ℝ, fix n v s = r := by
  unfold fix
  split
  · exact hv _
  · exact hv _

theorem norm3_is_real {a b c : EReal} (ha : ∃ r : ℝ, a = r) (hb : ∃ r : ℝ, b = r) (hc : ∃ r : ℝ, c = r) : ∃ r : ℝ, norm3 a b c = r := by
  obtain ⟨a, rfl⟩ := ha
  obtain ⟨b, rfl⟩ := hb
  obtain ⟨c, rfl⟩ := hc
  exact ⟨_, norm3_real a b c⟩

theorem mul_real {a b : EReal} (ha : ∃ r : ℝ, a = r) (hb : ∃ r : ℝ, b = r) : ∃ r : ℝ, a * b = r := by
  obtain ⟨a, rfl⟩ := ha
  obtain ⟨b, rfl⟩ := hb
  exact ⟨a * b, (EReal.coe_mul a b).symm⟩

theorem add_real {a b : EReal} (ha : ∃ r : ℝ, a = r) (hb : ∃ r : ℝ, b = r) : ∃ r : ℝ, a + b = r := by
  obtain ⟨a, rfl⟩ := ha
  obtain ⟨b, rfl⟩ := hb
  exact ⟨a + b, (EReal.coe_add a b).symm⟩

theorem sign_real (x y z : Col) : ∃ r : ℝ, sign x y z = r := by
  unfold sign
  split
  · exact ⟨1, EReal.coe_one.symm⟩
  · exact ⟨-1, by rw [EReal.coe_neg, EReal.coe_one]⟩

include hx hy hz in
theorem unit_real {v : Col} (hv : ∀ s, ∃ r : ℝ, v s = r) (s : Fin 9) : ∃ r : ℝ, unit x y z v s = r := by
  obtain ⟨n, hn⟩ := norm3_is_real (cross_real hy hz s) (cross_real hz hx s) (cross_real hx hy s)
  obtain ⟨u, hu⟩ := hv s
  have hn : area x y z s = n := hn
  have h : ∃ d : ℝ, d ≠ 0 ∧ (if area x y z s = 0 then 1 else area x y z s) = (d : EReal) := by
    by_cases h : area x y z s = 0
    · exact ⟨1, one_ne_zero, by rw [if_pos h, EReal.coe_one]⟩
    · rw [if_neg h]
      rw [hn] at h ⊢
      exact ⟨n, by exact_mod_cast h, rfl⟩
  obtain ⟨d, hd0, hd⟩ := h
  exact ⟨u * (1 / d), by rw [unit, hd, hu, Ideal.div_coe hd0, EReal.coe_mul]⟩

include hx hy hz in
theorem theta_real (s : Fin 9) : ∃ r : ℝ, theta x y z s = r := by
  obtain ⟨r, hr, h0, h1⟩ := cosine_real hx hy hz s
  refine mul_real ?_ ⟨_, rfl⟩
  split
  · exact ⟨0, EReal.coe_zero.symm⟩
  · rw [hr, ← acos_eq r h0 h1, Ideal.acos_coe, if_pos ⟨h0, h1⟩]
    exact ⟨_, rfl⟩

include hx hy in
theorem turn_real (s : Fin 9) : ∃ r : ℝ, turn x y s = r := by
  obtain ⟨a, ha⟩ := centre_real hx s
  obtain ⟨b, hb⟩ := centre_real hy s
  refine add_real (mul_real ?_ ⟨_, rfl⟩) ⟨_, rfl⟩
  rw [ha, hb]
  exact atan2_real b a

include hx hy hz in
theorem ordered_real (c s : Fin 9) : ∃ r : ℝ, ordered x y z c s = r := by
  have u : ∀ v : Col, (∀ s, ∃ r : ℝ, v s = r) → ∀ s, ∃ r : ℝ, fix (area x y z) (fun s => unit x y z v s * sign x y z) s = r := fun v hv s =>
    fix_real _ (fun s => mul_real (unit_real hx hy hz hv s) (sign_real x y z)) s
  fin_cases c
  · exact fix_real _ (centre_real hx) s
  · exact fix_real _ (centre_real hy) s
  · exact fix_real _ (centre_real hz) s
  · exact norm3_is_real (centre_real hx s) (centre_real hy s) (centre_real hz s)
  · exact theta_real hx hy hz s
  · exact turn_real hx hy s
  · exact u _ (cross_real hy hz) s
  · exact u _ (cross_real hz hx) s
  · exact u _ (cross_real hx hy) s

/-- The features of real clouds are real. -/
theorem feat_real {A : Fin 4 → Fin 3 → Fin 4096 → EReal} (hA : ∀ b q n, ∃ r : ℝ, A b q n = r) (b : Fin 4) (c s : Fin 9) (n : Fin 4096) : ∃ r : ℝ, feat A b c s n = r := by
  have hg : ∀ q s, ∃ r : ℝ, gap (A b) (fun q => A b q n) q s = r := fun q s => by
    obtain ⟨u, hu⟩ := hA b q (pick (key (A b) fun q => A b q n) ⟨s.val + 1, by omega⟩)
    obtain ⟨v, hv⟩ := hA b q n
    exact ⟨u - v, by rw [gap, hu, hv, EReal.coe_sub]⟩
  exact ordered_real (fun s => hg 0 _) (fun s => hg 1 _) (fun s => hg 2 _) c s

variable (V0 : Valuation τ sig (Elt Ideal)) (hA : ∀ b q n, ∃ r : ℝ, clouds V0 b q n = r)

include hA in
/-- The reference's features. -/
theorem feats_apply (b : Fin 4) (c s : Fin 9) (n : Fin 4096) : featsR V0 (ix4 b c s n) = feat (clouds V0) b c s n := by
  have hg : ∀ q s, ∃ r : ℝ, gap (clouds V0 b) (fun q => clouds V0 b q n) q s = r := fun q s => by
    obtain ⟨u, hu⟩ := hA b q (pick (key (clouds V0 b) fun q => clouds V0 b q n) ⟨s.val + 1, by omega⟩)
    obtain ⟨v, hv⟩ := hA b q n
    exact ⟨u - v, by rw [gap, hu, hv, EReal.coe_sub]⟩
  have hu : ∀ q, umb V0 b n q = gap (clouds V0 b) (fun q => clouds V0 b q n) q ∘ order (gap (clouds V0 b) (fun q => clouds V0 b q n) 0) (gap (clouds V0 b) (fun q => clouds V0 b q n) 1) := fun q => by
    rw [← byTurn_eq (hg 0) (hg 1)]
    rfl
  rw [featsR_apply, orderedR_eq (hu 0 ▸ fun s => hg 0 _) (hu 1 ▸ fun s => hg 1 _) (hu 2 ▸ fun s => hg 2 _), hu, hu, hu]
  rfl

theorem drop_eq (h : S4x9x9x4096.ReducesTo [0, 2, 3] S9) (b : Fin 4) (c s : Fin 9) (n : Fin 4096) : h.drop (ix4 b c s n) = ix1 c := by
  funext p
  fin_cases p
  rfl

/-- The reference's sum over the clouds, the neighbours and the points. -/
theorem total (x : FVec Ideal S4x9x9x4096 .f32) (a : Fin 9) :
    Host.reduceAdd x (constant (F := Ideal) S_ .f32 0x00000000#32) Gen.reducesTo_S4x9x9x4096_S9_d0_2_3 Gen.h_S_ (ix1 a) = ∑ b, ∑ s, ∑ n, x (ix4 b a s n) := by
  have e : constant (F := Ideal) S_ .f32 0x00000000#32 (Shape.Idx.first Gen.h_S_) = (0 : EReal) := Ideal.ofBits_zero_f32
  rw [ValueIdx.hostReduceAdd_apply, e, Ideal.hostReduceAdd, zero_add, Finset.sum_filter, sum_idx4]
  refine Finset.sum_congr rfl fun b _ => ?_
  have hc : ∀ c : Fin 9, (ix1 c = (ix1 a : S9.Idx)) ↔ c = a := fun c => ⟨fun h => congrFun h 0, fun h => h ▸ rfl⟩
  simp only [drop_eq, hc]
  rw [Finset.sum_eq_single a (fun c _ h => by simp only [if_neg h, Finset.sum_const_zero]) (fun h => absurd (Finset.mem_univ a) h)]
  simp only [if_true]

end Cert.ReferenceIdeal.Value

end
-- ==== Proof.RefLayers.lean ====
/- The reference after the features, read at an index: products with weights, normalizations over the batch, the last sum. -/
module

public import proofs.«01_k».proof.Proof.Match
public import proofs.«01_k».proof.Proof.Layers

@[expose] public section

set_option maxRecDepth 16384

noncomputable section

namespace Cert.ReferenceIdeal.Value

open Idealize.ShloMosaic Idealize.ShloMosaic.TcCoe Idealize.SL.Sem
open Cert.Umbrella Cert.Layers

/-- A product of every place's channels with weights. -/
def conv (x : FVec Ideal S4x9x9x4096 .f32) (w : FVec Ideal S9x9 .f32) : FVec Ideal S4x9x9x4096 .f32 :=
  transpose S4x9x9x4096 [0, 3, 1, 2] (Host.dotGeneral dot_S4x9x9x4096_S9x9_S4x9x4096x9_1_1_023_0_n_n none x w) Gen.transposes_S4x9x4096x9_S4x9x9x4096_0_3_1_2

/-- A number for every channel, at every place. -/
def wide (v : FVec Ideal S1x9x1x1 .f32) : FVec Ideal S4x9x9x4096 .f32 :=
  broadcastInDim S4x9x9x4096 ![0, 1, 2, 3] Gen.bcast_S1x9x1x1_S4x9x9x4096_0_1_2_3 v

def tall (v : FVec Ideal S9 .f32) : FVec Ideal S1x9x1x1 .f32 := broadcastInDim S1x9x1x1 ![1] Gen.bcast_S9_S1x9x1x1_1 v

/-- One number for all the channels. -/
def all (v : FVec Ideal S_ .f32) : FVec Ideal S1x9x1x1 .f32 := broadcastInDim S1x9x1x1 ![] Gen.bcast_S_S1x9x1x1 v

/-- The sum of every channel. -/
def sums (x : FVec Ideal S4x9x9x4096 .f32) : FVec Ideal S9 .f32 :=
  Host.reduceAdd x (constant S_ .f32 0x00000000#32) Gen.reducesTo_S4x9x9x4096_S9_d0_2_3 Gen.h_S_

/-- The channels less their means. -/
def centred (x : FVec Ideal S4x9x9x4096 .f32) : FVec Ideal S4x9x9x4096 .f32 :=
  subf x (wide (Host.divf (tall (sums x)) (all (constant S_ .f32 0x48100000#32))))

/-- What a sum of squares is divided by. -/
def places : FVec Ideal S_ .f32 := subf (constant S_ .f32 0x48100000#32) (sitofp .f32 (constantI S_ 32 0#32))

/-- The variances. -/
def vars (x : FVec Ideal S4x9x9x4096 .f32) : FVec Ideal S1x9x1x1 .f32 :=
  select (broadcastInDim S1x9x1x1 ![] Gen.bcast_S_S1x9x1x1 (cmpf .ogt places (constant S_ .f32 0x00000000#32)))
    (Host.divf (tall (sums (mulf (centred x) (centred x)))) (all places)) (all (id (constant S_ .f32 0x7FC00000#32)))

/-- The normalized channels, scaled and shifted, and of those the positive part. -/
def positive (x : FVec Ideal S4x9x9x4096 .f32) (g be : FVec Ideal S9 .f32) : FVec Ideal S4x9x9x4096 .f32 :=
  maximumf (addf (mulf (Host.divf (centred x) (wide (Host.sqrt (addf (vars x) (all (constant S_ .f32 0x3727C5AC#32)))))) (wide (tall g))) (wide (tall be)))
    (broadcastInDim S4x9x9x4096 ![] Gen.bcast_S_S4x9x9x4096 (constant S_ .f32 0x00000000#32))

/-- The last sum, over the neighbours. -/
def gather (x : FVec Ideal S4x9x9x4096 .f32) : FVec Ideal S4x9x4096 .f32 :=
  Host.reduceAdd x (constant S_ .f32 0x00000000#32) Gen.reducesTo_S4x9x9x4096_S4x9x4096_d2 Gen.h_S_

theorem conv_apply (x : FVec Ideal S4x9x9x4096 .f32) (w : FVec Ideal S9x9 .f32) (b : Fin 4) (o s : Fin 9) (n : Fin 4096) :
    conv x w (ix4 b o s n) = ∑ k, x (ix4 b k s n) * w (ix2 o k) := by
  pointwise [conv]

theorem wide_apply (v : FVec Ideal S1x9x1x1 .f32) (b : Fin 4) (c s : Fin 9) (n : Fin 4096) : wide v (ix4 b c s n) = v (ix4 0 c 0 0) := by
  pointwise [wide]

theorem tall_apply (v : FVec Ideal S9 .f32) (c : Fin 9) : tall v (ix4 0 c 0 0) = v (ix1 c) := by
  pointwise [tall]

theorem all_apply (v : FVec Ideal S_ .f32) (c : Fin 9) : all v (ix4 0 c 0 0) = v ix0 := by
  pointwise [all]

theorem sums_apply (x : FVec Ideal S4x9x9x4096 .f32) (Y : Act) (hx : ∀ b c s n, x (ix4 b c s n) = Y c (b, s, n)) (c : Fin 9) :
    sums x (ix1 c) = ((∑ i, Y c i : ℝ) : EReal) := by
  refine (total x c).trans ?_
  rw [sum_pts fun b s n => x (ix4 b c s n), ← coe_sum]
  exact Finset.sum_congr rfl fun i _ => hx _ _ _ _

theorem places_apply : places ix0 = ((147456 : ℝ) : EReal) := by
  have e : places ix0 = Ideal.ofBits .f32 0x48100000#32 - (((0 : ℤ) : ℝ) : EReal) := rfl
  rw [e, ofBits_count, ← EReal.coe_sub]
  norm_num

theorem gather_apply (x : FVec Ideal S4x9x9x4096 .f32) (b : Fin 4) (o : Fin 9) (n : Fin 4096) : gather x (ix3 b o n) = ∑ s, x (ix4 b o s n) := by
  pointwise [gather]

variable {x : FVec Ideal S4x9x9x4096 .f32} {Y : Act} (hx : ∀ b c s n, x (ix4 b c s n) = Y c (b, s, n))

include hx in
theorem centred_apply (b : Fin 4) (c s : Fin 9) (n : Fin 4096) : centred x (ix4 b c s n) = ((Y c (b, s, n) - mean (Y c) : ℝ) : EReal) := by
  have e : centred x (ix4 b c s n) = x (ix4 b c s n) - wide (Host.divf (tall (sums x)) (all (constant S_ .f32 0x48100000#32))) (ix4 b c s n) := rfl
  have d : Host.divf (tall (sums x)) (all (constant S_ .f32 0x48100000#32)) (ix4 0 c 0 0) = Ideal.div (tall (sums x) (ix4 0 c 0 0)) (all (constant S_ .f32 0x48100000#32) (ix4 0 c 0 0)) := rfl
  have k : all (constant S_ .f32 0x48100000#32) (ix4 0 c 0 0) = Ideal.ofBits .f32 0x48100000#32 := all_apply _ _
  rw [e, wide_apply, d, k, tall_apply, sums_apply x Y hx, div_count, hx, ← EReal.coe_mul, ← EReal.coe_sub]
  rfl

include hx in
theorem vars_apply (c : Fin 9) : vars x (ix4 0 c 0 0) = ((var (Y c) : ℝ) : EReal) := by
  have hc : ∀ b c s n, mulf (centred x) (centred x) (ix4 b c s n) = (((Y c (b, s, n) - mean (Y c)) * (Y c (b, s, n) - mean (Y c)) : ℝ) : EReal) := fun b c s n => by
    have e : mulf (centred x) (centred x) (ix4 b c s n) = centred x (ix4 b c s n) * centred x (ix4 b c s n) := rfl
    rw [e, centred_apply hx, ← EReal.coe_mul]
  have hp : BitVec.ofBool (decide ((0 : EReal) < places ix0)) = 1#1 := by
    rw [places_apply, decide_eq_true]
    · rfl
    · exact_mod_cast (by norm_num : (0 : ℝ) < 147456)
  have hs : vars x (ix4 0 c 0 0) = Ideal.div (tall (sums (mulf (centred x) (centred x))) (ix4 0 c 0 0)) (all places (ix4 0 c 0 0)) := by
    have hb : broadcastInDim S1x9x1x1 ![] Gen.bcast_S_S1x9x1x1 (cmpf (F := Ideal) .ogt places (constant S_ .f32 0x00000000#32)) (ix4 0 c 0 0) = 1#1 := by
      pointwise []
      exact hp
    exact if_pos hb
  rw [hs, all_apply, places_apply, tall_apply, sums_apply _ (fun c i => (Y c i - mean (Y c)) * (Y c i - mean (Y c))) hc, Ideal.div_coe (by norm_num), ← EReal.coe_mul]
  rfl

include hx in
theorem positive_eq {g be : FVec Ideal S9 .f32} {G : Fin 9 → ℝ} {B : Fin 9 → EReal} (hg : ∀ c, g (ix1 c) = G c) (hb : ∀ c, be (ix1 c) = B c)
    (b : Fin 4) (c s : Fin 9) (n : Fin 4096) : positive x g be (ix4 b c s n) = max (((norm (G c) 0 (Y c) (b, s, n) : ℝ) : EReal) + B c) 0 := by
  have e : positive x g be (ix4 b c s n) = max (Ideal.div (centred x (ix4 b c s n)) (wide (Host.sqrt (addf (vars x) (all (constant S_ .f32 0x3727C5AC#32)))) (ix4 b c s n))
      * wide (tall g) (ix4 b c s n) + wide (tall be) (ix4 b c s n)) (Ideal.ofBits .f32 0x00000000#32) := rfl
  have q : Host.sqrt (addf (vars x) (all (constant S_ .f32 0x3727C5AC#32))) (ix4 0 c 0 0) = Ideal.sqrt (vars x (ix4 0 c 0 0) + all (constant S_ .f32 0x3727C5AC#32) (ix4 0 c 0 0)) := rfl
  have k : all (constant S_ .f32 0x3727C5AC#32) (ix4 0 c 0 0) = Ideal.ofBits .f32 0x3727C5AC#32 := all_apply _ _
  have hp := var_pos (Y c)
  rw [e, wide_apply, wide_apply, wide_apply, q, k, tall_apply, tall_apply, hg, hb, vars_apply hx, ofBits_eps, ← EReal.coe_add, Ideal.sqrt_coe, if_neg (not_lt.2 hp.le),
    centred_apply hx, Ideal.div_coe (Real.sqrt_pos.2 hp).ne', Ideal.ofBits_zero_f32, ← EReal.coe_mul, ← EReal.coe_mul]
  unfold Layers.norm
  rw [add_zero]

include hx in
theorem positive_apply {g be : FVec Ideal S9 .f32} {G B : Fin 9 → ℝ} (hg : ∀ c, g (ix1 c) = G c) (hb : ∀ c, be (ix1 c) = B c)
    (b : Fin 4) (c s : Fin 9) (n : Fin 4096) : positive x g be (ix4 b c s n) = ((max (norm (G c) (B c) (Y c) (b, s, n)) 0 : ℝ) : EReal) := by
  rw [positive_eq hx hg (B := fun c => (B c : EReal)) hb, ← EReal.coe_add, ← EReal.coe_zero, coe_max]
  unfold Layers.norm
  rw [add_zero]

/-- A product with real weights and a bias, -/
theorem mix_apply {w : FVec Ideal S9x9 .f32} {W : Fin 9 → Fin 9 → ℝ} (hw : ∀ o k, w (ix2 o k) = W o k)
    (hx : ∀ b c s n, x (ix4 b c s n) = Y c (b, s, n)) (b : Fin 4) (o s : Fin 9) (n : Fin 4096) : conv x w (ix4 b o s n) = ((∑ k, W o k * Y k (b, s, n) : ℝ) : EReal) := by
  rw [conv_apply, ← coe_sum]
  refine Finset.sum_congr rfl fun k _ => ?_
  rw [hx, hw, ← EReal.coe_mul, mul_comm]

theorem bias_apply {w : FVec Ideal S9x9 .f32} {W : Fin 9 → Fin 9 → ℝ} (hw : ∀ o k, w (ix2 o k) = W o k) {v : FVec Ideal S9 .f32} {B : Fin 9 → ℝ} (hv : ∀ o, v (ix1 o) = B o)
    (hx : ∀ b c s n, x (ix4 b c s n) = Y c (b, s, n)) (b : Fin 4) (o s : Fin 9) (n : Fin 4096) : addf (conv x w) (wide (tall v)) (ix4 b o s n) = ((∑ k, W o k * Y k (b, s, n) + B o : ℝ) : EReal) := by
  have e : addf (conv x w) (wide (tall v)) (ix4 b o s n) = conv x w (ix4 b o s n) + wide (tall v) (ix4 b o s n) := rfl
  rw [e, mix_apply hw hx, wide_apply, tall_apply, hv, ← EReal.coe_add]

/-! ## The whole -/

/-- The reference's result. -/
def result (V0 : Valuation τ sig (Elt Ideal)) : FVec Ideal S4x9x4096 .f32 :=
  gather (addf (conv (positive (res_main_v164 V0) (V0 (Proc.devRef .tc main_arg6)) (V0 (Proc.devRef .tc main_arg7))) (V0 (Proc.devRef .tc main_arg8))) (wide (tall (V0 (Proc.devRef .tc main_arg9)))))

theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v190) = result (StableHlo.launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  run (F := Ideal) m ρ

theorem v164_eq (V0 : Valuation τ sig (Elt Ideal)) :
    res_main_v164 V0 = addf (conv (positive (res_main_v139 V0) (V0 (Proc.devRef .tc main_arg2)) (V0 (Proc.devRef .tc main_arg3))) (V0 (Proc.devRef .tc main_arg4))) (wide (tall (V0 (Proc.devRef .tc main_arg5)))) := rfl

/-- The reference's result is the network's of its features. -/
theorem result_apply (V0 : Valuation τ sig (Elt Ideal)) {X : Act} (hX : ∀ b c s n, featsR V0 (ix4 b c s n) = X c (b, s, n))
    {W1 W2 : Fin 9 → Fin 9 → ℝ} {W3 : Fin 9 → Fin 9 → EReal} {g1 be1 b2 g2 : Fin 9 → ℝ} {be2 b3 : Fin 9 → EReal}
    (h1 : ∀ o k, V0 (Proc.devRef .tc main_arg1) (ix2 o k) = (W1 o k : EReal)) (h2 : ∀ o, V0 (Proc.devRef .tc main_arg2) (ix1 o) = (g1 o : EReal))
    (h3 : ∀ o, V0 (Proc.devRef .tc main_arg3) (ix1 o) = (be1 o : EReal)) (h4 : ∀ o k, V0 (Proc.devRef .tc main_arg4) (ix2 o k) = (W2 o k : EReal))
    (h5 : ∀ o, V0 (Proc.devRef .tc main_arg5) (ix1 o) = (b2 o : EReal)) (h6 : ∀ o, V0 (Proc.devRef .tc main_arg6) (ix1 o) = (g2 o : EReal))
    (h7 : ∀ o, V0 (Proc.devRef .tc main_arg7) (ix1 o) = be2 o) (h8 : ∀ o k, V0 (Proc.devRef .tc main_arg8) (ix2 o k) = W3 o k)
    (h9 : ∀ o, V0 (Proc.devRef .tc main_arg9) (ix1 o) = b3 o) (b : Fin 4) (o : Fin 9) (n : Fin 4096) :
    result V0 (ix3 b o n) = network W1 W2 W3 g1 be1 b2 g2 be2 b3 X b o n := by
  have e1 : ∀ b c s n, res_main_v139 V0 (ix4 b c s n) = ((mix (W1 c) 0 X (b, s, n) : ℝ) : EReal) := fun b c s n => by
    refine (congrFun (v139_eq V0) _).trans ((mix_apply h1 hX b c s n).trans ?_)
    rw [mix, add_zero]
  have e2 : ∀ b c s n, res_main_v164 V0 (ix4 b c s n) = ((mix (W2 c) (b2 c) (layer W1 (fun _ => 0) g1 be1 X) (b, s, n) : ℝ) : EReal) := fun b c s n =>
    (congrFun (v164_eq V0) _).trans (bias_apply (Y := layer W1 (fun _ => 0) g1 be1 X) h4 h5 (positive_apply (Y := fun c => mix (W1 c) 0 X) e1 h2 h3) b c s n)
  refine (gather_apply _ b o n).trans ?_
  unfold network last
  refine Finset.sum_congr rfl fun s _ => ?_
  have e : ∀ (u : FVec Ideal S4x9x9x4096 .f32) (w : FVec Ideal S9x9 .f32) (v : FVec Ideal S9 .f32),
      addf (conv u w) (wide (tall v)) (ix4 b o s n) = conv u w (ix4 b o s n) + wide (tall v) (ix4 b o s n) := fun u w v => rfl
  rw [e, conv_apply, wide_apply, tall_apply, h9]
  refine congrArg (· + b3 o) (Finset.sum_congr rfl fun k _ => ?_)
  rw [h8, positive_eq (Y := fun c => mix (W2 c) (b2 c) (layer W1 (fun _ => 0) g1 be1 X)) e2 h6 h7, mul_comm]
  rfl

end Cert.ReferenceIdeal.Value

end
-- ==== Proof.Values.lean ====
/- The claim about the values: for finite points and layers the kernel's result is the reference's. -/
module

public import proofs.«01_k».proof.Defs
public import proofs.«01_k».proof.Proof.Whole
public import proofs.«01_k».proof.Proof.RefLayers
public import proofs.«01_k».proof.Proof.Gen.Pre_finite

@[expose] public section

set_option maxRecDepth 16384

noncomputable section

namespace Cert.Proof

open Idealize.ShloMosaic Idealize.ShloMosaic.TcCoe Idealize.SL.Sem
open Cert.Umbrella Cert.Layers

/-- A finite element is a real number. -/
theorem real_of_finite {a : EReal} (h1 : Ideal.cmp .olt (max a (-a)) (Ideal.ofBits .f32 0x7F800000#32) = 1#1) : ∃ r : ℝ, a = (r : EReal) := by
  have ht : Ideal.ofBits .f32 0x7F800000#32 = ⊤ := by simp [Ideal.ofBits, Ideal.ieee]
  rw [ht] at h1
  have h2 : max a (-a) < ⊤ := by
    by_contra hn
    have e : Ideal.cmp .olt (max a (-a)) ⊤ = 0#1 := by
      show BitVec.ofBool (decide _) = _
      rw [decide_eq_false hn]
      rfl
    rw [e] at h1
    exact absurd h1 (by decide)
  have h3 := max_lt_iff.1 h2
  refine ⟨a.toReal, (EReal.coe_toReal h3.1.ne fun hb => ?_).symm⟩
  rw [hb] at h3
  exact absurd h3.2 (lt_irrefl _)

/-- Finite arguments are real: the points, the features made of them, the first two layers' weights, their factors, the first shift and the second bias. -/
theorem real_args (m : (ℓ : Loc Cert.KernelIdeal.nD Cert.KernelIdeal.τ Cert.KernelIdeal.sig) → Buf (Elt Ideal) ℓ) (g : Dev Cert.KernelIdeal.nD → PrngReg)
    (hpre : Cert.Pre_KernelIdeal_finite (hPre_finite := Cert.Pre_finite.Gen.facts) m) (c : Dev Cert.KernelIdeal.nD) :
    ∃ X U1 U2 U3 g1 be1 b2 g2 be2 b3, Cert.KernelIdeal.Gen.RealArgs m g c X U1 U2 U3 g1 be1 b2 g2 be2 b3 := by
  obtain ⟨k0, k1, k2, k3, k4, k5, k6⟩ := hpre c
  have hA : ∀ b q n, ∃ r : ℝ, Cert.KernelIdeal.Gen.clouds (Cert.KernelIdeal.Gen.V1 m g) c b q n = r := fun b q n => by
    rw [Cert.KernelIdeal.Gen.clouds_V1]
    exact real_of_finite (congrFun k0 (ix3 b q n))
  choose X hX using fun (k : Fin 9) (i : Pts) => Cert.ReferenceIdeal.Value.feat_real hA i.1 k i.2.1 i.2.2
  choose U1 r1 using fun o k : Fin 9 => real_of_finite (congrFun k1 (ix2 o k))
  choose g1 r2 using fun o : Fin 9 => real_of_finite (congrFun k2 (ix1 o))
  choose be1 r3 using fun o : Fin 9 => real_of_finite (congrFun k3 (ix1 o))
  choose U2 r4 using fun o k : Fin 9 => real_of_finite (congrFun k4 (ix2 o k))
  choose b2 r5 using fun o : Fin 9 => real_of_finite (congrFun k5 (ix1 o))
  choose g2 r6 using fun o : Fin 9 => real_of_finite (congrFun k6 (ix1 o))
  exact ⟨X, U1, U2, _, g1, be1, b2, g2, _, _, hA, fun b k s n => hX k (b, s, n), r1, r2, r3, r4, r5, r6, fun o => rfl, fun o k => rfl, fun o => rfl⟩

theorem algebraic : Cert.algebraic_KernelIdeal_ReferenceIdeal_pre_finite (hKernelIdeal := Cert.KernelIdeal.Gen.facts) (hReferenceIdeal := Cert.ReferenceIdeal.Gen.facts) (hPre_finite := Cert.Pre_finite.Gen.facts) := by
  intro m g m' g' hpre hagree
  refine ⟨fun c => (Cert.KernelIdeal.Gen.dat2 (Cert.KernelIdeal.Gen.V4 m g) c).arrAt 14 Cert.KernelIdeal.cfg2.N, ?_, ?_⟩
  · refine (θ_run Cert.KernelIdeal.defs _ _).mono (fun r h c => ?_) (Cert.KernelIdeal.Gen.run_main (F := Ideal) m g)
    obtain ⟨a0, a1, a2, a3, a4, a5, a6, a7, a8, a9, a⟩ := h.1 c
    exact ⟨a, a0, a1, a2, a3, a4, a5, a6, a7, a8, a9⟩
  · refine (θ_run Cert.ReferenceIdeal.defs _ _).mono (fun r h c => ⟨(h c).1.trans ?_, (h c).2⟩) (Cert.ReferenceIdeal.Value.run_result m' g')
    obtain ⟨X, U1, U2, U3, g1, be1, b2, g2, be2, b3, H⟩ := real_args m g hpre c
    obtain ⟨e0, e1, e2, e3, e4, e5, e6, e7, e8, e9⟩ := hagree c
    have hB : Cert.ReferenceIdeal.Value.clouds (StableHlo.launchContents m' c) = Cert.KernelIdeal.Gen.clouds (Cert.KernelIdeal.Gen.V1 m g) c := by
      funext b q n
      exact (congrFun e0 _).trans (Cert.KernelIdeal.Gen.clouds_V1 m g c b q n).symm
    have hF : ∀ b k s n, Cert.ReferenceIdeal.Value.featsR (StableHlo.launchContents m' c) (ix4 b k s n) = X k (b, s, n) := fun b k s n => by
      rw [Cert.ReferenceIdeal.Value.feats_apply _ (hB ▸ H.points), hB]
      exact H.feats b k s n
    refine Eq.trans ?_ (Cert.KernelIdeal.Gen.whole_result H).symm
    funext i
    rw [eq_ix3 i]
    exact Cert.ReferenceIdeal.Value.result_apply (StableHlo.launchContents m' c) hF (fun o k => (congrFun e1 _).trans (H.h1 o k)) (fun o => (congrFun e2 _).trans (H.h2 o))
      (fun o => (congrFun e3 _).trans (H.h3 o)) (fun o k => (congrFun e4 _).trans (H.h4 o k)) (fun o => (congrFun e5 _).trans (H.h5 o))
      (fun o => (congrFun e6 _).trans (H.h6 o)) (fun o => (congrFun e7 _).trans (H.h7 o)) (fun o k => (congrFun e8 _).trans (H.h8 o k))
      (fun o => (congrFun e9 _).trans (H.h9 o)) (i 0) (i 1) (i 2)

end Cert.Proof

end
-- ==== Proof.lean ====
module

public import proofs.«01_k».proof.Defs
public import proofs.«01_k».proof.Proof.Frames
public import proofs.«01_k».proof.Proof.Values
public import proofs.«01_k».proof.Proof.Gen.Pre_finite

@[expose] public section

noncomputable section

namespace Cert.Proof

theorem claim : Cert.Claim :=
  ⟨Cert.Kernel.Gen.facts, Cert.KernelIdeal.Gen.facts, Cert.ReferenceIdeal.Gen.facts, Cert.Pre_finite.Gen.facts,
    frame_kernel, frame_ideal, fun m ρ _ => frame_ideal m ρ trivial, frame_reference, fun m ρ _ => frame_reference m ρ trivial,
    preserves, algebraic⟩

end Cert.Proof

end
